-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
-- ==== Pre_within_clip_KernelIdeal.lean ====
abbrev S256x4096 : Shape := ⟨2, ![256, 4096]⟩
abbrev S4096x2048 : Shape := ⟨2, ![4096, 2048]⟩
abbrev S1 : Shape := ⟨1, ![1]⟩
abbrev S256x2048 : Shape := ⟨2, ![256, 2048]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S256x2048_0_1 : S1x1.BroadcastsInDim S256x2048 (![0, 1] : Fin 2 → Fin S256x2048.rank)
  bcast_S_S256x2048 : S_.BroadcastsInDim S256x2048 (![] : Fin 0 → Fin S256x2048.rank)
  reducesTo_S256x2048_S_d0_1 : S256x2048.ReducesTo [0, 1] S_
  h_S_ : 0 < S_.numel
  dot_S256x4096_S4096x2048_S256x2048_1_0_0_1_n_n_wf : DotDims.WF S256x4096 S4096x2048 S256x2048 [1] [0] [0] [1] [] []

variable [Facts]

def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf
def fn {F : FTy → Type} [FloatOps F] (main_arg0 : FVec F S256x4096 .f32) (main_arg1 : FVec F S4096x2048 .f32) (main_arg2 : FVec F S1 .f32) (main_arg3 : FVec F S1 .f32) : IVec S_ 1 :=
  let main_v0 : FVec F S256x2048 .f32 := (fun l r => Host.dotGeneral dot_S256x4096_S4096x2048_S256x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S256x2048 .f32 := broadcastInDim S256x2048 ![0, 1] bcast_S1x1_S256x2048_0_1 main_v2
  let main_v4 : FVec F S256x2048 .f32 := mulf main_v0 main_v3
  let main_v5 : FVec F S256x2048 .f32 := Host.absf main_v4
  let main_cst : FVec F S_ .f32 := constant S_ .f32 0x42700000#32
  let main_v6 : FVec F S256x2048 .f32 := broadcastInDim S256x2048 ![] bcast_S_S256x2048 main_cst
  let main_v7 : IVec S256x2048 1 := cmpf .ole main_v5 main_v6
  let main_c : IVec S_ 1 := constantI S_ 1 1#1
  let main_v8 : IVec S_ 1 := (fun x v => Host.reduce IntOp.andi x v reducesTo_S256x2048_S_d0_1 h_S_) main_v7 main_c
  main_v8
-- ==== Pre_within_clip_ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  reducesTo_S4096x2048_S_d0_1 : S4096x2048.ReducesTo [0, 1] S_
  h_S_ : 0 < S_.numel
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S_ 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_v5 : FVec F S4096x2048 .f32 := Host.absf main_v4
  let main_cst : FVec F S_ .f32 := constant S_ .f32 0x42700000#32
  let main_v6 : FVec F S4096x2048 .f32 := broadcastInDim S4096x2048 ![] bcast_S_S4096x2048 main_cst
  let main_v7 : IVec S4096x2048 1 := cmpf .ole main_v5 main_v6
  let main_c : IVec S_ 1 := constantI S_ 1 1#1
  let main_v8 : IVec S_ 1 := (fun x v => Host.reduce IntOp.andi x v reducesTo_S4096x2048_S_d0_1 h_S_) main_v7 main_c
  main_v8
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S2x4096x512 : Shape := ⟨3, ![2, 4096, 512]⟩
abbrev S16x256x128 : Shape := ⟨3, ![16, 256, 128]⟩
abbrev S_ : Shape := ⟨0, ![]⟩
abbrev S2 : Shape := ⟨1, ![2]⟩
abbrev S16 : Shape := ⟨1, ![16]⟩
abbrev S1x4096x512 : Shape := ⟨3, ![1, 4096, 512]⟩
abbrev S4096x512 : Shape := ⟨2, ![4096, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 5
  | .vmem => 6
  | .smem => 2
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S4096x128, .f32⟩
  | .local _ .vmem, ⟨1, _⟩ => ⟨S256x4096, .f32⟩
  | .local _ .vmem, ⟨2, _⟩ => ⟨S256x4096, .bf16⟩
  | .local _ .vmem, ⟨3, _⟩ => ⟨S2x4096x512, .f32⟩
  | .local _ .vmem, ⟨4, _⟩ => ⟨S16x256x128, .bf16⟩
  | .local _ .vmem, ⟨5, _⟩ => ⟨S16x256x128, .bf16⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v21 : BitVec 32 := Scalar.addi v2 c1_i32_5
  let c16_i32_6 : BitVec 32 := 16#32
  let v22 : BitVec 32 := Scalar.remsi v21 c16_i32_6
  let c1_i32_8 : BitVec 32 := 1#32
  let v23 : BitVec 32 := Scalar.muli v22 c1_i32_8
  let v24 : BitVec 32 := Scalar.addi c0_i32_9 v23
  v24.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v25 : BitVec 32 := Scalar.addi v2 c2_i32
  let c16_i32_10 : BitVec 32 := 16#32
  let v26 : BitVec 32 := Scalar.remsi v25 c16_i32_10
  let c1_i32_12 : BitVec 32 := 1#32
  let v27 : BitVec 32 := Scalar.muli v26 c1_i32_12
  let v28 : BitVec 32 := Scalar.addi c0_i32_13 v27
  v28.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v29 : BitVec 32 := Scalar.addi v2 c3_i32
  let c16_i32_14 : BitVec 32 := 16#32
  let v30 : BitVec 32 := Scalar.remsi v29 c16_i32_14
  let c1_i32_16 : BitVec 32 := 1#32
  let v31 : BitVec 32 := Scalar.muli v30 c1_i32_16
  let v32 : BitVec 32 := Scalar.addi c0_i32_17 v31
  v32.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_18 : BitVec 32 := 4#32
  let v33 : BitVec 32 := Scalar.addi v2 c4_i32_18
  let c16_i32_19 : BitVec 32 := 16#32
  let v34 : BitVec 32 := Scalar.remsi v33 c16_i32_19
  let c1_i32_21 : BitVec 32 := 1#32
  let v35 : BitVec 32 := Scalar.muli v34 c1_i32_21
  let v36 : BitVec 32 := Scalar.addi c0_i32_22 v35
  v36.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v37 : BitVec 32 := Scalar.addi v2 c5_i32
  let c16_i32_23 : BitVec 32 := 16#32
  let v38 : BitVec 32 := Scalar.remsi v37 c16_i32_23
  let c1_i32_25 : BitVec 32 := 1#32
  let v39 : BitVec 32 := Scalar.muli v38 c1_i32_25
  let v40 : BitVec 32 := Scalar.addi c0_i32_26 v39
  v40.toNat
def k0_dev6 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v41 : BitVec 32 := Scalar.addi v2 c6_i32
  let c16_i32_27 : BitVec 32 := 16#32
  let v42 : BitVec 32 := Scalar.remsi v41 c16_i32_27
  let c1_i32_29 : BitVec 32 := 1#32
  let v43 : BitVec 32 := Scalar.muli v42 c1_i32_29
  let v44 : BitVec 32 := Scalar.addi c0_i32_30 v43
  v44.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v45 : BitVec 32 := Scalar.addi v2 c7_i32
  let c16_i32_31 : BitVec 32 := 16#32
  let v46 : BitVec 32 := Scalar.remsi v45 c16_i32_31
  let c1_i32_33 : BitVec 32 := 1#32
  let v47 : BitVec 32 := Scalar.muli v46 c1_i32_33
  let v48 : BitVec 32 := Scalar.addi c0_i32_34 v47
  v48.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v49 : BitVec 32 := Scalar.addi v2 c8_i32
  let c16_i32_35 : BitVec 32 := 16#32
  let v50 : BitVec 32 := Scalar.remsi v49 c16_i32_35
  let c1_i32_37 : BitVec 32 := 1#32
  let v51 : BitVec 32 := Scalar.muli v50 c1_i32_37
  let v52 : BitVec 32 := Scalar.addi c0_i32_38 v51
  v52.toNat
def k0_dev9 (d0 : Dev nD) : Nat :=
  let c0_i32_42 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v53 : BitVec 32 := Scalar.addi v2 c9_i32
  let c16_i32_39 : BitVec 32 := 16#32
  let v54 : BitVec 32 := Scalar.remsi v53 c16_i32_39
  let c1_i32_41 : BitVec 32 := 1#32
  let v55 : BitVec 32 := Scalar.muli v54 c1_i32_41
  let v56 : BitVec 32 := Scalar.addi c0_i32_42 v55
  v56.toNat
def k0_dev10 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v57 : BitVec 32 := Scalar.addi v2 c10_i32
  let c16_i32_43 : BitVec 32 := 16#32
  let v58 : BitVec 32 := Scalar.remsi v57 c16_i32_43
  let c1_i32_45 : BitVec 32 := 1#32
  let v59 : BitVec 32 := Scalar.muli v58 c1_i32_45
  let v60 : BitVec 32 := Scalar.addi c0_i32_46 v59
  v60.toNat
def k0_dev11 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v61 : BitVec 32 := Scalar.addi v2 c11_i32
  let c16_i32_47 : BitVec 32 := 16#32
  let v62 : BitVec 32 := Scalar.remsi v61 c16_i32_47
  let c1_i32_49 : BitVec 32 := 1#32
  let v63 : BitVec 32 := Scalar.muli v62 c1_i32_49
  let v64 : BitVec 32 := Scalar.addi c0_i32_50 v63
  v64.toNat
def k0_dev12 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v65 : BitVec 32 := Scalar.addi v2 c12_i32
  let c16_i32_51 : BitVec 32 := 16#32
  let v66 : BitVec 32 := Scalar.remsi v65 c16_i32_51
  let c1_i32_53 : BitVec 32 := 1#32
  let v67 : BitVec 32 := Scalar.muli v66 c1_i32_53
  let v68 : BitVec 32 := Scalar.addi c0_i32_54 v67
  v68.toNat
def k0_dev13 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v69 : BitVec 32 := Scalar.addi v2 c13_i32
  let c16_i32_55 : BitVec 32 := 16#32
  let v70 : BitVec 32 := Scalar.remsi v69 c16_i32_55
  let c1_i32_57 : BitVec 32 := 1#32
  let v71 : BitVec 32 := Scalar.muli v70 c1_i32_57
  let v72 : BitVec 32 := Scalar.addi c0_i32_58 v71
  v72.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v73 : BitVec 32 := Scalar.addi v2 c14_i32
  let c16_i32_59 : BitVec 32 := 16#32
  let v74 : BitVec 32 := Scalar.remsi v73 c16_i32_59
  let c1_i32_61 : BitVec 32 := 1#32
  let v75 : BitVec 32 := Scalar.muli v74 c1_i32_61
  let v76 : BitVec 32 := Scalar.addi c0_i32_62 v75
  v76.toNat
def k0_dev15 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v77 : BitVec 32 := Scalar.addi v2 c15_i32
  let c16_i32_63 : BitVec 32 := 16#32
  let v78 : BitVec 32 := Scalar.remsi v77 c16_i32_63
  let c1_i32_65 : BitVec 32 := 1#32
  let v79 : BitVec 32 := Scalar.muli v78 c1_i32_65
  let v80 : BitVec 32 := Scalar.addi c0_i32_66 v79
  v80.toNat
def k0_off1 (d0 : Dev nD) (c0_i32_67 : BitVec 32) : Fin 2 → Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v81 : BitVec 32 := Scalar.addi v19 c0_i32_67
  let c4_i32_68 : BitVec 32 := 4#32
  let v82 : BitVec 32 := Scalar.remsi v81 c4_i32_68
  let c512_i32 : BitVec 32 := 512#32
  let v83 : BitVec 32 := Scalar.muli v82 c512_i32
  ![0, v83.toNat]
def k0_off2 (d0 : Dev nD) (c0_i32_100 : BitVec 32) (c0_i32_103 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let v125 : BitVec 32 := Scalar.addi v124 c0_i32_103
  let v128 : Index := Scalar.indexCast v125
  let c0_104 : Index := 0#32
  let c0_105 : Index := 0#32
  ![v128.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let v132 : BitVec 1 := Scalar.cmpi .eq v125 v2
  let v133 : BitVec 32 := Scalar.extui v132
  let c0_i32_106 : BitVec 32 := 0#32
  let v134 : BitVec 1 := Scalar.cmpi .ne v133 c0_i32_106
  v134

def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let v143 : BitVec 1 := Scalar.cmpi .eq v136 v2
  let v144 : BitVec 32 := Scalar.extui v143
  let c0_i32_111 : BitVec 32 := 0#32
  let v145 : BitVec 1 := Scalar.cmpi .ne v144 c0_i32_111
  v145

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let v154 : BitVec 1 := Scalar.cmpi .eq v147 v2
  let v155 : BitVec 32 := Scalar.extui v154
  let c0_i32_116 : BitVec 32 := 0#32
  let v156 : BitVec 1 := Scalar.cmpi .ne v155 c0_i32_116
  v156

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let v165 : BitVec 1 := Scalar.cmpi .eq v158 v2
  let v166 : BitVec 32 := Scalar.extui v165
  let c0_i32_121 : BitVec 32 := 0#32
  let v167 : BitVec 1 := Scalar.cmpi .ne v166 c0_i32_121
  v167

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let v203 : BitVec 1 := Scalar.cmpi .eq v196 v2
  let v204 : BitVec 32 := Scalar.extui v203
  let c0_i32_149 : BitVec 32 := 0#32
  let v205 : BitVec 1 := Scalar.cmpi .ne v204 c0_i32_149
  v205

def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let v214 : BitVec 1 := Scalar.cmpi .eq v207 v2
  let v215 : BitVec 32 := Scalar.extui v214
  let c0_i32_154 : BitVec 32 := 0#32
  let v216 : BitVec 1 := Scalar.cmpi .ne v215 c0_i32_154
  v216

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let v225 : BitVec 1 := Scalar.cmpi .eq v218 v2
  let v226 : BitVec 32 := Scalar.extui v225
  let c0_i32_159 : BitVec 32 := 0#32
  let v227 : BitVec 1 := Scalar.cmpi .ne v226 c0_i32_159
  v227

def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let v236 : BitVec 1 := Scalar.cmpi .eq v229 v2
  let v237 : BitVec 32 := Scalar.extui v236
  let c0_i32_164 : BitVec 32 := 0#32
  let v238 : BitVec 1 := Scalar.cmpi .ne v237 c0_i32_164
  v238

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let v239 : BitVec 1 := Scalar.cmpi .ne v125 v2
  let v240 : BitVec 32 := Scalar.extui v239
  let c0_i32_166 : BitVec 32 := 0#32
  let v241 : BitVec 1 := Scalar.cmpi .ne v240 c0_i32_166
  v241

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  ![v125.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let c0_i32_491 : BitVec 32 := 0#32
  let c0_i32_492 : BitVec 32 := 0#32
  ![v125.toNat, 0, 0]
def k0_dev16 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let c1_i32_487 : BitVec 32 := 1#32
  let v739 : BitVec 32 := Scalar.muli v125 c1_i32_487
  let v740 : BitVec 32 := Scalar.addi c0_i32_488 v739
  v740.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let v242 : BitVec 1 := Scalar.cmpi .ne v136 v2
  let v243 : BitVec 32 := Scalar.extui v242
  let c0_i32_167 : BitVec 32 := 0#32
  let v244 : BitVec 1 := Scalar.cmpi .ne v243 c0_i32_167
  v244

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  ![v136.toNat]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let c0_i32_491 : BitVec 32 := 0#32
  let c0_i32_492 : BitVec 32 := 0#32
  ![v136.toNat, 0, 0]
def k0_dev17 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let c1_i32_487 : BitVec 32 := 1#32
  let v739 : BitVec 32 := Scalar.muli v136 c1_i32_487
  let v740 : BitVec 32 := Scalar.addi c0_i32_488 v739
  v740.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let v245 : BitVec 1 := Scalar.cmpi .ne v147 v2
  let v246 : BitVec 32 := Scalar.extui v245
  let c0_i32_168 : BitVec 32 := 0#32
  let v247 : BitVec 1 := Scalar.cmpi .ne v246 c0_i32_168
  v247

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  ![v147.toNat]
def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let c0_i32_491 : BitVec 32 := 0#32
  let c0_i32_492 : BitVec 32 := 0#32
  ![v147.toNat, 0, 0]
def k0_dev18 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let c1_i32_487 : BitVec 32 := 1#32
  let v739 : BitVec 32 := Scalar.muli v147 c1_i32_487
  let v740 : BitVec 32 := Scalar.addi c0_i32_488 v739
  v740.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let v248 : BitVec 1 := Scalar.cmpi .ne v158 v2
  let v249 : BitVec 32 := Scalar.extui v248
  let c0_i32_169 : BitVec 32 := 0#32
  let v250 : BitVec 1 := Scalar.cmpi .ne v249 c0_i32_169
  v250

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  ![v158.toNat]
def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let c0_i32_491 : BitVec 32 := 0#32
  let c0_i32_492 : BitVec 32 := 0#32
  ![v158.toNat, 0, 0]
def k0_dev19 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let c1_i32_487 : BitVec 32 := 1#32
  let v739 : BitVec 32 := Scalar.muli v158 c1_i32_487
  let v740 : BitVec 32 := Scalar.addi c0_i32_488 v739
  v740.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let v251 : BitVec 1 := Scalar.cmpi .ne v196 v2
  let v252 : BitVec 32 := Scalar.extui v251
  let c0_i32_170 : BitVec 32 := 0#32
  let v253 : BitVec 1 := Scalar.cmpi .ne v252 c0_i32_170
  v253

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  ![v196.toNat]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let c0_i32_491 : BitVec 32 := 0#32
  let c0_i32_492 : BitVec 32 := 0#32
  ![v196.toNat, 0, 0]
def k0_dev20 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let c1_i32_487 : BitVec 32 := 1#32
  let v739 : BitVec 32 := Scalar.muli v196 c1_i32_487
  let v740 : BitVec 32 := Scalar.addi c0_i32_488 v739
  v740.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let v254 : BitVec 1 := Scalar.cmpi .ne v207 v2
  let v255 : BitVec 32 := Scalar.extui v254
  let c0_i32_171 : BitVec 32 := 0#32
  let v256 : BitVec 1 := Scalar.cmpi .ne v255 c0_i32_171
  v256

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  ![v207.toNat]
def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let c0_i32_491 : BitVec 32 := 0#32
  let c0_i32_492 : BitVec 32 := 0#32
  ![v207.toNat, 0, 0]
def k0_dev21 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let c1_i32_487 : BitVec 32 := 1#32
  let v739 : BitVec 32 := Scalar.muli v207 c1_i32_487
  let v740 : BitVec 32 := Scalar.addi c0_i32_488 v739
  v740.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let v257 : BitVec 1 := Scalar.cmpi .ne v218 v2
  let v258 : BitVec 32 := Scalar.extui v257
  let c0_i32_172 : BitVec 32 := 0#32
  let v259 : BitVec 1 := Scalar.cmpi .ne v258 c0_i32_172
  v259

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  ![v218.toNat]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let c0_i32_491 : BitVec 32 := 0#32
  let c0_i32_492 : BitVec 32 := 0#32
  ![v218.toNat, 0, 0]
def k0_dev22 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let c1_i32_487 : BitVec 32 := 1#32
  let v739 : BitVec 32 := Scalar.muli v218 c1_i32_487
  let v740 : BitVec 32 := Scalar.addi c0_i32_488 v739
  v740.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let v260 : BitVec 1 := Scalar.cmpi .ne v229 v2
  let v261 : BitVec 32 := Scalar.extui v260
  let c0_i32_173 : BitVec 32 := 0#32
  let v262 : BitVec 1 := Scalar.cmpi .ne v261 c0_i32_173
  v262

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  ![v229.toNat]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let c0_i32_491 : BitVec 32 := 0#32
  let c0_i32_492 : BitVec 32 := 0#32
  ![v229.toNat, 0, 0]
def k0_dev23 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let c1_i32_487 : BitVec 32 := 1#32
  let v739 : BitVec 32 := Scalar.muli v229 c1_i32_487
  let v740 : BitVec 32 := Scalar.addi c0_i32_488 v739
  v740.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let v298 : BitVec 1 := Scalar.cmpi .eq v291 v2
  let v299 : BitVec 32 := Scalar.extui v298
  let c0_i32_202 : BitVec 32 := 0#32
  let v300 : BitVec 1 := Scalar.cmpi .ne v299 c0_i32_202
  v300

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let v309 : BitVec 1 := Scalar.cmpi .eq v302 v2
  let v310 : BitVec 32 := Scalar.extui v309
  let c0_i32_207 : BitVec 32 := 0#32
  let v311 : BitVec 1 := Scalar.cmpi .ne v310 c0_i32_207
  v311

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let v320 : BitVec 1 := Scalar.cmpi .eq v313 v2
  let v321 : BitVec 32 := Scalar.extui v320
  let c0_i32_212 : BitVec 32 := 0#32
  let v322 : BitVec 1 := Scalar.cmpi .ne v321 c0_i32_212
  v322

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let v331 : BitVec 1 := Scalar.cmpi .eq v324 v2
  let v332 : BitVec 32 := Scalar.extui v331
  let c0_i32_217 : BitVec 32 := 0#32
  let v333 : BitVec 1 := Scalar.cmpi .ne v332 c0_i32_217
  v333

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let v334 : BitVec 1 := Scalar.cmpi .ne v291 v2
  let v335 : BitVec 32 := Scalar.extui v334
  let c0_i32_218 : BitVec 32 := 0#32
  let v336 : BitVec 1 := Scalar.cmpi .ne v335 c0_i32_218
  v336

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  ![v291.toNat]
def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let c0_i32_491 : BitVec 32 := 0#32
  let c0_i32_492 : BitVec 32 := 0#32
  ![v291.toNat, 0, 0]
def k0_dev24 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let c1_i32_487 : BitVec 32 := 1#32
  let v739 : BitVec 32 := Scalar.muli v291 c1_i32_487
  let v740 : BitVec 32 := Scalar.addi c0_i32_488 v739
  v740.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let v337 : BitVec 1 := Scalar.cmpi .ne v302 v2
  let v338 : BitVec 32 := Scalar.extui v337
  let c0_i32_219 : BitVec 32 := 0#32
  let v339 : BitVec 1 := Scalar.cmpi .ne v338 c0_i32_219
  v339

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  ![v302.toNat]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let c0_i32_491 : BitVec 32 := 0#32
  let c0_i32_492 : BitVec 32 := 0#32
  ![v302.toNat, 0, 0]
def k0_dev25 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let c1_i32_487 : BitVec 32 := 1#32
  let v739 : BitVec 32 := Scalar.muli v302 c1_i32_487
  let v740 : BitVec 32 := Scalar.addi c0_i32_488 v739
  v740.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let v340 : BitVec 1 := Scalar.cmpi .ne v313 v2
  let v341 : BitVec 32 := Scalar.extui v340
  let c0_i32_220 : BitVec 32 := 0#32
  let v342 : BitVec 1 := Scalar.cmpi .ne v341 c0_i32_220
  v342

def k0_off55 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  ![v313.toNat]
def k0_off56 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let c0_i32_491 : BitVec 32 := 0#32
  let c0_i32_492 : BitVec 32 := 0#32
  ![v313.toNat, 0, 0]
def k0_dev26 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let c1_i32_487 : BitVec 32 := 1#32
  let v739 : BitVec 32 := Scalar.muli v313 c1_i32_487
  let v740 : BitVec 32 := Scalar.addi c0_i32_488 v739
  v740.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let v343 : BitVec 1 := Scalar.cmpi .ne v324 v2
  let v344 : BitVec 32 := Scalar.extui v343
  let c0_i32_221 : BitVec 32 := 0#32
  let v345 : BitVec 1 := Scalar.cmpi .ne v344 c0_i32_221
  v345

def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  ![v324.toNat]
def k0_off60 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let c0_i32_491 : BitVec 32 := 0#32
  let c0_i32_492 : BitVec 32 := 0#32
  ![v324.toNat, 0, 0]
def k0_dev27 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let c1_i32_487 : BitVec 32 := 1#32
  let v739 : BitVec 32 := Scalar.muli v324 c1_i32_487
  let v740 : BitVec 32 := Scalar.addi c0_i32_488 v739
  v740.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let v373 : BitVec 1 := Scalar.cmpi .eq v366 v2
  let v374 : BitVec 32 := Scalar.extui v373
  let c0_i32_242 : BitVec 32 := 0#32
  let v375 : BitVec 1 := Scalar.cmpi .ne v374 c0_i32_242
  v375

def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let v384 : BitVec 1 := Scalar.cmpi .eq v377 v2
  let v385 : BitVec 32 := Scalar.extui v384
  let c0_i32_247 : BitVec 32 := 0#32
  let v386 : BitVec 1 := Scalar.cmpi .ne v385 c0_i32_247
  v386

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let v395 : BitVec 1 := Scalar.cmpi .eq v388 v2
  let v396 : BitVec 32 := Scalar.extui v395
  let c0_i32_252 : BitVec 32 := 0#32
  let v397 : BitVec 1 := Scalar.cmpi .ne v396 c0_i32_252
  v397

def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let v406 : BitVec 1 := Scalar.cmpi .eq v399 v2
  let v407 : BitVec 32 := Scalar.extui v406
  let c0_i32_257 : BitVec 32 := 0#32
  let v408 : BitVec 1 := Scalar.cmpi .ne v407 c0_i32_257
  v408

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_487 : BitVec 32 := 256#32
  let v739 : BitVec 32 := Scalar.muli v2 c256_i32_487
  let v740 : Index := Scalar.indexCast v739
  let c0_488 : Index := 0#32
  ![v740.toNat, 0]
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let v409 : BitVec 1 := Scalar.cmpi .ne v366 v2
  let v410 : BitVec 32 := Scalar.extui v409
  let c0_i32_258 : BitVec 32 := 0#32
  let v411 : BitVec 1 := Scalar.cmpi .ne v410 c0_i32_258
  v411

def k0_off67 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  ![v366.toNat]
def k0_off68 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let c0_i32_491 : BitVec 32 := 0#32
  let c0_i32_492 : BitVec 32 := 0#32
  ![v366.toNat, 0, 0]
def k0_dev28 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let c1_i32_487 : BitVec 32 := 1#32
  let v739 : BitVec 32 := Scalar.muli v366 c1_i32_487
  let v740 : BitVec 32 := Scalar.addi c0_i32_488 v739
  v740.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let v412 : BitVec 1 := Scalar.cmpi .ne v377 v2
  let v413 : BitVec 32 := Scalar.extui v412
  let c0_i32_259 : BitVec 32 := 0#32
  let v414 : BitVec 1 := Scalar.cmpi .ne v413 c0_i32_259
  v414

def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  ![v377.toNat]
def k0_off72 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let c0_i32_491 : BitVec 32 := 0#32
  let c0_i32_492 : BitVec 32 := 0#32
  ![v377.toNat, 0, 0]
def k0_dev29 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let c1_i32_487 : BitVec 32 := 1#32
  let v739 : BitVec 32 := Scalar.muli v377 c1_i32_487
  let v740 : BitVec 32 := Scalar.addi c0_i32_488 v739
  v740.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let v415 : BitVec 1 := Scalar.cmpi .ne v388 v2
  let v416 : BitVec 32 := Scalar.extui v415
  let c0_i32_260 : BitVec 32 := 0#32
  let v417 : BitVec 1 := Scalar.cmpi .ne v416 c0_i32_260
  v417

def k0_off75 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  ![v388.toNat]
def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off77 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let c0_i32_491 : BitVec 32 := 0#32
  let c0_i32_492 : BitVec 32 := 0#32
  ![v388.toNat, 0, 0]
def k0_dev30 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let c1_i32_487 : BitVec 32 := 1#32
  let v739 : BitVec 32 := Scalar.muli v388 c1_i32_487
  let v740 : BitVec 32 := Scalar.addi c0_i32_488 v739
  v740.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let v418 : BitVec 1 := Scalar.cmpi .ne v399 v2
  let v419 : BitVec 32 := Scalar.extui v418
  let c0_i32_261 : BitVec 32 := 0#32
  let v420 : BitVec 1 := Scalar.cmpi .ne v419 c0_i32_261
  v420

def k0_off79 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  ![v399.toNat]
def k0_off80 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_489 : BitVec 32 := 0#32
  let c0_i32_490 : BitVec 32 := 0#32
  ![v2.toNat, 0, 0]
def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let c0_i32_491 : BitVec 32 := 0#32
  let c0_i32_492 : BitVec 32 := 0#32
  ![v399.toNat, 0, 0]
def k0_dev31 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let c1_i32_487 : BitVec 32 := 1#32
  let v739 : BitVec 32 := Scalar.muli v399 c1_i32_487
  let v740 : BitVec 32 := Scalar.addi c0_i32_488 v739
  v740.toNat
def k0_off83 (d0 : Dev nD) (c1_i32_262 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v421 : BitVec 32 := Scalar.subi v2 c1_i32_262
  let c16_i32_263 : BitVec 32 := 16#32
  let v422 : BitVec 32 := Scalar.addi v421 c16_i32_263
  let c16_i32_264 : BitVec 32 := 16#32
  let v423 : BitVec 32 := Scalar.remsi v422 c16_i32_264
  ![v423.toNat]
def k0_off84 (d0 : Dev nD) (c1_i32_262 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v421 : BitVec 32 := Scalar.subi v2 c1_i32_262
  let c16_i32_263 : BitVec 32 := 16#32
  let v422 : BitVec 32 := Scalar.addi v421 c16_i32_263
  let c16_i32_264 : BitVec 32 := 16#32
  let v423 : BitVec 32 := Scalar.remsi v422 c16_i32_264
  let c0_i32_268 : BitVec 32 := 0#32
  let c0_i32_269 : BitVec 32 := 0#32
  ![v423.toNat, 0, 0]
def k0_off85 (d0 : Dev nD) (c1_i32_262 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v421 : BitVec 32 := Scalar.subi v2 c1_i32_262
  let c16_i32_263 : BitVec 32 := 16#32
  let v422 : BitVec 32 := Scalar.addi v421 c16_i32_263
  let c16_i32_264 : BitVec 32 := 16#32
  let v423 : BitVec 32 := Scalar.remsi v422 c16_i32_264
  let v432 : Index := Scalar.indexCast v423
  let c0_272 : Index := 0#32
  let c0_273 : Index := 0#32
  ![v432.toNat, 0, 0]
def k0_off86 (d0 : Dev nD) (c1_i32_262 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v421 : BitVec 32 := Scalar.subi v2 c1_i32_262
  let c16_i32_263 : BitVec 32 := 16#32
  let v422 : BitVec 32 := Scalar.addi v421 c16_i32_263
  let c16_i32_264 : BitVec 32 := 16#32
  let v423 : BitVec 32 := Scalar.remsi v422 c16_i32_264
  let c256_i32 : BitVec 32 := 256#32
  let v436 : BitVec 32 := Scalar.muli v423 c256_i32
  let v437 : Index := Scalar.indexCast v436
  let c0_274 : Index := 0#32
  ![v437.toNat, 0]
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let v691 : BitVec 1 := Scalar.cmpi .ne v125 v2
  let v692 : BitVec 32 := Scalar.extui v691
  let c0_i32_471 : BitVec 32 := 0#32
  let v693 : BitVec 1 := Scalar.cmpi .ne v692 c0_i32_471
  v693

def k0_off87 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  ![v125.toNat]
def k0_off88 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_102 : BitVec 32 := 4#32
  let v124 : BitVec 32 := Scalar.muli v123 c4_i32_102
  let c0_i32_103 : BitVec 32 := 0#32
  let v125 : BitVec 32 := Scalar.addi v124 c0_i32_103
  let c0_i32_488 : BitVec 32 := 0#32
  let c0_i32_489 : BitVec 32 := 0#32
  ![v125.toNat, 0, 0]
def k0_off89 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let v694 : BitVec 1 := Scalar.cmpi .ne v136 v2
  let v695 : BitVec 32 := Scalar.extui v694
  let c0_i32_472 : BitVec 32 := 0#32
  let v696 : BitVec 1 := Scalar.cmpi .ne v695 c0_i32_472
  v696

def k0_off90 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  ![v136.toNat]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_107 : BitVec 32 := 4#32
  let v135 : BitVec 32 := Scalar.muli v123 c4_i32_107
  let c1_i32_108 : BitVec 32 := 1#32
  let v136 : BitVec 32 := Scalar.addi v135 c1_i32_108
  let c0_i32_488 : BitVec 32 := 0#32
  let c0_i32_489 : BitVec 32 := 0#32
  ![v136.toNat, 0, 0]
def k0_off92 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let v697 : BitVec 1 := Scalar.cmpi .ne v147 v2
  let v698 : BitVec 32 := Scalar.extui v697
  let c0_i32_473 : BitVec 32 := 0#32
  let v699 : BitVec 1 := Scalar.cmpi .ne v698 c0_i32_473
  v699

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  ![v147.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_112 : BitVec 32 := 4#32
  let v146 : BitVec 32 := Scalar.muli v123 c4_i32_112
  let c2_i32_113 : BitVec 32 := 2#32
  let v147 : BitVec 32 := Scalar.addi v146 c2_i32_113
  let c0_i32_488 : BitVec 32 := 0#32
  let c0_i32_489 : BitVec 32 := 0#32
  ![v147.toNat, 0, 0]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let v700 : BitVec 1 := Scalar.cmpi .ne v158 v2
  let v701 : BitVec 32 := Scalar.extui v700
  let c0_i32_474 : BitVec 32 := 0#32
  let v702 : BitVec 1 := Scalar.cmpi .ne v701 c0_i32_474
  v702

def k0_off96 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  ![v158.toNat]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_100 : BitVec 32 := 0#32
  let v122 : BitVec 32 := Scalar.addi v19 c0_i32_100
  let c4_i32_101 : BitVec 32 := 4#32
  let v123 : BitVec 32 := Scalar.remsi v122 c4_i32_101
  let c4_i32_117 : BitVec 32 := 4#32
  let v157 : BitVec 32 := Scalar.muli v123 c4_i32_117
  let c3_i32_118 : BitVec 32 := 3#32
  let v158 : BitVec 32 := Scalar.addi v157 c3_i32_118
  let c0_i32_488 : BitVec 32 := 0#32
  let c0_i32_489 : BitVec 32 := 0#32
  ![v158.toNat, 0, 0]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let v703 : BitVec 1 := Scalar.cmpi .ne v196 v2
  let v704 : BitVec 32 := Scalar.extui v703
  let c0_i32_475 : BitVec 32 := 0#32
  let v705 : BitVec 1 := Scalar.cmpi .ne v704 c0_i32_475
  v705

def k0_off99 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  ![v196.toNat]
def k0_off100 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_145 : BitVec 32 := 4#32
  let v195 : BitVec 32 := Scalar.muli v194 c4_i32_145
  let c0_i32_146 : BitVec 32 := 0#32
  let v196 : BitVec 32 := Scalar.addi v195 c0_i32_146
  let c0_i32_488 : BitVec 32 := 0#32
  let c0_i32_489 : BitVec 32 := 0#32
  ![v196.toNat, 0, 0]
def k0_off101 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let v706 : BitVec 1 := Scalar.cmpi .ne v207 v2
  let v707 : BitVec 32 := Scalar.extui v706
  let c0_i32_476 : BitVec 32 := 0#32
  let v708 : BitVec 1 := Scalar.cmpi .ne v707 c0_i32_476
  v708

def k0_off102 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  ![v207.toNat]
def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_150 : BitVec 32 := 4#32
  let v206 : BitVec 32 := Scalar.muli v194 c4_i32_150
  let c1_i32_151 : BitVec 32 := 1#32
  let v207 : BitVec 32 := Scalar.addi v206 c1_i32_151
  let c0_i32_488 : BitVec 32 := 0#32
  let c0_i32_489 : BitVec 32 := 0#32
  ![v207.toNat, 0, 0]
def k0_off104 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let v709 : BitVec 1 := Scalar.cmpi .ne v218 v2
  let v710 : BitVec 32 := Scalar.extui v709
  let c0_i32_477 : BitVec 32 := 0#32
  let v711 : BitVec 1 := Scalar.cmpi .ne v710 c0_i32_477
  v711

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  ![v218.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_155 : BitVec 32 := 4#32
  let v217 : BitVec 32 := Scalar.muli v194 c4_i32_155
  let c2_i32_156 : BitVec 32 := 2#32
  let v218 : BitVec 32 := Scalar.addi v217 c2_i32_156
  let c0_i32_488 : BitVec 32 := 0#32
  let c0_i32_489 : BitVec 32 := 0#32
  ![v218.toNat, 0, 0]
def k0_off107 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let v712 : BitVec 1 := Scalar.cmpi .ne v229 v2
  let v713 : BitVec 32 := Scalar.extui v712
  let c0_i32_478 : BitVec 32 := 0#32
  let v714 : BitVec 1 := Scalar.cmpi .ne v713 c0_i32_478
  v714

def k0_off108 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  ![v229.toNat]
def k0_off109 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_143 : BitVec 32 := 1#32
  let v193 : BitVec 32 := Scalar.addi v19 c1_i32_143
  let c4_i32_144 : BitVec 32 := 4#32
  let v194 : BitVec 32 := Scalar.remsi v193 c4_i32_144
  let c4_i32_160 : BitVec 32 := 4#32
  let v228 : BitVec 32 := Scalar.muli v194 c4_i32_160
  let c3_i32_161 : BitVec 32 := 3#32
  let v229 : BitVec 32 := Scalar.addi v228 c3_i32_161
  let c0_i32_488 : BitVec 32 := 0#32
  let c0_i32_489 : BitVec 32 := 0#32
  ![v229.toNat, 0, 0]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let v715 : BitVec 1 := Scalar.cmpi .ne v291 v2
  let v716 : BitVec 32 := Scalar.extui v715
  let c0_i32_479 : BitVec 32 := 0#32
  let v717 : BitVec 1 := Scalar.cmpi .ne v716 c0_i32_479
  v717

def k0_off111 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  ![v291.toNat]
def k0_off112 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_198 : BitVec 32 := 4#32
  let v290 : BitVec 32 := Scalar.muli v289 c4_i32_198
  let c0_i32_199 : BitVec 32 := 0#32
  let v291 : BitVec 32 := Scalar.addi v290 c0_i32_199
  let c0_i32_488 : BitVec 32 := 0#32
  let c0_i32_489 : BitVec 32 := 0#32
  ![v291.toNat, 0, 0]
def k0_off113 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let v718 : BitVec 1 := Scalar.cmpi .ne v302 v2
  let v719 : BitVec 32 := Scalar.extui v718
  let c0_i32_480 : BitVec 32 := 0#32
  let v720 : BitVec 1 := Scalar.cmpi .ne v719 c0_i32_480
  v720

def k0_off114 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  ![v302.toNat]
def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_203 : BitVec 32 := 4#32
  let v301 : BitVec 32 := Scalar.muli v289 c4_i32_203
  let c1_i32_204 : BitVec 32 := 1#32
  let v302 : BitVec 32 := Scalar.addi v301 c1_i32_204
  let c0_i32_488 : BitVec 32 := 0#32
  let c0_i32_489 : BitVec 32 := 0#32
  ![v302.toNat, 0, 0]
def k0_off116 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let v721 : BitVec 1 := Scalar.cmpi .ne v313 v2
  let v722 : BitVec 32 := Scalar.extui v721
  let c0_i32_481 : BitVec 32 := 0#32
  let v723 : BitVec 1 := Scalar.cmpi .ne v722 c0_i32_481
  v723

def k0_off117 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  ![v313.toNat]
def k0_off118 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_208 : BitVec 32 := 4#32
  let v312 : BitVec 32 := Scalar.muli v289 c4_i32_208
  let c2_i32_209 : BitVec 32 := 2#32
  let v313 : BitVec 32 := Scalar.addi v312 c2_i32_209
  let c0_i32_488 : BitVec 32 := 0#32
  let c0_i32_489 : BitVec 32 := 0#32
  ![v313.toNat, 0, 0]
def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let v724 : BitVec 1 := Scalar.cmpi .ne v324 v2
  let v725 : BitVec 32 := Scalar.extui v724
  let c0_i32_482 : BitVec 32 := 0#32
  let v726 : BitVec 1 := Scalar.cmpi .ne v725 c0_i32_482
  v726

def k0_off120 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  ![v324.toNat]
def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_196 : BitVec 32 := 2#32
  let v288 : BitVec 32 := Scalar.addi v19 c2_i32_196
  let c4_i32_197 : BitVec 32 := 4#32
  let v289 : BitVec 32 := Scalar.remsi v288 c4_i32_197
  let c4_i32_213 : BitVec 32 := 4#32
  let v323 : BitVec 32 := Scalar.muli v289 c4_i32_213
  let c3_i32_214 : BitVec 32 := 3#32
  let v324 : BitVec 32 := Scalar.addi v323 c3_i32_214
  let c0_i32_488 : BitVec 32 := 0#32
  let c0_i32_489 : BitVec 32 := 0#32
  ![v324.toNat, 0, 0]
def k0_off122 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let v727 : BitVec 1 := Scalar.cmpi .ne v366 v2
  let v728 : BitVec 32 := Scalar.extui v727
  let c0_i32_483 : BitVec 32 := 0#32
  let v729 : BitVec 1 := Scalar.cmpi .ne v728 c0_i32_483
  v729

def k0_off123 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  ![v366.toNat]
def k0_off124 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_238 : BitVec 32 := 4#32
  let v365 : BitVec 32 := Scalar.muli v364 c4_i32_238
  let c0_i32_239 : BitVec 32 := 0#32
  let v366 : BitVec 32 := Scalar.addi v365 c0_i32_239
  let c0_i32_488 : BitVec 32 := 0#32
  let c0_i32_489 : BitVec 32 := 0#32
  ![v366.toNat, 0, 0]
def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let v730 : BitVec 1 := Scalar.cmpi .ne v377 v2
  let v731 : BitVec 32 := Scalar.extui v730
  let c0_i32_484 : BitVec 32 := 0#32
  let v732 : BitVec 1 := Scalar.cmpi .ne v731 c0_i32_484
  v732

def k0_off126 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  ![v377.toNat]
def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_243 : BitVec 32 := 4#32
  let v376 : BitVec 32 := Scalar.muli v364 c4_i32_243
  let c1_i32_244 : BitVec 32 := 1#32
  let v377 : BitVec 32 := Scalar.addi v376 c1_i32_244
  let c0_i32_488 : BitVec 32 := 0#32
  let c0_i32_489 : BitVec 32 := 0#32
  ![v377.toNat, 0, 0]
def k0_off128 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let v733 : BitVec 1 := Scalar.cmpi .ne v388 v2
  let v734 : BitVec 32 := Scalar.extui v733
  let c0_i32_485 : BitVec 32 := 0#32
  let v735 : BitVec 1 := Scalar.cmpi .ne v734 c0_i32_485
  v735

def k0_off129 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  ![v388.toNat]
def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_248 : BitVec 32 := 4#32
  let v387 : BitVec 32 := Scalar.muli v364 c4_i32_248
  let c2_i32_249 : BitVec 32 := 2#32
  let v388 : BitVec 32 := Scalar.addi v387 c2_i32_249
  let c0_i32_488 : BitVec 32 := 0#32
  let c0_i32_489 : BitVec 32 := 0#32
  ![v388.toNat, 0, 0]
def k0_off131 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let v736 : BitVec 1 := Scalar.cmpi .ne v399 v2
  let v737 : BitVec 32 := Scalar.extui v736
  let c0_i32_486 : BitVec 32 := 0#32
  let v738 : BitVec 1 := Scalar.cmpi .ne v737 c0_i32_486
  v738

def k0_off132 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  ![v399.toNat]
def k0_off133 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_236 : BitVec 32 := 3#32
  let v363 : BitVec 32 := Scalar.addi v19 c3_i32_236
  let c4_i32_237 : BitVec 32 := 4#32
  let v364 : BitVec 32 := Scalar.remsi v363 c4_i32_237
  let c4_i32_253 : BitVec 32 := 4#32
  let v398 : BitVec 32 := Scalar.muli v364 c4_i32_253
  let c3_i32_254 : BitVec 32 := 3#32
  let v399 : BitVec 32 := Scalar.addi v398 c3_i32_254
  let c0_i32_488 : BitVec 32 := 0#32
  let c0_i32_489 : BitVec 32 := 0#32
  ![v399.toNat, 0, 0]
def k0_off134 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_490 : BitVec 32 := 0#32
  let c0_i32_491 : BitVec 32 := 0#32
  ![v2.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Offs.lean ====
module

public import proofs.«01_k».proof.Proof.Gen.KernelIdeal

/-! Where the kernel's addresses point, in closed form. Tile `k` of the kernel's own order is the tile sent to
device `tl c k`; the source heard at the kernel's receive `r` is `bw c r`. Each fact is decided over the mesh. -/

@[expose] public section

noncomputable section

namespace Cert.KProof

open Cert.KernelIdeal Cert.KernelIdeal.Gen
open Idealize.ShloMosaic

/-- The device a number names. -/
def dv (n : ℕ) : Dev nD := ⟨n % 16, Nat.mod_lt _ (by decide)⟩
/-- The column chunk of the weights taken at step `k`. -/
def wc (c : Dev nD) (k : ℕ) : ℕ := (c.val / 4 + k) % 4
/-- The device whose tile is made `k`-th. -/
def tl (c : Dev nD) (k : ℕ) : Dev nD := dv (wc c (k / 4) * 4 + k % 4)
/-- The place of device `t` in that order. -/
def rk (c t : Dev nD) : ℕ := (t.val / 4 + 4 - c.val / 4) % 4 * 4 + t.val % 4
/-- The device signalled `o`-th. -/
def fw (c : Dev nD) (o : ℕ) : Dev nD := dv (c.val + o)
/-- The source heard `r`-th, counting from zero. -/
def bw (c : Dev nD) (r : ℕ) : Dev nD := dv (c.val + 15 - r)
/-- The place of source `s` in that order. -/
def rr (c s : Dev nD) : ℕ := (c.val + 15 - s.val) % 16

theorem dv_val (t : Dev nD) : dv t.val = t := Fin.ext (Nat.mod_eq_of_lt t.isLt)
theorem tl_rk (c t : Dev nD) : tl c (rk c t) = t := by revert c t; decide +kernel
theorem rk_tl (c : Dev nD) (k : Fin 16) : rk c (tl c k.val) = k.val := by revert c k; decide +kernel
theorem rk_lt (c t : Dev nD) : rk c t < 16 := by revert c t; decide +kernel
theorem rk_self (c : Dev nD) : rk c c = c.val % 4 := by revert c; decide +kernel
theorem bw_rr (c s : Dev nD) : bw c (rr c s) = s := by revert c s; decide +kernel
theorem rr_bw (c : Dev nD) (r : Fin 16) : rr c (bw c r.val) = r.val := by revert c r; decide +kernel
theorem rr_lt (c s : Dev nD) (h : s ≠ c) : rr c s < 15 := by revert c s; decide +kernel
theorem bw_ne (c : Dev nD) (r : Fin 15) : bw c r.val ≠ c := by revert c r; decide +kernel
theorem fw_ne (c : Dev nD) (o : Fin 15) : c ≠ fw c (o.val + 1) := by revert c o; decide +kernel
theorem tl_div (c : Dev nD) (k : Fin 16) : (tl c k.val).val / 4 = wc c (k.val / 4) := by revert c k; decide +kernel
theorem tl_mod (c : Dev nD) (k : Fin 16) : (tl c k.val).val % 4 = k.val % 4 := by revert c k; decide +kernel

theorem off1_0 (c : Dev nD) : k0_off1 c 0#32 = ![0, 512 * wc c 0] := by revert c; decide +kernel

theorem off1_1 (c : Dev nD) : k0_off1 c 1#32 = ![0, 512 * wc c 1] := by revert c; decide +kernel

theorem off1_2 (c : Dev nD) : k0_off1 c 2#32 = ![0, 512 * wc c 2] := by revert c; decide +kernel

theorem off1_3 (c : Dev nD) : k0_off1 c 3#32 = ![0, 512 * wc c 3] := by revert c; decide +kernel

theorem off2_0 (c : Dev nD) : k0_off2 c 0#32 0#32 = ![(tl c 0).val, 0, 0] := by revert c; decide +kernel

theorem off2_1 (c : Dev nD) : k0_off2 c 0#32 1#32 = ![(tl c 1).val, 0, 0] := by revert c; decide +kernel

theorem off2_2 (c : Dev nD) : k0_off2 c 0#32 2#32 = ![(tl c 2).val, 0, 0] := by revert c; decide +kernel

theorem off2_3 (c : Dev nD) : k0_off2 c 0#32 3#32 = ![(tl c 3).val, 0, 0] := by revert c; decide +kernel

theorem off2_4 (c : Dev nD) : k0_off2 c 1#32 0#32 = ![(tl c 4).val, 0, 0] := by revert c; decide +kernel

theorem off2_5 (c : Dev nD) : k0_off2 c 1#32 1#32 = ![(tl c 5).val, 0, 0] := by revert c; decide +kernel

theorem off2_6 (c : Dev nD) : k0_off2 c 1#32 2#32 = ![(tl c 6).val, 0, 0] := by revert c; decide +kernel

theorem off2_7 (c : Dev nD) : k0_off2 c 1#32 3#32 = ![(tl c 7).val, 0, 0] := by revert c; decide +kernel

theorem off2_8 (c : Dev nD) : k0_off2 c 2#32 0#32 = ![(tl c 8).val, 0, 0] := by revert c; decide +kernel

theorem off2_9 (c : Dev nD) : k0_off2 c 2#32 1#32 = ![(tl c 9).val, 0, 0] := by revert c; decide +kernel

theorem off2_10 (c : Dev nD) : k0_off2 c 2#32 2#32 = ![(tl c 10).val, 0, 0] := by revert c; decide +kernel

theorem off2_11 (c : Dev nD) : k0_off2 c 2#32 3#32 = ![(tl c 11).val, 0, 0] := by revert c; decide +kernel

theorem off2_12 (c : Dev nD) : k0_off2 c 3#32 0#32 = ![(tl c 12).val, 0, 0] := by revert c; decide +kernel

theorem off2_13 (c : Dev nD) : k0_off2 c 3#32 1#32 = ![(tl c 13).val, 0, 0] := by revert c; decide +kernel

theorem off2_14 (c : Dev nD) : k0_off2 c 3#32 2#32 = ![(tl c 14).val, 0, 0] := by revert c; decide +kernel

theorem off2_15 (c : Dev nD) : k0_off2 c 3#32 3#32 = ![(tl c 15).val, 0, 0] := by revert c; decide +kernel

theorem own_0 (c : Dev nD) : k0_cond1 c = 1#1 ↔ tl c 0 = c := by revert c; decide +kernel

theorem own_1 (c : Dev nD) : k0_cond2 c = 1#1 ↔ tl c 1 = c := by revert c; decide +kernel

theorem own_2 (c : Dev nD) : k0_cond3 c = 1#1 ↔ tl c 2 = c := by revert c; decide +kernel

theorem own_3 (c : Dev nD) : k0_cond4 c = 1#1 ↔ tl c 3 = c := by revert c; decide +kernel

theorem own_4 (c : Dev nD) : k0_cond5 c = 1#1 ↔ tl c 4 = c := by revert c; decide +kernel

theorem own_5 (c : Dev nD) : k0_cond6 c = 1#1 ↔ tl c 5 = c := by revert c; decide +kernel

theorem own_6 (c : Dev nD) : k0_cond7 c = 1#1 ↔ tl c 6 = c := by revert c; decide +kernel

theorem own_7 (c : Dev nD) : k0_cond8 c = 1#1 ↔ tl c 7 = c := by revert c; decide +kernel

theorem own_8 (c : Dev nD) : k0_cond17 c = 1#1 ↔ tl c 8 = c := by revert c; decide +kernel

theorem own_9 (c : Dev nD) : k0_cond18 c = 1#1 ↔ tl c 9 = c := by revert c; decide +kernel

theorem own_10 (c : Dev nD) : k0_cond19 c = 1#1 ↔ tl c 10 = c := by revert c; decide +kernel

theorem own_11 (c : Dev nD) : k0_cond20 c = 1#1 ↔ tl c 11 = c := by revert c; decide +kernel

theorem own_12 (c : Dev nD) : k0_cond25 c = 1#1 ↔ tl c 12 = c := by revert c; decide +kernel

theorem own_13 (c : Dev nD) : k0_cond26 c = 1#1 ↔ tl c 13 = c := by revert c; decide +kernel

theorem own_14 (c : Dev nD) : k0_cond27 c = 1#1 ↔ tl c 14 = c := by revert c; decide +kernel

theorem own_15 (c : Dev nD) : k0_cond28 c = 1#1 ↔ tl c 15 = c := by revert c; decide +kernel

theorem snd_0 (c : Dev nD) : k0_cond9 c = 1#1 ↔ tl c 0 ≠ c := by revert c; decide +kernel

theorem sndA_0 (c : Dev nD) : k0_off11 c = ![(tl c 0).val] := by revert c; decide +kernel

theorem sndB_0 (c : Dev nD) : k0_off12 c = ![c.val] := by revert c; decide +kernel

theorem sndC_0 (c : Dev nD) : k0_off13 c = ![c.val, 0, 0] := by revert c; decide +kernel

theorem sndD_0 (c : Dev nD) : k0_off14 c = ![(tl c 0).val, 0, 0] := by revert c; decide +kernel

theorem sndV_0 (c : Dev nD) : k0_dev16 c = (tl c 0).val := by revert c; decide +kernel

theorem snd_1 (c : Dev nD) : k0_cond10 c = 1#1 ↔ tl c 1 ≠ c := by revert c; decide +kernel

theorem sndA_1 (c : Dev nD) : k0_off15 c = ![(tl c 1).val] := by revert c; decide +kernel

theorem sndB_1 (c : Dev nD) : k0_off16 c = ![c.val] := by revert c; decide +kernel

theorem sndC_1 (c : Dev nD) : k0_off17 c = ![c.val, 0, 0] := by revert c; decide +kernel

theorem sndD_1 (c : Dev nD) : k0_off18 c = ![(tl c 1).val, 0, 0] := by revert c; decide +kernel

theorem sndV_1 (c : Dev nD) : k0_dev17 c = (tl c 1).val := by revert c; decide +kernel

theorem snd_2 (c : Dev nD) : k0_cond11 c = 1#1 ↔ tl c 2 ≠ c := by revert c; decide +kernel

theorem sndA_2 (c : Dev nD) : k0_off19 c = ![(tl c 2).val] := by revert c; decide +kernel

theorem sndB_2 (c : Dev nD) : k0_off20 c = ![c.val] := by revert c; decide +kernel

theorem sndC_2 (c : Dev nD) : k0_off21 c = ![c.val, 0, 0] := by revert c; decide +kernel

theorem sndD_2 (c : Dev nD) : k0_off22 c = ![(tl c 2).val, 0, 0] := by revert c; decide +kernel

theorem sndV_2 (c : Dev nD) : k0_dev18 c = (tl c 2).val := by revert c; decide +kernel

theorem snd_3 (c : Dev nD) : k0_cond12 c = 1#1 ↔ tl c 3 ≠ c := by revert c; decide +kernel

theorem sndA_3 (c : Dev nD) : k0_off23 c = ![(tl c 3).val] := by revert c; decide +kernel

theorem sndB_3 (c : Dev nD) : k0_off24 c = ![c.val] := by revert c; decide +kernel

theorem sndC_3 (c : Dev nD) : k0_off25 c = ![c.val, 0, 0] := by revert c; decide +kernel

theorem sndD_3 (c : Dev nD) : k0_off26 c = ![(tl c 3).val, 0, 0] := by revert c; decide +kernel

theorem sndV_3 (c : Dev nD) : k0_dev19 c = (tl c 3).val := by revert c; decide +kernel

theorem snd_4 (c : Dev nD) : k0_cond13 c = 1#1 ↔ tl c 4 ≠ c := by revert c; decide +kernel

theorem sndA_4 (c : Dev nD) : k0_off27 c = ![(tl c 4).val] := by revert c; decide +kernel

theorem sndB_4 (c : Dev nD) : k0_off28 c = ![c.val] := by revert c; decide +kernel

theorem sndC_4 (c : Dev nD) : k0_off29 c = ![c.val, 0, 0] := by revert c; decide +kernel

theorem sndD_4 (c : Dev nD) : k0_off30 c = ![(tl c 4).val, 0, 0] := by revert c; decide +kernel

theorem sndV_4 (c : Dev nD) : k0_dev20 c = (tl c 4).val := by revert c; decide +kernel

theorem snd_5 (c : Dev nD) : k0_cond14 c = 1#1 ↔ tl c 5 ≠ c := by revert c; decide +kernel

theorem sndA_5 (c : Dev nD) : k0_off31 c = ![(tl c 5).val] := by revert c; decide +kernel

theorem sndB_5 (c : Dev nD) : k0_off32 c = ![c.val] := by revert c; decide +kernel

theorem sndC_5 (c : Dev nD) : k0_off33 c = ![c.val, 0, 0] := by revert c; decide +kernel

theorem sndD_5 (c : Dev nD) : k0_off34 c = ![(tl c 5).val, 0, 0] := by revert c; decide +kernel

theorem sndV_5 (c : Dev nD) : k0_dev21 c = (tl c 5).val := by revert c; decide +kernel

theorem snd_6 (c : Dev nD) : k0_cond15 c = 1#1 ↔ tl c 6 ≠ c := by revert c; decide +kernel

theorem sndA_6 (c : Dev nD) : k0_off35 c = ![(tl c 6).val] := by revert c; decide +kernel

theorem sndB_6 (c : Dev nD) : k0_off36 c = ![c.val] := by revert c; decide +kernel

theorem sndC_6 (c : Dev nD) : k0_off37 c = ![c.val, 0, 0] := by revert c; decide +kernel

theorem sndD_6 (c : Dev nD) : k0_off38 c = ![(tl c 6).val, 0, 0] := by revert c; decide +kernel

theorem sndV_6 (c : Dev nD) : k0_dev22 c = (tl c 6).val := by revert c; decide +kernel

theorem snd_7 (c : Dev nD) : k0_cond16 c = 1#1 ↔ tl c 7 ≠ c := by revert c; decide +kernel

theorem sndA_7 (c : Dev nD) : k0_off39 c = ![(tl c 7).val] := by revert c; decide +kernel

theorem sndB_7 (c : Dev nD) : k0_off40 c = ![c.val] := by revert c; decide +kernel

theorem sndC_7 (c : Dev nD) : k0_off41 c = ![c.val, 0, 0] := by revert c; decide +kernel

theorem sndD_7 (c : Dev nD) : k0_off42 c = ![(tl c 7).val, 0, 0] := by revert c; decide +kernel

theorem sndV_7 (c : Dev nD) : k0_dev23 c = (tl c 7).val := by revert c; decide +kernel

theorem snd_8 (c : Dev nD) : k0_cond21 c = 1#1 ↔ tl c 8 ≠ c := by revert c; decide +kernel

theorem sndA_8 (c : Dev nD) : k0_off47 c = ![(tl c 8).val] := by revert c; decide +kernel

theorem sndB_8 (c : Dev nD) : k0_off48 c = ![c.val] := by revert c; decide +kernel

theorem sndC_8 (c : Dev nD) : k0_off49 c = ![c.val, 0, 0] := by revert c; decide +kernel

theorem sndD_8 (c : Dev nD) : k0_off50 c = ![(tl c 8).val, 0, 0] := by revert c; decide +kernel

theorem sndV_8 (c : Dev nD) : k0_dev24 c = (tl c 8).val := by revert c; decide +kernel

theorem snd_9 (c : Dev nD) : k0_cond22 c = 1#1 ↔ tl c 9 ≠ c := by revert c; decide +kernel

theorem sndA_9 (c : Dev nD) : k0_off51 c = ![(tl c 9).val] := by revert c; decide +kernel

theorem sndB_9 (c : Dev nD) : k0_off52 c = ![c.val] := by revert c; decide +kernel

theorem sndC_9 (c : Dev nD) : k0_off53 c = ![c.val, 0, 0] := by revert c; decide +kernel

theorem sndD_9 (c : Dev nD) : k0_off54 c = ![(tl c 9).val, 0, 0] := by revert c; decide +kernel

theorem sndV_9 (c : Dev nD) : k0_dev25 c = (tl c 9).val := by revert c; decide +kernel

theorem snd_10 (c : Dev nD) : k0_cond23 c = 1#1 ↔ tl c 10 ≠ c := by revert c; decide +kernel

theorem sndA_10 (c : Dev nD) : k0_off55 c = ![(tl c 10).val] := by revert c; decide +kernel

theorem sndB_10 (c : Dev nD) : k0_off56 c = ![c.val] := by revert c; decide +kernel

theorem sndC_10 (c : Dev nD) : k0_off57 c = ![c.val, 0, 0] := by revert c; decide +kernel

theorem sndD_10 (c : Dev nD) : k0_off58 c = ![(tl c 10).val, 0, 0] := by revert c; decide +kernel

theorem sndV_10 (c : Dev nD) : k0_dev26 c = (tl c 10).val := by revert c; decide +kernel

theorem snd_11 (c : Dev nD) : k0_cond24 c = 1#1 ↔ tl c 11 ≠ c := by revert c; decide +kernel

theorem sndA_11 (c : Dev nD) : k0_off59 c = ![(tl c 11).val] := by revert c; decide +kernel

theorem sndB_11 (c : Dev nD) : k0_off60 c = ![c.val] := by revert c; decide +kernel

theorem sndC_11 (c : Dev nD) : k0_off61 c = ![c.val, 0, 0] := by revert c; decide +kernel

theorem sndD_11 (c : Dev nD) : k0_off62 c = ![(tl c 11).val, 0, 0] := by revert c; decide +kernel

theorem sndV_11 (c : Dev nD) : k0_dev27 c = (tl c 11).val := by revert c; decide +kernel

theorem snd_12 (c : Dev nD) : k0_cond29 c = 1#1 ↔ tl c 12 ≠ c := by revert c; decide +kernel

theorem sndA_12 (c : Dev nD) : k0_off67 c = ![(tl c 12).val] := by revert c; decide +kernel

theorem sndB_12 (c : Dev nD) : k0_off68 c = ![c.val] := by revert c; decide +kernel

theorem sndC_12 (c : Dev nD) : k0_off69 c = ![c.val, 0, 0] := by revert c; decide +kernel

theorem sndD_12 (c : Dev nD) : k0_off70 c = ![(tl c 12).val, 0, 0] := by revert c; decide +kernel

theorem sndV_12 (c : Dev nD) : k0_dev28 c = (tl c 12).val := by revert c; decide +kernel

theorem snd_13 (c : Dev nD) : k0_cond30 c = 1#1 ↔ tl c 13 ≠ c := by revert c; decide +kernel

theorem sndA_13 (c : Dev nD) : k0_off71 c = ![(tl c 13).val] := by revert c; decide +kernel

theorem sndB_13 (c : Dev nD) : k0_off72 c = ![c.val] := by revert c; decide +kernel

theorem sndC_13 (c : Dev nD) : k0_off73 c = ![c.val, 0, 0] := by revert c; decide +kernel

theorem sndD_13 (c : Dev nD) : k0_off74 c = ![(tl c 13).val, 0, 0] := by revert c; decide +kernel

theorem sndV_13 (c : Dev nD) : k0_dev29 c = (tl c 13).val := by revert c; decide +kernel

theorem snd_14 (c : Dev nD) : k0_cond31 c = 1#1 ↔ tl c 14 ≠ c := by revert c; decide +kernel

theorem sndA_14 (c : Dev nD) : k0_off75 c = ![(tl c 14).val] := by revert c; decide +kernel

theorem sndB_14 (c : Dev nD) : k0_off76 c = ![c.val] := by revert c; decide +kernel

theorem sndC_14 (c : Dev nD) : k0_off77 c = ![c.val, 0, 0] := by revert c; decide +kernel

theorem sndD_14 (c : Dev nD) : k0_off78 c = ![(tl c 14).val, 0, 0] := by revert c; decide +kernel

theorem sndV_14 (c : Dev nD) : k0_dev30 c = (tl c 14).val := by revert c; decide +kernel

theorem snd_15 (c : Dev nD) : k0_cond32 c = 1#1 ↔ tl c 15 ≠ c := by revert c; decide +kernel

theorem sndA_15 (c : Dev nD) : k0_off79 c = ![(tl c 15).val] := by revert c; decide +kernel

theorem sndB_15 (c : Dev nD) : k0_off80 c = ![c.val] := by revert c; decide +kernel

theorem sndC_15 (c : Dev nD) : k0_off81 c = ![c.val, 0, 0] := by revert c; decide +kernel

theorem sndD_15 (c : Dev nD) : k0_off82 c = ![(tl c 15).val, 0, 0] := by revert c; decide +kernel

theorem sndV_15 (c : Dev nD) : k0_dev31 c = (tl c 15).val := by revert c; decide +kernel

theorem swt_0 (c : Dev nD) : k0_cond33 c = 1#1 ↔ tl c 0 ≠ c := by revert c; decide +kernel

theorem swtA_0 (c : Dev nD) : k0_off87 c = ![(tl c 0).val] := by revert c; decide +kernel

theorem swt_1 (c : Dev nD) : k0_cond34 c = 1#1 ↔ tl c 1 ≠ c := by revert c; decide +kernel

theorem swtA_1 (c : Dev nD) : k0_off90 c = ![(tl c 1).val] := by revert c; decide +kernel

theorem swt_2 (c : Dev nD) : k0_cond35 c = 1#1 ↔ tl c 2 ≠ c := by revert c; decide +kernel

theorem swtA_2 (c : Dev nD) : k0_off93 c = ![(tl c 2).val] := by revert c; decide +kernel

theorem swt_3 (c : Dev nD) : k0_cond36 c = 1#1 ↔ tl c 3 ≠ c := by revert c; decide +kernel

theorem swtA_3 (c : Dev nD) : k0_off96 c = ![(tl c 3).val] := by revert c; decide +kernel

theorem swt_4 (c : Dev nD) : k0_cond37 c = 1#1 ↔ tl c 4 ≠ c := by revert c; decide +kernel

theorem swtA_4 (c : Dev nD) : k0_off99 c = ![(tl c 4).val] := by revert c; decide +kernel

theorem swt_5 (c : Dev nD) : k0_cond38 c = 1#1 ↔ tl c 5 ≠ c := by revert c; decide +kernel

theorem swtA_5 (c : Dev nD) : k0_off102 c = ![(tl c 5).val] := by revert c; decide +kernel

theorem swt_6 (c : Dev nD) : k0_cond39 c = 1#1 ↔ tl c 6 ≠ c := by revert c; decide +kernel

theorem swtA_6 (c : Dev nD) : k0_off105 c = ![(tl c 6).val] := by revert c; decide +kernel

theorem swt_7 (c : Dev nD) : k0_cond40 c = 1#1 ↔ tl c 7 ≠ c := by revert c; decide +kernel

theorem swtA_7 (c : Dev nD) : k0_off108 c = ![(tl c 7).val] := by revert c; decide +kernel

theorem swt_8 (c : Dev nD) : k0_cond41 c = 1#1 ↔ tl c 8 ≠ c := by revert c; decide +kernel

theorem swtA_8 (c : Dev nD) : k0_off111 c = ![(tl c 8).val] := by revert c; decide +kernel

theorem swt_9 (c : Dev nD) : k0_cond42 c = 1#1 ↔ tl c 9 ≠ c := by revert c; decide +kernel

theorem swtA_9 (c : Dev nD) : k0_off114 c = ![(tl c 9).val] := by revert c; decide +kernel

theorem swt_10 (c : Dev nD) : k0_cond43 c = 1#1 ↔ tl c 10 ≠ c := by revert c; decide +kernel

theorem swtA_10 (c : Dev nD) : k0_off117 c = ![(tl c 10).val] := by revert c; decide +kernel

theorem swt_11 (c : Dev nD) : k0_cond44 c = 1#1 ↔ tl c 11 ≠ c := by revert c; decide +kernel

theorem swtA_11 (c : Dev nD) : k0_off120 c = ![(tl c 11).val] := by revert c; decide +kernel

theorem swt_12 (c : Dev nD) : k0_cond45 c = 1#1 ↔ tl c 12 ≠ c := by revert c; decide +kernel

theorem swtA_12 (c : Dev nD) : k0_off123 c = ![(tl c 12).val] := by revert c; decide +kernel

theorem swt_13 (c : Dev nD) : k0_cond46 c = 1#1 ↔ tl c 13 ≠ c := by revert c; decide +kernel

theorem swtA_13 (c : Dev nD) : k0_off126 c = ![(tl c 13).val] := by revert c; decide +kernel

theorem swt_14 (c : Dev nD) : k0_cond47 c = 1#1 ↔ tl c 14 ≠ c := by revert c; decide +kernel

theorem swtA_14 (c : Dev nD) : k0_off129 c = ![(tl c 14).val] := by revert c; decide +kernel

theorem swt_15 (c : Dev nD) : k0_cond48 c = 1#1 ↔ tl c 15 ≠ c := by revert c; decide +kernel

theorem swtA_15 (c : Dev nD) : k0_off132 c = ![(tl c 15).val] := by revert c; decide +kernel

theorem rcvS_0 (c : Dev nD) : k0_off83 c 1#32 = ![(bw c 0).val] := by revert c; decide +kernel

theorem rcvL_0 (c : Dev nD) : k0_off85 c 1#32 = ![(bw c 0).val, 0, 0] := by revert c; decide +kernel

theorem rcvO_0 (c : Dev nD) : k0_off86 c 1#32 = ![256 * (bw c 0).val, 0] := by revert c; decide +kernel

theorem rcvS_1 (c : Dev nD) : k0_off83 c 2#32 = ![(bw c 1).val] := by revert c; decide +kernel

theorem rcvL_1 (c : Dev nD) : k0_off85 c 2#32 = ![(bw c 1).val, 0, 0] := by revert c; decide +kernel

theorem rcvO_1 (c : Dev nD) : k0_off86 c 2#32 = ![256 * (bw c 1).val, 0] := by revert c; decide +kernel

theorem rcvS_2 (c : Dev nD) : k0_off83 c 3#32 = ![(bw c 2).val] := by revert c; decide +kernel

theorem rcvL_2 (c : Dev nD) : k0_off85 c 3#32 = ![(bw c 2).val, 0, 0] := by revert c; decide +kernel

theorem rcvO_2 (c : Dev nD) : k0_off86 c 3#32 = ![256 * (bw c 2).val, 0] := by revert c; decide +kernel

theorem rcvS_3 (c : Dev nD) : k0_off83 c 4#32 = ![(bw c 3).val] := by revert c; decide +kernel

theorem rcvL_3 (c : Dev nD) : k0_off85 c 4#32 = ![(bw c 3).val, 0, 0] := by revert c; decide +kernel

theorem rcvO_3 (c : Dev nD) : k0_off86 c 4#32 = ![256 * (bw c 3).val, 0] := by revert c; decide +kernel

theorem rcvS_4 (c : Dev nD) : k0_off83 c 5#32 = ![(bw c 4).val] := by revert c; decide +kernel

theorem rcvL_4 (c : Dev nD) : k0_off85 c 5#32 = ![(bw c 4).val, 0, 0] := by revert c; decide +kernel

theorem rcvO_4 (c : Dev nD) : k0_off86 c 5#32 = ![256 * (bw c 4).val, 0] := by revert c; decide +kernel

theorem rcvS_5 (c : Dev nD) : k0_off83 c 6#32 = ![(bw c 5).val] := by revert c; decide +kernel

theorem rcvL_5 (c : Dev nD) : k0_off85 c 6#32 = ![(bw c 5).val, 0, 0] := by revert c; decide +kernel

theorem rcvO_5 (c : Dev nD) : k0_off86 c 6#32 = ![256 * (bw c 5).val, 0] := by revert c; decide +kernel

theorem rcvS_6 (c : Dev nD) : k0_off83 c 7#32 = ![(bw c 6).val] := by revert c; decide +kernel

theorem rcvL_6 (c : Dev nD) : k0_off85 c 7#32 = ![(bw c 6).val, 0, 0] := by revert c; decide +kernel

theorem rcvO_6 (c : Dev nD) : k0_off86 c 7#32 = ![256 * (bw c 6).val, 0] := by revert c; decide +kernel

theorem rcvS_7 (c : Dev nD) : k0_off83 c 8#32 = ![(bw c 7).val] := by revert c; decide +kernel

theorem rcvL_7 (c : Dev nD) : k0_off85 c 8#32 = ![(bw c 7).val, 0, 0] := by revert c; decide +kernel

theorem rcvO_7 (c : Dev nD) : k0_off86 c 8#32 = ![256 * (bw c 7).val, 0] := by revert c; decide +kernel

theorem rcvS_8 (c : Dev nD) : k0_off83 c 9#32 = ![(bw c 8).val] := by revert c; decide +kernel

theorem rcvL_8 (c : Dev nD) : k0_off85 c 9#32 = ![(bw c 8).val, 0, 0] := by revert c; decide +kernel

theorem rcvO_8 (c : Dev nD) : k0_off86 c 9#32 = ![256 * (bw c 8).val, 0] := by revert c; decide +kernel

theorem rcvS_9 (c : Dev nD) : k0_off83 c 10#32 = ![(bw c 9).val] := by revert c; decide +kernel

theorem rcvL_9 (c : Dev nD) : k0_off85 c 10#32 = ![(bw c 9).val, 0, 0] := by revert c; decide +kernel

theorem rcvO_9 (c : Dev nD) : k0_off86 c 10#32 = ![256 * (bw c 9).val, 0] := by revert c; decide +kernel

theorem rcvS_10 (c : Dev nD) : k0_off83 c 11#32 = ![(bw c 10).val] := by revert c; decide +kernel

theorem rcvL_10 (c : Dev nD) : k0_off85 c 11#32 = ![(bw c 10).val, 0, 0] := by revert c; decide +kernel

theorem rcvO_10 (c : Dev nD) : k0_off86 c 11#32 = ![256 * (bw c 10).val, 0] := by revert c; decide +kernel

theorem rcvS_11 (c : Dev nD) : k0_off83 c 12#32 = ![(bw c 11).val] := by revert c; decide +kernel

theorem rcvL_11 (c : Dev nD) : k0_off85 c 12#32 = ![(bw c 11).val, 0, 0] := by revert c; decide +kernel

theorem rcvO_11 (c : Dev nD) : k0_off86 c 12#32 = ![256 * (bw c 11).val, 0] := by revert c; decide +kernel

theorem rcvS_12 (c : Dev nD) : k0_off83 c 13#32 = ![(bw c 12).val] := by revert c; decide +kernel

theorem rcvL_12 (c : Dev nD) : k0_off85 c 13#32 = ![(bw c 12).val, 0, 0] := by revert c; decide +kernel

theorem rcvO_12 (c : Dev nD) : k0_off86 c 13#32 = ![256 * (bw c 12).val, 0] := by revert c; decide +kernel

theorem rcvS_13 (c : Dev nD) : k0_off83 c 14#32 = ![(bw c 13).val] := by revert c; decide +kernel

theorem rcvL_13 (c : Dev nD) : k0_off85 c 14#32 = ![(bw c 13).val, 0, 0] := by revert c; decide +kernel

theorem rcvO_13 (c : Dev nD) : k0_off86 c 14#32 = ![256 * (bw c 13).val, 0] := by revert c; decide +kernel

theorem rcvS_14 (c : Dev nD) : k0_off83 c 15#32 = ![(bw c 14).val] := by revert c; decide +kernel

theorem rcvL_14 (c : Dev nD) : k0_off85 c 15#32 = ![(bw c 14).val, 0, 0] := by revert c; decide +kernel

theorem rcvO_14 (c : Dev nD) : k0_off86 c 15#32 = ![256 * (bw c 14).val, 0] := by revert c; decide +kernel

theorem sgn_0 (c : Dev nD) : (⟨k0_dev1 c, k0_dev1_lt c⟩ : Dev nD) = fw c 1 := by revert c; decide +kernel

theorem sgn_1 (c : Dev nD) : (⟨k0_dev2 c, k0_dev2_lt c⟩ : Dev nD) = fw c 2 := by revert c; decide +kernel

theorem sgn_2 (c : Dev nD) : (⟨k0_dev3 c, k0_dev3_lt c⟩ : Dev nD) = fw c 3 := by revert c; decide +kernel

theorem sgn_3 (c : Dev nD) : (⟨k0_dev4 c, k0_dev4_lt c⟩ : Dev nD) = fw c 4 := by revert c; decide +kernel

theorem sgn_4 (c : Dev nD) : (⟨k0_dev5 c, k0_dev5_lt c⟩ : Dev nD) = fw c 5 := by revert c; decide +kernel

theorem sgn_5 (c : Dev nD) : (⟨k0_dev6 c, k0_dev6_lt c⟩ : Dev nD) = fw c 6 := by revert c; decide +kernel

theorem sgn_6 (c : Dev nD) : (⟨k0_dev7 c, k0_dev7_lt c⟩ : Dev nD) = fw c 7 := by revert c; decide +kernel

theorem sgn_7 (c : Dev nD) : (⟨k0_dev8 c, k0_dev8_lt c⟩ : Dev nD) = fw c 8 := by revert c; decide +kernel

theorem sgn_8 (c : Dev nD) : (⟨k0_dev9 c, k0_dev9_lt c⟩ : Dev nD) = fw c 9 := by revert c; decide +kernel

theorem sgn_9 (c : Dev nD) : (⟨k0_dev10 c, k0_dev10_lt c⟩ : Dev nD) = fw c 10 := by revert c; decide +kernel

theorem sgn_10 (c : Dev nD) : (⟨k0_dev11 c, k0_dev11_lt c⟩ : Dev nD) = fw c 11 := by revert c; decide +kernel

theorem sgn_11 (c : Dev nD) : (⟨k0_dev12 c, k0_dev12_lt c⟩ : Dev nD) = fw c 12 := by revert c; decide +kernel

theorem sgn_12 (c : Dev nD) : (⟨k0_dev13 c, k0_dev13_lt c⟩ : Dev nD) = fw c 13 := by revert c; decide +kernel

theorem sgn_13 (c : Dev nD) : (⟨k0_dev14 c, k0_dev14_lt c⟩ : Dev nD) = fw c 14 := by revert c; decide +kernel

theorem sgn_14 (c : Dev nD) : (⟨k0_dev15 c, k0_dev15_lt c⟩ : Dev nD) = fw c 15 := by revert c; decide +kernel

end Cert.KProof

end
-- ==== Proof.Base.lean ====
module

public import proofs.«01_k».proof.Proof.Offs
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-! The buffers, semaphores and contents the kernel's protocol speaks of. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state: duties are named by the device that pays them. -/
abbrev UB : Type := URounds (GSem nD τ sig) (Dev nD)
/-- With the pipeline's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots and blocks -/

theorem slot_inb (t : Dev nD) : ∀ a, (![t.val, 0, 0] : Fin 3 → Nat) a + S1x256x128.size a ≤ S16x256x128.size a := by
  have : t.val < 16 := t.isLt
  intro a; fin_cases a <;> simp <;> omega
theorem blk_inb (t : Dev nD) : ∀ a, (![256 * t.val, 0] : Fin 2 → Nat) a + S256x128.size a ≤ S4096x128.size a := by
  have : t.val < 16 := t.isLt
  intro a; fin_cases a <;> simp <;> omega
theorem wsl_inb (b : Fin 2) : ∀ a, (![b.val, 0, 0] : Fin 3 → Nat) a + S1x4096x512.size a ≤ S2x4096x512.size a := by
  have := b.isLt
  intro a; fin_cases a <;> simp <;> omega
theorem wck_inb (j : Fin 4) : ∀ a, (![0, 512 * j.val] : Fin 2 → Nat) a + S4096x512.size a ≤ S4096x2048.size a := by
  have := j.isLt
  intro a; fin_cases a <;> simp <;> omega

/-- Slot `t` of the outgoing tiles. -/
abbrev ySlot (t : Dev nD) : Memref sig .tc .vmem S1x256x128 .bf16 :=
  (Memref.whole cc0_scratch3 : Memref sig .tc .vmem S16x256x128 .bf16).slice (Rect.unit (s := S16x256x128) ![t.val, 0, 0] S1x256x128.size (slot_inb t)) (fun _ => rfl)
/-- Slot `s` of the incoming tiles. -/
abbrev rSlot (s : Dev nD) : Memref sig .tc .vmem S1x256x128 .bf16 :=
  (Memref.whole cc0_scratch4 : Memref sig .tc .vmem S16x256x128 .bf16).slice (Rect.unit (s := S16x256x128) ![s.val, 0, 0] S1x256x128.size (slot_inb s)) (fun _ => rfl)
/-- Row block `s` of the result. -/
abbrev oBlk (s : Dev nD) : Memref sig .tc .vmem S256x128 .f32 :=
  (Memref.whole cc0_stg2_0 : Memref sig .tc .vmem S4096x128 .f32).slice (Rect.unit (s := S4096x128) ![256 * s.val, 0] S256x128.size (blk_inb s)) (fun _ => rfl)
/-- Half `b` of the weights' double buffer. -/
abbrev wSlot (b : Fin 2) : Memref sig .tc .vmem S1x4096x512 .f32 :=
  (Memref.whole cc0_scratch2 : Memref sig .tc .vmem S2x4096x512 .f32).slice (Rect.unit (s := S2x4096x512) ![b.val, 0, 0] S1x4096x512.size (wsl_inb b)) (fun _ => rfl)
/-- Column chunk `j` of the weights. -/
abbrev wChk (j : Fin 4) : Memref sig .tc .hbm S4096x512 .f32 :=
  (Memref.whole main_arg1 : Memref sig .tc .hbm S4096x2048 .f32).slice (Rect.unit (s := S4096x2048) ![0, 512 * j.val] S4096x512.size (wck_inb j)) (fun _ => rfl)

/-- The memref held whole-share on core `c`, reading `X`. -/
abbrev has (c : Dev nD) {sp : Space} {sh : Shape} {e : EltTy} (v : Memref sig .tc sp sh e) (X : sh.Idx → Elt F e) : sProp 𝕄 :=
  owns (c : Thread nD τ) v fullShare X
/-- The memref held at some contents. -/
abbrev free (c : Dev nD) {sp : Space} {sh : Shape} {e : EltTy} (v : Memref sig .tc sp sh e) : sProp 𝕄 :=
  iprop(∃ f, (v.view.loc (c : Thread nD τ) ↦[v.view.set]{fullShare} f))

omit [FloatOps F] in
/-- Held at known contents, it is held at some. -/
theorem has_free (c : Dev nD) {sp : Space} {sh : Shape} {e : EltTy} (v : Memref sig .tc sp sh e) (X : sh.Idx → Elt F e) :
    (has c v X : sProp 𝕄) ⊢ free c v := by
  unfold has owns; iintro ⟨%f, -, H⟩; iexists f; iexact H

omit [FloatOps F] in
instance free_storable (c : Dev nD) {sp : Space} {sh : Shape} {e : EltTy} (v : Memref sig .tc sp sh e) :
    BI.Storable (upEmb : UEmb _ 𝕄) (free c v : sProp 𝕄) := by unfold free; infer_instance

/-! ## Semaphores and their cells -/

abbrev barS : Sem sig := (SemArray.scalar (sig.barrier 0 rfl) : Sems sig S_).sem
abbrev xS : DmaSem sig := ⟨3, by decide⟩
abbrev wS (b : Fin 2) : DmaSem sig := ⟨4 + b.val, by have := b.isLt; show _ < 38; omega⟩
abbrev sndS (t : Dev nD) : DmaSem sig := ⟨6 + t.val, by have : t.val < 16 := t.isLt; show _ < 38; omega⟩
abbrev rcvS (s : Dev nD) : DmaSem sig := ⟨22 + s.val, by have : s.val < 16 := s.isLt; show _ < 38; omega⟩

abbrev barCell (c : Dev nD) : GSem nD τ sig := ((c : Thread nD τ), .reg barS)
abbrev xCell (c : Dev nD) : GSem nD τ sig := ((c : Thread nD τ), .dma xS)
abbrev wCell (c : Dev nD) (b : Fin 2) : GSem nD τ sig := ((c : Thread nD τ), .dma (wS b))
abbrev sndCell (c t : Dev nD) : GSem nD τ sig := ((c : Thread nD τ), .dma (sndS t))
abbrev rcvCell (c s : Dev nD) : GSem nD τ sig := ((c : Thread nD τ), .dma (rcvS s))

theorem sem_inb (t : Dev nD) : ∀ a, (![t.val] : Fin 1 → ℕ) a + S1.size a ≤ S16.size a := by
  have : t.val < 16 := t.isLt
  intro a; fin_cases a; simp; omega
theorem snd_sem_at : ∀ t : Dev nD, ((cc0_scratch7.slice (Rect.unit (s := S16) ![t.val] S1.size (sem_inb t))).squeeze S_ squeezes_S1_S_).sem = sndS t := by
  decide +kernel
theorem rcv_sem_at : ∀ t : Dev nD, ((cc0_scratch8.slice (Rect.unit (s := S16) ![t.val] S1.size (sem_inb t))).squeeze S_ squeezes_S1_S_).sem = rcvS t := by
  decide +kernel
/-- The send semaphore a slice names. -/
theorem snd_sem {off : Fin 1 → ℕ} {t : Dev nD} (h : off = ![t.val]) (inb) (q) :
    ((cc0_scratch7.slice (Rect.unit (s := S16) off S1.size inb)).squeeze S_ q).sem = sndS t := by
  subst h; exact snd_sem_at t
/-- The receive semaphore a slice names. -/
theorem rcv_sem {off : Fin 1 → ℕ} {t : Dev nD} (h : off = ![t.val]) (inb) (q) :
    ((cc0_scratch8.slice (Rect.unit (s := S16) off S1.size inb)).squeeze S_ q).sem = rcvS t := by
  subst h; exact rcv_sem_at t
/-- The weights' semaphores. -/
theorem w_sem0 : ((cc0_scratch6.slice (Rect.unit (s := S2) ![0] S1.size inb_S2_S1_0)).squeeze S_ squeezes_S1_S_).sem = wS 0 := by decide +kernel
theorem w_sem1 : ((cc0_scratch6.slice (Rect.unit (s := S2) ![1] S1.size inb_S2_S1_1)).squeeze S_ squeezes_S1_S_).sem = wS 1 := by decide +kernel
theorem x_sem : cc0_scratch5.sem = xS := by decide +kernel

/-- Credits of one transfer of a tile, of the activations, of a weight chunk. -/
@[irreducible] def NT : ℕ := ((rSlot 0).squeeze S256x128 squeezes_S1x256x128_S256x128).view.dmaCredit
@[irreducible] def NX : ℕ := (Memref.whole cc0_scratch0 : Memref sig .tc .vmem S256x4096 .f32).view.dmaCredit
@[irreducible] def NW : ℕ := ((wSlot 0).squeeze S4096x512 squeezes_S1x4096x512_S4096x512).view.dmaCredit
theorem NT_eq : ((rSlot 0).squeeze S256x128 squeezes_S1x256x128_S256x128).view.dmaCredit = NT := by unfold NT; rfl
theorem NT_pos : 0 < NT := NT_eq ▸ View.dmaCredit_pos _ (by decide)
theorem NX_eq : (Memref.whole cc0_scratch0 : Memref sig .tc .vmem S256x4096 .f32).view.dmaCredit = NX := by unfold NX; rfl
theorem NX_pos : 0 < NX := NX_eq ▸ View.dmaCredit_pos _ (by decide)
theorem NW_eq : ((wSlot 0).squeeze S4096x512 squeezes_S1x4096x512_S4096x512).view.dmaCredit = NW := by unfold NW; rfl
theorem NW_pos : 0 < NW := NW_eq ▸ View.dmaCredit_pos _ (by decide)

theorem NT_r (s : Dev nD) : ((rSlot s).squeeze S256x128 squeezes_S1x256x128_S256x128).view.dmaCredit = NT := NT_eq ▸ (by rfl)
theorem NW_w (b : Fin 2) : ((wSlot b).squeeze S4096x512 squeezes_S1x4096x512_S4096x512).view.dmaCredit = NW := NW_eq ▸ (by rfl)
/-- An outgoing slot, squeezed, counts as much as an incoming one. -/
theorem NT_y (t : Dev nD) : ((ySlot t).squeeze S256x128 squeezes_S1x256x128_S256x128).view.dmaCredit = NT := NT_eq ▸ (by rfl)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The device's activations and weights at launch. -/
def xv (c : Dev nD) : Buf (Elt F) ((c : Thread nD τ).loc main_arg0) := m ((c : Thread nD τ).loc main_arg0)
def wv (c : Dev nD) : Buf (Elt F) ((c : Thread nD τ).loc main_arg1) := m ((c : Thread nD τ).loc main_arg1)
/-- The two staged scales. -/
def s0v (c : Dev nD) : (cc0_stg0_0 : Ref sig .tc).ty.Contents (Elt F) :=
  (win0_0.blk (0 : Fin 1)).view.read (Elt F) ((s₀ m ρ).mem ((c : Thread nD τ).loc main_arg2))
def s1v (c : Dev nD) : (cc0_stg1_0 : Ref sig .tc).ty.Contents (Elt F) :=
  (win0_1.blk (0 : Fin 1)).view.read (Elt F) ((s₀ m ρ).mem ((c : Thread nD τ).loc main_arg3))
/-- The one element of a staged scale, as the kernel reads it. -/
def at0 (f : (cc0_stg0_0 : Ref sig .tc).ty.Contents (Elt F)) : Elt F .f32 :=
  ((Memref.whole cc0_stg0_0 : Memref sig .tc .smem S1 .f32).access (Rect.unit (s := S1) ![0] S1.size inb_S1_S1_0)).read (Elt F) f
    (Shape.Idx.first (numel1_S1.symm ▸ Nat.one_pos))
def at1 (f : (cc0_stg1_0 : Ref sig .tc).ty.Contents (Elt F)) : Elt F .f32 :=
  ((Memref.whole cc0_stg1_0 : Memref sig .tc .smem S1 .f32).access (Rect.unit (s := S1) ![0] S1.size inb_S1_S1_0)).read (Elt F) f
    (Shape.Idx.first (numel1_S1.symm ▸ Nat.one_pos))
/-- The product of the scales. -/
def sc (c : Dev nD) : F .f32 := k0_pay1 (at0 (s0v m ρ c)) (at1 (s1v m ρ c))
/-- The activations cast to bfloat16. -/
def xb (c : Dev nD) : (cc0_scratch1 : Ref sig .tc).ty.Contents (Elt F) := k0_pay2 (xv m c)
/-- Column chunk `j` of the weights, in the shape of a slot of the double buffer. -/
def wval (c : Dev nD) (j : Fin 4) : Vec F S1x4096x512 .f32 :=
  fun x => (wChk j).view.read (Elt F) (wv m c) ((Shape.reshapeEquiv (Shape.Squeezes.numel_eq squeezes_S1x4096x512_S4096x512)).symm x)
/-- The chunk an index names. -/
def ck (n : ℕ) : Fin 4 := ⟨n % 4, Nat.mod_lt _ (by decide)⟩
/-- The activation of the device's rows against chunk `j`. -/
def actv (c : Dev nD) (j : ℕ) : FVec F S256x512 .f32 := k0_pay3 (sc m ρ c) (xb m c) (wval m c (ck j))
/-- The `i`-th of a chunk's four column tiles. -/
def sub4 (i : ℕ) (v : FVec F S256x512 .f32) : FVec F S256x128 .f32 :=
  match i with
  | 0 => extractStridedSlice S256x128 ![0, 0] v slices_S256x512_o0_0_S256x128
  | 1 => extractStridedSlice S256x128 ![0, 128] v slices_S256x512_o0_128_S256x128
  | 2 => extractStridedSlice S256x128 ![0, 256] v slices_S256x512_o0_256_S256x128
  | _ => extractStridedSlice S256x128 ![0, 384] v slices_S256x512_o0_384_S256x128
/-- What device `c` computes for device `t`. -/
def tileF (c t : Dev nD) : FVec F S256x128 .f32 := sub4 (t.val % 4) (actv m ρ c (t.val / 4))
/-- A tile as it travels. -/
def packT (v : FVec F S256x128 .f32) : FVec F S1x256x128 .bf16 :=
  shapeCast S1x256x128 (truncf .bf16 v bitsLt_bf16_f32) shapeCasts_S256x128_S1x256x128
/-- A tile as it is unpacked. -/
def unpackT (v : Vec F S1x256x128 .bf16) : FVec F S256x128 .f32 :=
  extf .f32 (shapeCast S256x128 v shapeCasts_S1x256x128_S256x128) bitsLt_bf16_f32
def tileB (c t : Dev nD) : Vec F S1x256x128 .bf16 := packT (tileF m ρ c t)
/-- Row block `s` of device `c`'s result. -/
def outB (c s : Dev nD) : FVec F S256x128 .f32 := if s = c then tileF m ρ c c else unpackT (tileB m ρ s c)

/-- The tile made `k`-th is the `k % 4`-th column tile of the chunk of step `k / 4`. -/
theorem tileF_tl (c : Dev nD) (k : Fin 16) : tileF m ρ c (tl c k.val) = sub4 (k.val % 4) (actv m ρ c (wc c (k.val / 4))) := by
  unfold tileF; rw [tl_mod, tl_div]

end Cert.KProof

end
-- ==== Proof.Sched.lean ====
module

public import proofs.«01_k».proof.Proof.Base

/-! The protocol's schedule: who pays which semaphore's round, how much, and what it hands over; what a device owes; the levels. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each duty hands over -/

/-- What device `d`'s signal hands device `c`: slot `c` of `d`'s incoming tiles. -/
def barPay (c d : Dev nD) : sProp 𝕄 := free d (rSlot c)
/-- The activations landed, and their source back. -/
def xPay (c : Dev nD) : sProp 𝕄 :=
  iprop((((c : Thread nD τ).loc cc0_scratch0) ↦{fullShare} (xv m c : (cc0_scratch0 : Ref sig .tc).ty.Contents (Elt F)))
    ∗ (((c : Thread nD τ).loc main_arg0) ↦{fullShare} xv m c))
/-- The weights' chunk `j` as the device holds it. -/
def wPts (c : Dev nD) (j : Fin 4) : sProp 𝕄 := ((wChk j).view.loc (c : Thread nD τ) ↦[(wChk j).view.set]{fullShare} wv m c)
/-- The chunk of step `k` landed in its half of the double buffer, and its source back. -/
def wPay (c : Dev nD) (b : Fin 2) (k : ℕ) : sProp 𝕄 :=
  iprop(has c (wSlot b) (wval m c (ck (wc c k))) ∗ wPts m c (ck (wc c k)))
/-- An outgoing slot back. -/
def sndPay (c t : Dev nD) : sProp 𝕄 := free c (ySlot t)
/-- Device `s`'s tile landed. -/
def rcvPay (c s : Dev nD) : sProp 𝕄 := has c (rSlot s) (tileB m ρ s c)

/-- Who pays round `r` of a semaphore of device `c`. -/
def dut (c : Dev nD) (sm : SemLoc sig) (r : ℕ) : Finset (Dev nD) :=
  match sm with
  | .reg _ => if r = 0 then Finset.univ.erase c else ∅
  | .dma i =>
    if i.val < 3 then ∅
    else if i.val = 3 then (if r = 0 then {c} else ∅)
    else if i.val < 6 then (if r < 2 then {c} else ∅)
    else if i.val < 22 then (if r = 0 ∧ dv (i.val - 6) ≠ c then {c} else ∅)
    else (if r = 0 ∧ dv (i.val - 22) ≠ c then {dv (i.val - 22)} else ∅)

/-- How much each duty adds. -/
def amt (sm : SemLoc sig) : ℕ :=
  match sm with
  | .reg _ => 1
  | .dma i => if i.val < 4 then NX else if i.val < 6 then NW else NT

/-- What each duty hands over. -/
def pay (c : Dev nD) (sm : SemLoc sig) (r : ℕ) (d : Dev nD) : sProp 𝕄 :=
  match sm with
  | .reg _ => barPay c d
  | .dma i =>
    if i.val < 4 then xPay m c
    else if i.val < 5 then wPay m c 0 (2 * r)
    else if i.val < 6 then wPay m c 1 (1 + 2 * r)
    else if i.val < 22 then sndPay c (dv (i.val - 6))
    else rcvPay m ρ c (dv (i.val - 22))

theorem amt_pos (sm : SemLoc sig) : 0 < amt sm := by
  unfold amt
  split
  · exact Nat.one_pos
  · split
    · exact NX_pos
    · split
      · exact NW_pos
      · exact NT_pos

/-- The schedule: the barrier's round of the other devices' signals; one round of the activations' transfer, two of
    each half of the weights' buffer; one round of each tile sent and each tile received. -/
def Rd : Rounds.Schedule (GSem nD τ sig) (Dev nD) 𝕄 where
  duties g r := dut g.1.1 g.2 r
  unitless _ := False
  amount g _ _ := amt g.2
  payload g r d := pay m ρ g.1.1 g.2 r d
  amount_pos g _ _ _ := amt_pos g.2

instance Rd_storable (g : GSem nD τ sig) (r : ℕ) (d : Dev nD) :
    BI.Storable (upEmb : UEmb _ 𝕄) ((Rd (F := F) m ρ).payload g r d) := by
  show BI.Storable upEmb (pay m ρ g.1.1 g.2 r d)
  unfold pay
  split
  · exact free_storable _ _
  · split
    · unfold xPay; infer_instance
    · split
      · unfold wPay wPts has; infer_instance
      · split
        · unfold wPay wPts has; infer_instance
        · split
          · exact free_storable _ _
          · exact owns_storable _ _ _ _

theorem dv_snd (t : Dev nD) : dv (6 + t.val - 6) = t := by rw [Nat.add_sub_cancel_left, dv_val]
theorem dv_rcv (t : Dev nD) : dv (22 + t.val - 22) = t := by rw [Nat.add_sub_cancel_left, dv_val]

section Tables
variable (c : Dev nD)

theorem dut_bar : (Rd (F := F) m ρ).duties (barCell c) 0 = Finset.univ.erase c := rfl
theorem dut_x : (Rd (F := F) m ρ).duties (xCell c) 0 = {c} := rfl
theorem dut_w (b : Fin 2) (r : Fin 2) : (Rd (F := F) m ρ).duties (wCell c b) r.val = {c} := by
  show dut c (.dma (wS b)) r.val = {c}
  fin_cases b <;> fin_cases r <;> rfl
theorem dut_snd (t : Dev nD) (h : t ≠ c) : (Rd (F := F) m ρ).duties (sndCell c t) 0 = {c} := by
  show dut c (.dma (sndS t)) 0 = {c}
  have h1 : t.val < 16 := t.isLt
  unfold dut
  simp only [dv_snd]
  rw [if_neg (by show ¬ (6 + t.val < 3); omega), if_neg (by show ¬ (6 + t.val = 3); omega), if_neg (by show ¬ (6 + t.val < 6); omega),
    if_pos (by show 6 + t.val < 22; omega), if_pos ⟨trivial, h⟩]
theorem dut_rcv (s : Dev nD) (h : s ≠ c) : (Rd (F := F) m ρ).duties (rcvCell c s) 0 = {s} := by
  show dut c (.dma (rcvS s)) 0 = {s}
  have h1 : s.val < 16 := s.isLt
  unfold dut
  simp only [dv_rcv]
  rw [if_neg (by show ¬ (22 + s.val < 3); omega), if_neg (by show ¬ (22 + s.val = 3); omega), if_neg (by show ¬ (22 + s.val < 6); omega),
    if_neg (by show ¬ (22 + s.val < 22); omega), if_pos ⟨trivial, h⟩]

/-- No round after the second. -/
theorem dut_late (g : GSem nD τ sig) (r : ℕ) (h : 2 ≤ r) : (Rd (F := F) m ρ).duties g r = ∅ := by
  show dut g.1.1 g.2 r = ∅
  unfold dut
  split
  · rw [if_neg (by omega)]
  · (repeat' split) <;> first | rfl | omega
/-- Only the weights' cells have a second. -/
theorem dut_late1 (g : GSem nD τ sig) (hg : ∀ b, g.2 ≠ .dma (wS b)) (r : ℕ) (h : 1 ≤ r) : (Rd (F := F) m ρ).duties g r = ∅ := by
  show dut g.1.1 g.2 r = ∅
  obtain ⟨t, sm⟩ := g
  cases sm with
  | reg _ => unfold dut; rw [if_neg (by omega)]
  | dma i =>
    have h4 : i.val ≠ 4 := fun h' => hg 0 (congrArg _ (Fin.ext h'))
    have h5 : i.val ≠ 5 := fun h' => hg 1 (congrArg _ (Fin.ext h'))
    unfold dut
    dsimp only
    (repeat' split) <;> first | rfl | omega
/-- A device's cells for itself have none. -/
theorem dut_snd_self (r : ℕ) : (Rd (F := F) m ρ).duties (sndCell c c) r = ∅ := by
  show dut c (.dma (sndS c)) r = ∅
  have h1 : c.val < 16 := c.isLt
  unfold dut
  simp only [dv_snd]
  rw [if_neg (by show ¬ (6 + c.val < 3); omega), if_neg (by show ¬ (6 + c.val = 3); omega), if_neg (by show ¬ (6 + c.val < 6); omega),
    if_pos (by show 6 + c.val < 22; omega), if_neg (fun h => h.2 rfl)]
theorem dut_rcv_self (r : ℕ) : (Rd (F := F) m ρ).duties (rcvCell c c) r = ∅ := by
  show dut c (.dma (rcvS c)) r = ∅
  have h1 : c.val < 16 := c.isLt
  unfold dut
  simp only [dv_rcv]
  rw [if_neg (by show ¬ (22 + c.val < 3); omega), if_neg (by show ¬ (22 + c.val = 3); omega), if_neg (by show ¬ (22 + c.val < 6); omega),
    if_neg (by show ¬ (22 + c.val < 22); omega), if_neg (fun h => h.2 rfl)]

theorem amt_bar (r : ℕ) (d : Dev nD) : (Rd (F := F) m ρ).amount (barCell c) r d = 1 := rfl
theorem amt_x (r : ℕ) (d : Dev nD) : (Rd (F := F) m ρ).amount (xCell c) r d = NX := rfl
theorem amt_w (b : Fin 2) (r : ℕ) (d : Dev nD) : (Rd (F := F) m ρ).amount (wCell c b) r d = NW := by
  show amt (.dma (wS b)) = NW
  fin_cases b <;> rfl
theorem amt_snd (t : Dev nD) (r : ℕ) (d : Dev nD) : (Rd (F := F) m ρ).amount (sndCell c t) r d = NT := by
  show amt (.dma (sndS t)) = NT
  have h1 : t.val < 16 := t.isLt
  unfold amt
  dsimp only
  rw [if_neg (by show ¬ (6 + t.val < 4); omega), if_neg (by show ¬ (6 + t.val < 6); omega)]
theorem amt_rcv (s : Dev nD) (r : ℕ) (d : Dev nD) : (Rd (F := F) m ρ).amount (rcvCell c s) r d = NT := by
  show amt (.dma (rcvS s)) = NT
  have h1 : s.val < 16 := s.isLt
  unfold amt
  dsimp only
  rw [if_neg (by show ¬ (22 + s.val < 4); omega), if_neg (by show ¬ (22 + s.val < 6); omega)]

theorem exp_bar : (Rd (F := F) m ρ).expect (barCell c) 0 = 15 := by
  unfold Schedule.expect Schedule.amountOf
  rw [dut_bar, Finset.sum_congr rfl fun d _ => amt_bar m ρ c 0 d, Finset.sum_const, Finset.card_erase_of_mem (Finset.mem_univ _), Finset.card_univ,
    Fintype.card_fin]
  rfl
theorem exp_x : (Rd (F := F) m ρ).expect (xCell c) 0 = NX := by
  unfold Schedule.expect Schedule.amountOf; rw [dut_x, Finset.sum_singleton, amt_x]
theorem exp_w (b : Fin 2) (r : Fin 2) : (Rd (F := F) m ρ).expect (wCell c b) r.val = NW := by
  unfold Schedule.expect Schedule.amountOf; rw [dut_w, Finset.sum_singleton, amt_w]
theorem exp_snd (t : Dev nD) (h : t ≠ c) : (Rd (F := F) m ρ).expect (sndCell c t) 0 = NT := by
  unfold Schedule.expect Schedule.amountOf; rw [dut_snd m ρ c t h, Finset.sum_singleton, amt_snd]
theorem exp_rcv (s : Dev nD) (h : s ≠ c) : (Rd (F := F) m ρ).expect (rcvCell c s) 0 = NT := by
  unfold Schedule.expect Schedule.amountOf; rw [dut_rcv m ρ c s h, Finset.sum_singleton, amt_rcv]

theorem pay_bar (d : Dev nD) : (Rd (F := F) m ρ).payload (barCell c) 0 d = barPay c d := rfl
theorem pay_x (d : Dev nD) : (Rd (F := F) m ρ).payload (xCell c) 0 d = xPay m c := rfl
theorem pay_w (b : Fin 2) (r : Fin 2) (d : Dev nD) : (Rd (F := F) m ρ).payload (wCell c b) r.val d = wPay m c b (b.val + 2 * r.val) := by
  show pay m ρ c (.dma (wS b)) r.val d = _
  fin_cases b <;> fin_cases r <;> rfl
theorem pay_snd (t d : Dev nD) : (Rd (F := F) m ρ).payload (sndCell c t) 0 d = sndPay c t := by
  show pay m ρ c (.dma (sndS t)) 0 d = _
  have h1 : t.val < 16 := t.isLt
  unfold pay
  simp only [dv_snd]
  rw [if_neg (by show ¬ (6 + t.val < 4); omega), if_neg (by show ¬ (6 + t.val < 5); omega), if_neg (by show ¬ (6 + t.val < 6); omega),
    if_pos (by show 6 + t.val < 22; omega)]
theorem pay_rcv (s d : Dev nD) : (Rd (F := F) m ρ).payload (rcvCell c s) 0 d = rcvPay m ρ c s := by
  show pay m ρ c (.dma (rcvS s)) 0 d = _
  have h1 : s.val < 16 := s.isLt
  unfold pay
  simp only [dv_rcv]
  rw [if_neg (by show ¬ (22 + s.val < 4); omega), if_neg (by show ¬ (22 + s.val < 5); omega), if_neg (by show ¬ (22 + s.val < 6); omega),
    if_neg (by show ¬ (22 + s.val < 22); omega)]

theorem rest_bar : bigSep ((Rd (F := F) m ρ).duties (barCell c) 0 \ ∅) (fun d => (Rd (F := F) m ρ).payload (barCell c) 0 d)
    = bigSep (Finset.univ.erase c) (fun d => barPay (F := F) c d) := by
  rw [Finset.sdiff_empty, dut_bar]; rfl
theorem rest_x : bigSep ((Rd (F := F) m ρ).duties (xCell c) 0 \ ∅) (fun d => (Rd (F := F) m ρ).payload (xCell c) 0 d) = xPay m c := by
  rw [Finset.sdiff_empty, dut_x, bigSep_singleton]; rfl
theorem rest_w (b : Fin 2) (r : Fin 2) : bigSep ((Rd (F := F) m ρ).duties (wCell c b) r.val \ ∅) (fun d => (Rd (F := F) m ρ).payload (wCell c b) r.val d)
    = wPay m c b (b.val + 2 * r.val) := by
  rw [Finset.sdiff_empty, dut_w, bigSep_singleton, pay_w]
theorem rest_snd (t : Dev nD) (h : t ≠ c) :
    bigSep ((Rd (F := F) m ρ).duties (sndCell c t) 0 \ ∅) (fun d => (Rd (F := F) m ρ).payload (sndCell c t) 0 d) = sndPay c t := by
  rw [Finset.sdiff_empty, dut_snd m ρ c t h, bigSep_singleton, pay_snd]
theorem rest_rcv (s : Dev nD) (h : s ≠ c) :
    bigSep ((Rd (F := F) m ρ).duties (rcvCell c s) 0 \ ∅) (fun d => (Rd (F := F) m ρ).payload (rcvCell c s) 0 d) = rcvPay m ρ c s := by
  rw [Finset.sdiff_empty, dut_rcv m ρ c s h, bigSep_singleton, pay_rcv]

end Tables

/-! ## What a device owes, and the levels -/

/-- What device `c` owes for its `k`-th tile: the credit at the tile's device, nothing for its own. -/
def oT (c : Dev nD) (k : ℕ) : CellTallies nD τ sig Unit := if tl c k = c then 0 else tallyAt (rcvCell (tl c k) c) () NT
/-- What it owes with `n` tiles left. -/
def oS (c : Dev nD) : ℕ → CellTallies nD τ sig Unit
  | 0 => 0
  | n + 1 => oS c n + oT c (15 - n)
/-- What it owes with `n` signals left and every tile. -/
def oG (c : Dev nD) : ℕ → CellTallies nD τ sig Unit
  | 0 => oS c 16
  | n + 1 => oG c n + tallyAt (barCell (fw c (15 - n))) () 1

def L (g : GSem nD τ sig) : Finset Unit := if g.1.2 = .tc then {()} else ∅
/-- Barrier cells at 1, receive cells at 2, everything else at 0. -/
def lv (g : GSem nD τ sig) (_ : Unit) : ℕ :=
  match g.2 with
  | .reg _ => 1
  | .dma i => if i.val < 22 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_rcv (c s : Dev nD) : lv (rcvCell c s) () = 2 := by
  unfold lv; dsimp only; rw [if_neg (by show ¬ (22 + s.val < 22); omega)]

theorem oS_pos {c : Dev nD} {g : GSem nD τ sig} {u : Unit} : ∀ {n : ℕ}, 0 < oS c n g u → ∃ t, g = rcvCell t c
  | 0, h => absurd h (Nat.lt_irrefl 0)
  | n + 1, h => by
    unfold oS at h
    rw [Pi.add_apply, Finsupp.add_apply] at h
    rcases Nat.eq_zero_or_pos (oS c n g u) with h0 | h0
    · rw [h0, Nat.zero_add] at h
      unfold oT at h
      split at h
      · exact absurd h (Nat.lt_irrefl 0)
      · rw [tallyAt_apply] at h
        by_cases hg : g = rcvCell (tl c (15 - n)) c ∧ u = ()
        · exact ⟨_, hg.1⟩
        · rw [if_neg hg] at h; exact absurd h (Nat.lt_irrefl 0)
    · exact oS_pos h0
theorem oG_pos {c : Dev nD} {g : GSem nD τ sig} {u : Unit} : ∀ {n : ℕ}, 0 < oG c n g u → (∃ t, g = rcvCell t c) ∨ ∃ t, g = barCell t
  | 0, h => .inl (oS_pos h)
  | n + 1, h => by
    unfold oG at h
    rw [Pi.add_apply, Finsupp.add_apply] at h
    rcases Nat.eq_zero_or_pos (oG c n g u) with h0 | h0
    · rw [h0, Nat.zero_add, tallyAt_apply] at h
      by_cases hg : g = barCell (fw c (15 - n)) ∧ u = ()
      · exact .inr ⟨_, hg.1⟩
      · rw [if_neg hg] at h; exact absurd h (Nat.lt_irrefl 0)
    · exact oG_pos h0

omit [FloatOps F] in
/-- A device may wait on a cell at level 0 whatever it owes. -/
theorem mayWait_low (c : Dev nD) (q : DmaSem sig) (hq : q.val < 22) (n : ℕ) :
    (levAts L lv : sProp 𝕄) ⊢ MayWait (c : Thread nD τ) (.dma q) () (oG c n) :=
  MayOwe.of_cut (L := L) (lev := lv) 0 (fun p hp => by rw [Finset.mem_singleton.mp hp, L_tc]; exact Finset.mem_singleton_self _)
    (fun g u hg => by rcases oG_pos hg with ⟨t, rfl⟩ | ⟨t, rfl⟩ <;> exact Finset.mem_singleton_self _)
    (fun p hp => by rw [Finset.mem_singleton.mp hp]; unfold lv; dsimp only; rw [if_pos hq])
    (fun g u hg => by
      rcases oG_pos hg with ⟨t, rfl⟩ | ⟨t, rfl⟩
      · rw [lv_rcv]; decide
      · unfold lv; dsimp only; decide)
omit [FloatOps F] in
theorem mayWait_lowS (c : Dev nD) (q : DmaSem sig) (hq : q.val < 22) (n : ℕ) :
    (levAts L lv : sProp 𝕄) ⊢ MayWait (c : Thread nD τ) (.dma q) () (oS c n) :=
  MayOwe.of_cut (L := L) (lev := lv) 0 (fun p hp => by rw [Finset.mem_singleton.mp hp, L_tc]; exact Finset.mem_singleton_self _)
    (fun g u hg => by obtain ⟨t, rfl⟩ := oS_pos hg; exact Finset.mem_singleton_self _)
    (fun p hp => by rw [Finset.mem_singleton.mp hp]; unfold lv; dsimp only; rw [if_pos hq])
    (fun g u hg => by obtain ⟨t, rfl⟩ := oS_pos hg; rw [lv_rcv]; decide)
omit [FloatOps F] in
/-- At its barrier wait a device owes receive cells only, above its barrier cell. -/
theorem mayWait_bar (c : Dev nD) (n : ℕ) :
    (levAts L lv : sProp 𝕄) ⊢ MayWait (c : Thread nD τ) (.reg barS) () (oS c n) :=
  MayOwe.of_cut (L := L) (lev := lv) 1 (fun p hp => by rw [Finset.mem_singleton.mp hp, L_tc]; exact Finset.mem_singleton_self _)
    (fun g u hg => by obtain ⟨t, rfl⟩ := oS_pos hg; exact Finset.mem_singleton_self _)
    (fun p hp => by rw [Finset.mem_singleton.mp hp]; unfold lv; exact le_rfl)
    (fun g u hg => by obtain ⟨t, rfl⟩ := oS_pos hg; rw [lv_rcv]; decide)

end Cert.KProof

end
-- ==== Proof.Ops.lean ====
module

public import proofs.«01_k».proof.Proof.Sched
public import Idealize.ShloMosaic.Lib.ViewIndex

/-! The states the body's steps pass through, counted, and one lemma per kind of step. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none
/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of a slot -/

/-- A slot read whole gives what it holds. -/
theorem slot_load (c : Dev nD) {cs : CoreSpace} {s : Shape} {e : EltTy} (M : Memref sig .tc cs s e) (r : Rect s) (hr)
    (X : r.shape.Idx → Elt F e) {hl : M.view.LoadsAt r.toLoadRect} {α : Type} {k : (r.shape.Idx → Elt F e) → Prog (TpuEff nD τ sig (Elt F) Λ₀ .tc) α}
    {Q : α → sProp 𝕄} :
    (has c (M.slice r hr) X : sProp 𝕄) ⊢ iprop((has c (M.slice r hr) X -∗ wpc c (k X) Q) -∗ wpc c (.op (.load M r.toLoadRect hl) k) Q) := by
  unfold has owns
  iintro ⟨%f, %hf, H⟩ Hk
  iapply (wp_load_rect 𝒱₀ (c : Thread nD τ) none Set.univ (m := M) (r := r) subset_rfl) $$ H
  iintro H
  rw [show (M.access r).read (Elt F) f = X from hf]
  iapply Hk
  iexists f
  isplitr; · ipureintro; exact hf
  iexact H

/-- A slot loaded, the value dropped, and stored whole: it holds what was stored. -/
theorem slot_store (c : Dev nD) {cs : CoreSpace} {s : Shape} {e : EltTy} (M : Memref sig .tc cs s e) (r : Rect s) (hr)
    (w : r.shape.Idx → Elt F e) {hl : M.view.LoadsAt r.toLoadRect} {hx} {hm}
    {α : Type} {k : Prog (TpuEff nD τ sig (Elt F) Λ₀ .tc) α} {Q : α → sProp 𝕄} :
    (free c (M.slice r hr) : sProp 𝕄) ⊢ iprop((has c (M.slice r hr) w -∗ wpc c k Q)
      -∗ wpc c (.op (.load M r.toLoadRect hl) fun _ => .op (.store M r w Finset.univ hx hm) fun _ => k) Q) := by
  unfold free has owns
  iintro ⟨%f, H⟩ Hk
  iapply (wp_load_rect 𝒱₀ (c : Thread nD τ) none Set.univ (m := M) (r := r) subset_rfl) $$ H
  iintro H
  iapply (wp_store 𝒱₀ (c : Thread nD τ) none Set.univ (m := M) (r := r) (w := w) (Mk := Finset.univ) (S := (M.access r).set) subset_rfl) $$ H
  iintro H
  iapply Hk
  iexists ((M.access r).write (Elt F) f w Finset.univ)
  isplitr; · ipureintro; exact View.read_write_univ _ _
  iexact H

/-! ## The counted states -/

omit [FloatOps F] in
/-- One summand taken out of a finite separating conjunction, and another put in its place. -/
theorem bump {I : Type} [Fintype I] [DecidableEq I] (Φ Φ' : I → sProp 𝕄) (i : I) (h : ∀ j, j ≠ i → Φ j = Φ' j) :
    bigSep Finset.univ Φ ⊢ iprop(Φ i ∗ (Φ' i -∗ bigSep Finset.univ Φ')) := by
  have e1 : bigSep Finset.univ Φ = iprop(Φ i ∗ bigSep (Finset.univ.erase i) Φ) := BI.bigSep_erase (Finset.mem_univ i)
  have e2 : bigSep Finset.univ Φ' = iprop(Φ' i ∗ bigSep (Finset.univ.erase i) Φ') := BI.bigSep_erase (Finset.mem_univ i)
  rw [e1, e2, bigSep_congr (s := Finset.univ.erase i) fun j hj => h j (Finset.ne_of_mem_erase hj)]
  iintro ⟨H, Hr⟩
  isplitl [H]; · iexact H
  iintro H
  isplitl [H]; · iexact H
  iexact Hr

omit [FloatOps F] in
theorem bump_eq {I : Type} [Fintype I] [DecidableEq I] {Φ Φ' : I → sProp 𝕄} {i : I} (h : ∀ j, j ≠ i → Φ j = Φ' j) {X Y : sProp 𝕄} (hX : Φ i = X)
    (hY : Φ' i = Y) : bigSep Finset.univ Φ ⊢ iprop(X ∗ (Y -∗ bigSep Finset.univ Φ')) := hX ▸ hY ▸ bump Φ Φ' i h

theorem tl_ne {c t : Dev nD} {k : ℕ} (hk : k < 16) (h : t ≠ tl c k) : rk c t ≠ k := fun h' => h (by rw [← h', tl_rk])
theorem lt_bump {c t : Dev nD} {k : ℕ} (hk : k < 16) (h : t ≠ tl c k) : (rk c t < k + 1) = (rk c t < k) :=
  propext ⟨fun h1 => lt_of_le_of_ne (Nat.lt_succ_iff.mp h1) (tl_ne hk h), fun h1 => Nat.lt_succ_of_lt h1⟩
theorem rk_at (c : Dev nD) {k : ℕ} (hk : k < 16) : rk c (tl c k) = k := rk_tl c ⟨k, hk⟩

/-- What device `c` holds for a tile it has yet to send. -/
def toSend (c t : Dev nD) : sProp 𝕄 :=
  iprop(dutyTok ER (sndCell c t) 0 c ∗ dutyTok ER (rcvCell t c) 0 c ∗ atPos ER (sndCell c t) 0 ∅ 0)
/-- The state of device `c`'s tile for device `t` once the first `a` tiles are stored, the first `b` sent and the first `d`
    waited for. -/
def tileSt (c : Dev nD) (a b d : ℕ) (t : Dev nD) : sProp 𝕄 :=
  if t = c then iprop(free c (ySlot t) ∗ atPos ER (sndCell c t) 0 ∅ 0)
  else if rk c t < d then iprop(free c (ySlot t) ∗ atPos ER (sndCell c t) 1 ∅ 0)
  else if rk c t < b then iprop(cred (tallyAt (sndCell c t) () NT) ∗ atPos ER (sndCell c t) 0 ∅ 0)
  else if rk c t < a then iprop(has c (ySlot t) (tileB m ρ c t) ∗ toSend c t)
  else iprop(free c (ySlot t) ∗ toSend c t)
def tiles (c : Dev nD) (a b d : ℕ) : sProp 𝕄 := bigSep Finset.univ (tileSt m ρ c a b d)

/-- Device `c`'s own row block of its result, once the first `k` tiles are computed. -/
def ownOut (c : Dev nD) (k : ℕ) : sProp 𝕄 := if rk c c < k then has c (oBlk c) (outB m ρ c c) else free c (oBlk c)

/-- The `k`-th tile stored. -/
theorem tile_store (c : Dev nD) (k : ℕ) (hk : k < 16) (b : ℕ) (hb : b ≤ k) {off : Fin 3 → ℕ} (hoff : off = ![(tl c k).val, 0, 0]) {inb inb' hl hx hm}
    {w : FVec F S1x256x128 .bf16} (hw : w = packT (sub4 (k % 4) (actv m ρ c (wc c (k / 4)))))
    {α : Type} {p : Prog (TpuEff nD τ sig (Elt F) Λ₀ .tc) α} {Q : α → sProp 𝕄} :
    tiles m ρ c k b 0 ⊢ iprop((tiles m ρ c (k + 1) b 0 -∗ wpc c p Q)
      -∗ wpc c (.op (.load (Memref.whole cc0_scratch3 : Memref sig .tc .vmem S16x256x128 .bf16) (Rect.unit (s := S16x256x128) off S1x256x128.size inb).toLoadRect hl)
          fun _ => .op (.store (Memref.whole cc0_scratch3 : Memref sig .tc .vmem S16x256x128 .bf16) (Rect.unit (s := S16x256x128) off S1x256x128.size inb') w Finset.univ hx hm) fun _ => p) Q) := by
  subst hoff
  have hw' : w = tileB m ρ c (tl c k) := hw.trans (congrArg packT (tileF_tl m ρ c ⟨k, hk⟩).symm)
  subst hw'
  have hB := fun {X Y : sProp 𝕄} (hX : tileSt m ρ c k b 0 (tl c k) = X) (hY : tileSt m ρ c (k + 1) b 0 (tl c k) = Y) =>
    bump_eq (Φ := tileSt m ρ c k b 0) (Φ' := tileSt m ρ c (k + 1) b 0) (fun t ht => by unfold tileSt; simp only [lt_bump hk ht]) hX hY
  unfold tiles
  iintro H Hk
  by_cases hc : tl c k = c
  · have e1 : tileSt m ρ c k b 0 (tl c k) = iprop(free c (ySlot (tl c k)) ∗ atPos ER (sndCell c (tl c k)) 0 ∅ 0) := by unfold tileSt; rw [if_pos hc]
    have e2 : tileSt m ρ c (k + 1) b 0 (tl c k) = iprop(free c (ySlot (tl c k)) ∗ atPos ER (sndCell c (tl c k)) 0 ∅ 0) := by unfold tileSt; rw [if_pos hc]
    ihave H := (hB e1 e2) $$ H
    icases H with ⟨⟨H, Ha⟩, Hr⟩
    iapply (slot_store c _ _ (fun _ => rfl) _) $$ H
    iintro H
    iapply Hk
    iapply Hr
    isplitl [H]; · iapply (has_free c (ySlot (tl c k))); iexact H
    iexact Ha
  · have e1 : tileSt m ρ c k b 0 (tl c k) = iprop(free c (ySlot (tl c k)) ∗ toSend c (tl c k)) := by
      unfold tileSt; rw [if_neg hc, rk_at c hk, if_neg (Nat.not_lt_zero _), if_neg (Nat.not_lt.mpr hb), if_neg (lt_irrefl k)]
    have e2 : tileSt m ρ c (k + 1) b 0 (tl c k) = iprop(has c (ySlot (tl c k)) (tileB m ρ c (tl c k)) ∗ toSend c (tl c k)) := by
      unfold tileSt; rw [if_neg hc, rk_at c hk, if_neg (Nat.not_lt_zero _), if_neg (Nat.not_lt.mpr hb), if_pos (Nat.lt_succ_self k)]
    ihave H := (hB e1 e2) $$ H
    icases H with ⟨⟨H, Ha⟩, Hr⟩
    iapply (slot_store c _ _ (fun _ => rfl) _) $$ H
    iintro H
    iapply Hk
    iapply Hr
    isplitl [H]; · iexact H
    iexact Ha

/-- The device's own tile stored into its result, when it is the `k`-th. -/
theorem own_store (c : Dev nD) (k : ℕ) (hk : k < 16) {P : Prop} [Decidable P] (hP : P ↔ tl c k = c) {off : Fin 2 → ℕ} (hoff : off = ![256 * c.val, 0])
    {inb : P → ∀ a, off a + S256x128.size a ≤ S4096x128.size a}
    {hl : ∀ h : P, (Memref.whole cc0_stg2_0 : Memref sig .tc .vmem S4096x128 .f32).view.LoadsAt (Rect.unit (s := S4096x128) off S256x128.size (inb h)).toLoadRect}
    {hx : ∀ h : P, ((Memref.whole cc0_stg2_0 : Memref sig .tc .vmem S4096x128 .f32).access (Rect.unit (s := S4096x128) off S256x128.size (inb h))).Stores Finset.univ}
    {hm : ∀ h : P, (Finset.univ : Finset (Rect.unit (s := S4096x128) off S256x128.size (inb h)).shape.Idx) = Finset.univ ∨ ∀ a, (Rect.unit (s := S4096x128) off S256x128.size (inb h)).stride a = 1}
    {w : FVec F S256x128 .f32} (hw : w = sub4 (k % 4) (actv m ρ c (wc c (k / 4))))
    {α : Type} {p : Prog (TpuEff nD τ sig (Elt F) Λ₀ .tc) α} {Q : α → sProp 𝕄} :
    ownOut m ρ c k ⊢ iprop((ownOut m ρ c (k + 1) -∗ wpc c p Q)
      -∗ wpc c (if h : P then .op (.load (Memref.whole cc0_stg2_0 : Memref sig .tc .vmem S4096x128 .f32) (Rect.unit (s := S4096x128) off S256x128.size (inb h)).toLoadRect (hl h))
          fun _ => .op (.store (Memref.whole cc0_stg2_0 : Memref sig .tc .vmem S4096x128 .f32) (Rect.unit (s := S4096x128) off S256x128.size (inb h)) w Finset.univ (hx h) (hm h)) fun _ => p
        else p) Q) := by
  subst hoff
  by_cases h : P
  · have hc := hP.mp h
    have hr : rk c c = k := by
      have := rk_at c hk
      rwa [hc] at this
    have e1 : ownOut m ρ c k = free c (oBlk c) := if_neg (by omega)
    have e2 : ownOut m ρ c (k + 1) = has c (oBlk c) (outB m ρ c c) := if_pos (by omega)
    rw [dif_pos h, e1, e2]
    have hw' : w = outB m ρ c c := by
      rw [hw, ← tileF_tl m ρ c ⟨k, hk⟩, outB, if_pos rfl]
      exact congrArg (tileF m ρ c) hc
    subst hw'
    exact slot_store c _ _ (fun _ => rfl) _
  · have e : ownOut m ρ c (k + 1) = ownOut m ρ c k := by unfold ownOut; simp only [lt_bump hk fun h' => h (hP.mpr h'.symm)]
    rw [dif_neg h, e]
    iintro H Hk
    iapply Hk
    iexact H

/-! ## What every device knows -/

/-- A cell's invariant, under some name, and that its first round is reached. -/
def known (g : GSem nD τ sig) : sProp 𝕄 := iprop((∃ κ : ℕ, cellInv ER (Rd m ρ) κ g) ∗ reached ER g 0)
/-- The kernel's cells on one device: the barrier's, then the transfers'. -/
def ksem (i : Fin 36) : SemLoc sig := if i.val = 0 then .reg barS else .dma ⟨i.val + 2, by have := i.isLt; show _ < 38; omega⟩
abbrev kcell (p : Dev nD × Fin 36) : GSem nD τ sig := ((p.1 : Thread nD τ), ksem p.2)
/-- Every cell of every device known, and the levels. -/
def shared : sProp 𝕄 := iprop((bigSep Finset.univ fun p : Dev nD × Fin 36 => known m ρ (kcell p)) ∗ levAts L lv)

instance known_persistent (g : GSem nD τ sig) : BI.Persistent (known m ρ g) := by unfold known; infer_instance
instance shared_persistent : BI.Persistent (shared m ρ) := by unfold shared; infer_instance

theorem shared_lev : shared m ρ ⊢ (levAts L lv : sProp 𝕄) := by unfold shared; iintro ⟨-, H⟩; iexact H
theorem shared_at (p : Dev nD × Fin 36) : shared m ρ ⊢ known m ρ (kcell p) := by
  have h : bigSep Finset.univ (fun p : Dev nD × Fin 36 => known m ρ (kcell p)) ⊢ known m ρ (kcell p) := bigSep_elim (Finset.mem_univ p)
  unfold shared
  iintro ⟨H, -⟩
  iapply h
  iexact H
theorem shared_dma (c : Dev nD) (q : DmaSem sig) (h : 3 ≤ q.val) : shared m ρ ⊢ known m ρ ((c : Thread nD τ), .dma q) := by
  have hq : q.val < 38 := q.isLt
  have e : kcell (c, ⟨q.val - 2, by omega⟩) = ((c : Thread nD τ), .dma q) := by
    unfold kcell ksem
    dsimp only
    rw [if_neg (by omega)]
    congr 2
    exact Fin.ext (by show q.val - 2 + 2 = q.val; omega)
  exact e ▸ shared_at m ρ _
theorem shared_bar (c : Dev nD) : shared m ρ ⊢ known m ρ (barCell c) := shared_at m ρ (c, 0)
theorem shared_x (c : Dev nD) : shared m ρ ⊢ known m ρ (xCell c) := shared_dma m ρ c _ (by decide)
theorem shared_w (c : Dev nD) (b : Fin 2) : shared m ρ ⊢ known m ρ (wCell c b) := shared_dma m ρ c _ (by show 3 ≤ 4 + b.val; omega)
theorem shared_snd (c t : Dev nD) : shared m ρ ⊢ known m ρ (sndCell c t) := shared_dma m ρ c _ (by show 3 ≤ 6 + t.val; omega)
theorem shared_rcv (c s : Dev nD) : shared m ρ ⊢ known m ρ (rcvCell c s) := shared_dma m ρ c _ (by show 3 ≤ 22 + s.val; omega)

/-- What a device owes, its waits forgotten. -/
def ow (c : Dev nD) (O : CellTallies nD τ sig Unit) : sProp 𝕄 := iprop(∃ W, owes (c : Thread nD τ) O W)

/-- A wait for the whole of a round, from its position to the next. -/
theorem wait_round (c : Dev nD) {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (R : ℕ) (hk : k' = (Rd m ρ).expect ((c : Thread nD τ), sm) R) (O : CellTallies nD τ sig Unit)
    (hO : (levAts L lv : sProp 𝕄) ⊢ MayWait (c : Thread nD τ) sm () O)
    (hs : shared m ρ ⊢ known m ρ ((c : Thread nD τ), sm)) {P : sProp 𝕄}
    (hP : bigSep ((Rd (F := F) m ρ).duties ((c : Thread nD τ), sm) R \ ∅) (fun d => (Rd (F := F) m ρ).payload ((c : Thread nD τ), sm) R d) = P)
    {α : Type} {p : PUnit → Prog (TpuEff nD τ sig (Elt F) Λ₀ .tc) α} {Q : α → sProp 𝕄} :
    shared m ρ ⊢ iprop(cred (tallyAt ((c : Thread nD τ), sm) () k') -∗ atPos ER ((c : Thread nD τ), sm) R ∅ 0 -∗ ow c O
      -∗ ((atPos ER ((c : Thread nD τ), sm) (R + 1) ∅ 0 ∗ reached ER ((c : Thread nD τ), sm) (R + 1) ∗ ow c O ∗ P) -∗ wpc c (p ⟨⟩) Q)
      -∗ wpc c (.op w p) Q) := by
  subst hP
  have hM : shared m ρ ⊢ MayWait (c : Thread nD τ) sm () O := by
    have h1 := @shared_lev F _ m ρ
    exact h1.trans hO
  unfold ow
  iintro #Hs Hc Ha ⟨%W, Ho⟩ Hk
  ihave Hi := hs $$ Hs
  unfold known
  icases Hi with ⟨⟨%κ, #Hi⟩, -⟩
  iapply (Rounds.wp_wait_rest_token 𝒱₀ ER (Rd m ρ) (c : Thread nD τ) none (κ := κ) hw (Set.mem_univ _) () (O := O) (W := W) (R := R) (m := 0) (T := ∅)
      (by rw [Nat.zero_add]; exact hk)) $$ [Hc Ha Ho]
  · isplitr; · iexact Hi
    isplitl [Hc]; · iexact Hc
    isplitl [Ho]; · iexact Ho
    isplitr; · iapply hM; iexact Hs
    iexact Ha
  iintro ⟨Ho, Ha, Hr, HP⟩
  iapply Hk
  isplitl [Ha]; · iexact Ha
  isplitl [Hr]; · iexact Hr
  isplitl [Ho]; · iexists _; iexact Ho
  iexact HP

/-! ## The barrier -/

/-- What the device's `o`-th signal takes: its token and the slot it hands over. -/
def sigSt (c : Dev nD) (a : ℕ) (o : Dev nD) : sProp 𝕄 :=
  if a ≤ o.val ∧ o.val < 15 then iprop(dutyTok ER (barCell (fw c (o.val + 1))) 0 c ∗ free c (rSlot (fw c (o.val + 1)))) else iprop(emp)
/-- What the signals after the first `a` take. -/
def sigs (c : Dev nD) (a : ℕ) : sProp 𝕄 := bigSep Finset.univ (sigSt c a)

theorem sig_step (c : Dev nD) (a : ℕ) (ha : a < 15) {n : Dev nD} (hn : n = fw c (a + 1)) {k' : ℕ} (hk' : k' = 1)
    {α : Type} {p : Prog (TpuEff nD τ sig (Elt F) Λ₀ .tc) α} {Q : α → sProp 𝕄} :
    shared m ρ ⊢ iprop(sigs c a -∗ ow c (oG c (15 - a)) -∗ ((sigs c (a + 1) ∗ ow c (oG c (14 - a))) -∗ wpc c p Q)
      -∗ wpc c (.op (.semSignal (n : Thread nD τ) barS k') fun _ => p) Q) := by
  subst hn hk'
  have hne : c ≠ fw c (a + 1) := fw_ne c ⟨a, ha⟩
  have e1 : sigSt (F := F) c a (dv a) = iprop(dutyTok ER (barCell (fw c (a + 1))) 0 c ∗ free c (rSlot (fw c (a + 1)))) := by
    have : (dv a).val = a := Nat.mod_eq_of_lt (by omega)
    unfold sigSt; rw [this, if_pos ⟨le_rfl, ha⟩]
  have e2 : sigSt (F := F) c (a + 1) (dv a) = iprop(emp) := by
    have : (dv a).val = a := Nat.mod_eq_of_lt (by omega)
    unfold sigSt; rw [this, if_neg (by omega)]
  have hB := bump_eq (Φ := sigSt (F := F) c a) (Φ' := sigSt (F := F) c (a + 1)) (i := dv a) (fun o ho => by
    have : o.val ≠ a := fun h => ho (by rw [← h, dv_val])
    unfold sigSt
    have e : (a ≤ o.val ∧ o.val < 15) = (a + 1 ≤ o.val ∧ o.val < 15) := propext ⟨fun h => ⟨by omega, h.2⟩, fun h => ⟨by omega, h.2⟩⟩
    simp only [e]) e1 e2
  have hO : oG c (15 - a) = oG c (14 - a) + tallyAt (barCell (fw c (a + 1))) () 1 := by
    rw [show 15 - a = (14 - a) + 1 by omega]
    show oG c (14 - a) + tallyAt (barCell (fw c (15 - (14 - a)))) () 1 = _
    rw [show 15 - (14 - a) = a + 1 by omega]
  unfold sigs ow
  iintro #Hs H ⟨%W, Ho⟩ Hk
  ihave H := hB $$ H
  icases H with ⟨⟨Ht, Hf⟩, Hr⟩
  ihave Hi := (shared_bar m ρ (fw c (a + 1))) $$ Hs
  unfold known
  icases Hi with ⟨⟨%κ, #Hi⟩, #Hr0⟩
  iapply (Rounds.wp_signal 𝒱₀ ER (Rd m ρ) (c : Thread nD τ) none (dst := (fw c (a + 1) : Thread nD τ)) (κ := κ)
      (d := c) (r := 0) (by rw [dut_bar]; exact Finset.mem_erase.mpr ⟨hne, Finset.mem_univ _⟩) (amt_bar m ρ _ 0 c) () (oG c (14 - a)) hO)
    $$ [Ht Hf Ho]
  · isplitr; · iexact Hi
    isplitl [Ho]; · iexact Ho
    isplitl [Ht]; · iexact Ht
    isplitl [Hf]; · rw [pay_bar]; unfold barPay; iexact Hf
    iexact Hr0
  iintro Ho
  iapply Hk
  isplitl [Hr]
  · iapply Hr; iempintro
  iexists W; iexact Ho

/-- The slots of the other devices device `c` may still write. -/
def roomSt (c : Dev nD) (b : ℕ) (t : Dev nD) : sProp 𝕄 := if t = c ∨ rk c t < b then iprop(emp) else free t (rSlot c)
def rooms (c : Dev nD) (b : ℕ) : sProp 𝕄 := bigSep Finset.univ (roomSt c b)

theorem rooms_intro (c : Dev nD) : bigSep (Finset.univ.erase c) (fun d => barPay (F := F) c d) ⊢ rooms c 0 := by
  have e : bigSep Finset.univ (roomSt (F := F) c 0) = iprop(roomSt c 0 c ∗ bigSep (Finset.univ.erase c) (roomSt c 0)) := BI.bigSep_erase (Finset.mem_univ c)
  have e2 : bigSep (Finset.univ.erase c) (fun d => barPay (F := F) c d) = bigSep (Finset.univ.erase c) (roomSt (F := F) c 0) :=
    bigSep_congr fun d hd => by
      unfold roomSt barPay; rw [if_neg (by rintro (h | h); exacts [Finset.ne_of_mem_erase hd h, Nat.not_lt_zero _ h])]
  have e3 : roomSt (F := F) c 0 c = iprop(emp) := by unfold roomSt; rw [if_pos (.inl rfl)]
  unfold rooms
  rw [e, e2, e3]
  iintro H
  isplitr; · iempintro
  iexact H

theorem bar_wait (c : Dev nD) {k' : ℕ} (hk' : k' = 15) {α : Type} {p : Prog (TpuEff nD τ sig (Elt F) Λ₀ .tc) α} {Q : α → sProp 𝕄} :
    shared m ρ ⊢ iprop((cred (tallyAt (barCell c) () 15) ∗ atPos ER (barCell c) 0 ∅ 0) -∗ ow c (oS c 16)
      -∗ ((atPos ER (barCell c) 1 ∅ 0 ∗ ow c (oS c 16) ∗ rooms c 0) -∗ wpc c p Q)
      -∗ wpc c (.op (.semWait barS k') fun _ => p) Q) := by
  subst hk'
  iintro #Hs ⟨Hc, Ha⟩ Ho Hk
  iapply (wait_round m ρ c (wpE_semWait_eq 𝒱₀ (c : Thread nD τ) none Set.univ) 0 (exp_bar m ρ c).symm (oS c 16) (mayWait_bar c 16) (shared_bar m ρ c) (rest_bar m ρ c))
    $$ Hs Hc Ha Ho
  iintro ⟨Ha, -, Ho, HP⟩
  iapply Hk
  isplitl [Ha]; · iexact Ha
  isplitl [Ho]; · iexact Ho
  iapply (rooms_intro c); iexact HP

/-! ## The tiles sent -/

section Reads
variable {κ : Kind} {sp : Space} {s s' : Shape} {e : EltTy} {Val : EltTy → Type}

/-- A slot written through its squeezed view with what another reads squeezed reads what the other reads. -/
theorem read_squeezed {sp' : Space} {v : Memref sig κ sp s e} {v' : Memref sig κ sp' s e} (h : s.Squeezes s') (f fd) :
    v.view.read Val ((v.squeeze s' h).view.write Val fd ((v'.squeeze s' h).view.read Val f) Finset.univ) = v'.view.read Val f := by
  funext j
  obtain ⟨x, rfl⟩ := (Shape.reshapeEquiv (Shape.Squeezes.numel_eq h)).surjective j
  exact View.read_write_reshape (v := v.view) (Shape.Squeezes.numel_eq h) fd _ x

/-- A slot written through its squeezed view reads the payload, re-indexed. -/
theorem read_unsqueezed {v : Memref sig κ sp s e} (h : s.Squeezes s') (fd) (w : s'.Idx → Val e) :
    v.view.read Val ((v.squeeze s' h).view.write Val fd w Finset.univ) = fun j => w ((Shape.reshapeEquiv (Shape.Squeezes.numel_eq h)).symm j) := by
  funext j
  obtain ⟨x, rfl⟩ := (Shape.reshapeEquiv (Shape.Squeezes.numel_eq h)).surjective j
  rw [Equiv.symm_apply_apply]
  exact View.read_write_reshape (v := v.view) (Shape.Squeezes.numel_eq h) fd _ x
end Reads

/-- The transfer of a tile to the device it is for. -/
theorem send_core (c t : Dev nD) (ht : t ≠ c) {n : Dev nD} (hn : n = t) {offC offD : Fin 3 → ℕ}
    (hC : offC = ![c.val, 0, 0]) (hD : offD = ![t.val, 0, 0]) {qA qB : DmaSem sig} (hA : qA = sndS t) (hB : qB = rcvS c)
    {inbC : ∀ a, offC a + S1x256x128.size a ≤ S16x256x128.size a} {inbD : ∀ a, offD a + S1x256x128.size a ≤ S16x256x128.size a}
    {hsc hsrc hdst hsem} (O : CellTallies nD τ sig Unit)
    {α : Type} {p : Prog (TpuEff nD τ sig (Elt F) Λ₀ .tc) α} {Q : α → sProp 𝕄} :
    shared m ρ ⊢ iprop((has c (ySlot t) (tileB m ρ c t) ∗ toSend c t) -∗ free t (rSlot c) -∗ ow c (O + tallyAt (rcvCell t c) () NT)
      -∗ (((cred (tallyAt (sndCell c t) () NT) ∗ atPos ER (sndCell c t) 0 ∅ 0) ∗ ow c O) -∗ wpc c p Q)
      -∗ wpc c (.op (.enqueueDma
            (((Memref.whole cc0_scratch3 : Memref sig .tc .vmem S16x256x128 .bf16).slice (Rect.unit (s := S16x256x128) offD S1x256x128.size inbD) (fun _ => rfl)).squeeze S256x128 squeezes_S1x256x128_S256x128)
            (.remote (Dev.tc n) (((Memref.whole cc0_scratch4 : Memref sig .tc .vmem S16x256x128 .bf16).slice (Rect.unit (s := S16x256x128) offC S1x256x128.size inbC) (fun _ => rfl)).squeeze S256x128 squeezes_S1x256x128_S256x128) (.dma qA) hsc)
            (.dma qB) hsrc hdst hsem) fun _ => p) Q) := by
  subst hn hC hD hA hB
  unfold toSend ow free has owns
  iintro #Hs ⟨⟨%f, %hf, Hy⟩, Ht1, Ht2, Ha⟩ ⟨%fd, Hd⟩ ⟨%W, Ho⟩ Hk
  ihave Hi1 := (shared_snd m ρ c n) $$ Hs
  ihave Hi2 := (shared_rcv m ρ n c) $$ Hs
  unfold known
  icases Hi1 with ⟨⟨%κ₁, #Hi1⟩, #Hr1⟩
  icases Hi2 with ⟨⟨%κ₂, #Hi2⟩, #Hr2⟩
  iapply (Rounds.wp_send_pointsTo 𝒱₀ ER (Rd m ρ) (c : Thread nD τ) none (c' := (n : Thread nD τ)) (κ₁ := κ₁) (κ₂ := κ₂)
    (src := (ySlot n).squeeze S256x128 squeezes_S1x256x128_S256x128) (dst := (rSlot c).squeeze S256x128 squeezes_S1x256x128_S256x128)
    (sS := .dma (sndS n)) (sem := .dma (rcvS c)) (r₁ := 0) (r₂ := 0) (d₁ := c) (d₂ := c) (fs := f) (fd := fd) (q := fullShare)
    (by rw [dut_snd m ρ c n ht]; exact Finset.mem_singleton_self _) (by rw [dut_rcv m ρ n c (Ne.symm ht)]; exact Finset.mem_singleton_self _)
    () () NT (NT_r c) (amt_snd m ρ c n 0 c) (amt_rcv m ρ n c 0 c) O rfl (W := W)
    (by
      rw [pay_snd]; unfold sndPay free
      rw [View.set_reshape]
      iintro H; iexists f; iexact H)
    (by
      rw [pay_rcv]; unfold rcvPay has owns
      rw [View.set_reshape]
      iintro H
      iexists _
      isplitr
      · ipureintro; exact (read_squeezed (v := rSlot c) (v' := ySlot n) squeezes_S1x256x128_S256x128 f fd).trans hf
      iexact H)) $$ [Hy Hd Ho Ht1 Ht2]
  · isplitr; · iexact Hi1
    isplitr; · iexact Hi2
    isplitl [Hy]; · rw [View.set_reshape]; iexact Hy
    isplitl [Hd]; · rw [View.set_reshape]; iexact Hd
    isplitl [Ho]; · iexact Ho
    isplitl [Ht1]; · iexact Ht1
    isplitr; · iexact Hr1
    isplitl [Ht2]; · iexact Ht2
    iexact Hr2
  iintro ⟨Hc, Ho⟩
  iapply Hk
  isplitl [Hc Ha]
  · isplitl [Hc]; · iexact Hc
    iexact Ha
  iexists W; iexact Ho

/-- The `k`-th tile sent, unless it is the device's own. -/
theorem tile_send (c : Dev nD) (k : ℕ) (hk : k < 16) (a : ℕ) (ha : k < a) {P : Prop} [Decidable P] (hP : P ↔ tl c k ≠ c) {n : P → Dev nD} (hn : ∀ h, n h = tl c k)
    {offC offD : Fin 3 → ℕ} (hC : P → offC = ![c.val, 0, 0]) (hD : P → offD = ![(tl c k).val, 0, 0]) {qA qB : P → DmaSem sig} (hA : ∀ h, qA h = sndS (tl c k)) (hB : ∀ h, qB h = rcvS c)
    {inbC : P → ∀ a, offC a + S1x256x128.size a ≤ S16x256x128.size a} {inbD : P → ∀ a, offD a + S1x256x128.size a ≤ S16x256x128.size a}
    {hsc : ∀ h : P, _} {hsrc : ∀ h : P, _} {hdst : ∀ h : P, _} {hsem : ∀ h : P, _}
    {α : Type} {p : Prog (TpuEff nD τ sig (Elt F) Λ₀ .tc) α} {Q : α → sProp 𝕄} :
    shared m ρ ⊢ iprop(tiles m ρ c a k 0 -∗ rooms c k -∗ ow c (oS c (16 - k))
      -∗ ((tiles m ρ c a (k + 1) 0 ∗ rooms c (k + 1) ∗ ow c (oS c (15 - k))) -∗ wpc c p Q)
      -∗ wpc c (if h : P then .op (.enqueueDma
            (((Memref.whole cc0_scratch3 : Memref sig .tc .vmem S16x256x128 .bf16).slice (Rect.unit (s := S16x256x128) offD S1x256x128.size (inbD h)) (fun _ => rfl)).squeeze S256x128 squeezes_S1x256x128_S256x128)
            (.remote (Dev.tc (n h)) (((Memref.whole cc0_scratch4 : Memref sig .tc .vmem S16x256x128 .bf16).slice (Rect.unit (s := S16x256x128) offC S1x256x128.size (inbC h)) (fun _ => rfl)).squeeze S256x128 squeezes_S1x256x128_S256x128) (.dma (qA h)) (hsc h))
            (.dma (qB h)) (hsrc h) (hdst h) (hsem h)) fun _ => p else p) Q) := by
  have hO : oS c (16 - k) = oS c (15 - k) + oT c k := by
    rw [show 16 - k = (15 - k) + 1 by omega]
    show oS c (15 - k) + oT c (15 - (15 - k)) = _
    rw [show 15 - (15 - k) = k by omega]
  have hB1 := fun {X Y : sProp 𝕄} (hX : tileSt m ρ c a k 0 (tl c k) = X) (hY : tileSt m ρ c a (k + 1) 0 (tl c k) = Y) =>
    bump_eq (Φ := tileSt m ρ c a k 0) (Φ' := tileSt m ρ c a (k + 1) 0) (fun t ht => by unfold tileSt; simp only [lt_bump hk ht]) hX hY
  have hB2 := fun {X Y : sProp 𝕄} (hX : roomSt c k (tl c k) = X) (hY : roomSt c (k + 1) (tl c k) = Y) =>
    bump_eq (Φ := roomSt (F := F) c k) (Φ' := roomSt (F := F) c (k + 1)) (fun t ht => by unfold roomSt; simp only [lt_bump hk ht]) hX hY
  unfold tiles rooms
  by_cases h : P
  · have hc := hP.mp h
    rw [dif_pos h, hO, show oT c k = tallyAt (rcvCell (tl c k) c) () NT from if_neg hc]
    have e1 : tileSt m ρ c a k 0 (tl c k) = iprop(has c (ySlot (tl c k)) (tileB m ρ c (tl c k)) ∗ toSend c (tl c k)) := by
      unfold tileSt; rw [if_neg hc, rk_at c hk, if_neg (Nat.not_lt_zero _), if_neg (lt_irrefl k), if_pos ha]
    have e2 : tileSt m ρ c a (k + 1) 0 (tl c k) = iprop(cred (tallyAt (sndCell c (tl c k)) () NT) ∗ atPos ER (sndCell c (tl c k)) 0 ∅ 0) := by
      unfold tileSt; rw [if_neg hc, rk_at c hk, if_neg (Nat.not_lt_zero _), if_pos (Nat.lt_succ_self k)]
    have e3 : roomSt (F := F) c k (tl c k) = free (tl c k) (rSlot c) := by
      unfold roomSt; rw [if_neg (by rw [rk_at c hk]; rintro (h | h); exacts [hc h, lt_irrefl k h])]
    have e4 : roomSt (F := F) c (k + 1) (tl c k) = iprop(emp) := by
      unfold roomSt; rw [if_pos (.inr (by rw [rk_at c hk]; exact Nat.lt_succ_self k))]
    iintro #Hs H1 H2 Ho Hk
    ihave H1 := (hB1 e1 e2) $$ H1
    ihave H2 := (hB2 e3 e4) $$ H2
    icases H1 with ⟨H1, Hr1⟩
    icases H2 with ⟨H2, Hr2⟩
    iapply (send_core m ρ c (tl c k) hc (hn h) (hC h) (hD h) (hA h) (hB h) (oS c (15 - k))) $$ Hs H1 H2 Ho
    iintro ⟨H1, Ho⟩
    iapply Hk
    isplitl [H1 Hr1]; · iapply Hr1; iexact H1
    isplitl [Hr2]; · iapply Hr2; iempintro
    iexact Ho
  · have hc : tl c k = c := Classical.not_not.mp fun h' => h (hP.mpr h')
    rw [dif_neg h, hO, show oT c k = 0 from if_pos hc, add_zero]
    have e1 : ∀ b, tileSt m ρ c a b 0 (tl c k) = iprop(free c (ySlot (tl c k)) ∗ atPos ER (sndCell c (tl c k)) 0 ∅ 0) := fun b => by
      unfold tileSt; rw [if_pos hc]
    have e3 : ∀ b, roomSt (F := F) c b (tl c k) = iprop(emp) := fun b => by unfold roomSt; rw [if_pos (.inl hc)]
    iintro #Hs H1 H2 Ho Hk
    ihave H1 := (hB1 (e1 _) (e1 _)) $$ H1
    ihave H2 := (hB2 (e3 _) (e3 _)) $$ H2
    icases H1 with ⟨H1, Hr1⟩
    icases H2 with ⟨H2, Hr2⟩
    iapply Hk
    isplitl [H1 Hr1]; · iapply Hr1; iexact H1
    isplitl [Hr2]; · iapply Hr2; iempintro
    iexact Ho

/-- The `k`-th tile's slot back, unless it is the device's own. -/
theorem tile_wait (c : Dev nD) (k : ℕ) (hk : k < 16) {P : Prop} [Decidable P] (hP : P ↔ tl c k ≠ c) {q : P → DmaSem sig} (hq : ∀ h, q h = sndS (tl c k))
    {offD : Fin 3 → ℕ} {inbD : P → ∀ a, offD a + S1x256x128.size a ≤ S16x256x128.size a} {sp' : Space} {s' : Shape} {e' : EltTy} {src : P → Memref sig .tc sp' s' e'} {hsrc : ∀ h : P, _} {hdst : ∀ h : P, _}
    {α : Type} {p : Prog (TpuEff nD τ sig (Elt F) Λ₀ .tc) α} {Q : α → sProp 𝕄} :
    shared m ρ ⊢ iprop(tiles m ρ c 16 16 k -∗ ow c 0 -∗ ((tiles m ρ c 16 16 (k + 1) ∗ ow c 0) -∗ wpc c p Q)
      -∗ wpc c (if h : P then .op (.waitDma2 (q h) (src h)
            (((Memref.whole cc0_scratch3 : Memref sig .tc .vmem S16x256x128 .bf16).slice (Rect.unit (s := S16x256x128) offD S1x256x128.size (inbD h)) (fun _ => rfl)).squeeze S256x128 squeezes_S1x256x128_S256x128)
            (hsrc h) (hdst h)) fun _ => p else p) Q) := by
  have hB1 := fun {X Y : sProp 𝕄} (hX : tileSt m ρ c 16 16 k (tl c k) = X) (hY : tileSt m ρ c 16 16 (k + 1) (tl c k) = Y) =>
    bump_eq (Φ := tileSt m ρ c 16 16 k) (Φ' := tileSt m ρ c 16 16 (k + 1)) (fun t ht => by unfold tileSt; simp only [lt_bump hk ht]) hX hY
  unfold tiles
  by_cases h : P
  · have hc := hP.mp h
    rw [dif_pos h]
    have e1 : tileSt m ρ c 16 16 k (tl c k) = iprop(cred (tallyAt (sndCell c (tl c k)) () NT) ∗ atPos ER (sndCell c (tl c k)) 0 ∅ 0) := by
      unfold tileSt; rw [if_neg hc, rk_at c hk, if_neg (lt_irrefl k), if_pos hk]
    have e2 : tileSt m ρ c 16 16 (k + 1) (tl c k) = iprop(free c (ySlot (tl c k)) ∗ atPos ER (sndCell c (tl c k)) 1 ∅ 0) := by
      unfold tileSt; rw [if_neg hc, rk_at c hk, if_pos (Nat.lt_succ_self k)]
    have hcr : (cred (tallyAt (sndCell c (tl c k)) () NT) : sProp 𝕄) ⊢ cred (tallyAt (sndCell c (tl c k)) ()
        (((Memref.whole cc0_scratch3 : Memref sig .tc .vmem S16x256x128 .bf16).slice
        (Rect.unit (s := S16x256x128) offD S1x256x128.size (inbD h)) (fun _ => rfl)).squeeze S256x128 squeezes_S1x256x128_S256x128).view.dmaCredit) :=
      Entails.of_eq (congrArg (fun N => cred (tallyAt (sndCell c (tl c k)) () N)) (NT_y (tl c k)).symm)
    have hqh := hq h
    generalize q h = q' at hqh
    subst hqh
    iintro #Hs H1 Ho Hk
    ihave H1 := (hB1 e1 e2) $$ H1
    icases H1 with ⟨⟨Hc, Ha⟩, Hr⟩
    iapply (wait_round m ρ c (w := .waitDma2 (sndS (tl c k)) (src h) (((Memref.whole cc0_scratch3 : Memref sig .tc .vmem S16x256x128 .bf16).slice
        (Rect.unit (s := S16x256x128) offD S1x256x128.size (inbD h)) (fun _ => rfl)).squeeze S256x128 squeezes_S1x256x128_S256x128) (hsrc h) (hdst h))
      (wpE_waitDma2_eq 𝒱₀ (c : Thread nD τ) none Set.univ) 0 ((NT_y (tl c k)).trans (exp_snd m ρ c (tl c k) hc).symm) 0
      (by rw [MayWait_zero]; iintro -; iempintro) (shared_snd m ρ c (tl c k)) (rest_snd m ρ c (tl c k) hc)) $$ Hs [Hc] Ha Ho
    · iapply hcr; iexact Hc
    iintro ⟨Ha, -, Ho, HP⟩
    iapply Hk
    isplitl [Ha HP Hr]
    · iapply Hr
      isplitl [HP]; · unfold sndPay; iexact HP
      iexact Ha
    iexact Ho
  · have hc : tl c k = c := Classical.not_not.mp fun h' => h (hP.mpr h')
    rw [dif_neg h]
    have e1 : ∀ d, tileSt m ρ c 16 16 d (tl c k) = iprop(free c (ySlot (tl c k)) ∗ atPos ER (sndCell c (tl c k)) 0 ∅ 0) := fun d => by
      unfold tileSt; rw [if_pos hc]
    iintro #Hs H1 Ho Hk
    ihave H1 := (hB1 (e1 _) (e1 _)) $$ H1
    icases H1 with ⟨H1, Hr⟩
    iapply Hk
    isplitl [H1 Hr]; · iapply Hr; iexact H1
    iexact Ho

end Cert.KProof

end
-- ==== Proof.Ops2.lean ====
module

public import proofs.«01_k».proof.Proof.Ops

/-! The steps on the tiles received, the weights' double buffer and the activations. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tiles received -/

/-- The state of device `s`'s tile on device `c` once the first `w` are waited for and the first `r` stored. -/
def rcvSt (c : Dev nD) (w r : ℕ) (s : Dev nD) : sProp 𝕄 :=
  if s = c then iprop(free c (rSlot s) ∗ atPos ER (rcvCell c s) 0 ∅ 0)
  else if rr c s < r then iprop(has c (rSlot s) (tileB m ρ s c) ∗ atPos ER (rcvCell c s) 1 ∅ 0 ∗ has c (oBlk s) (outB m ρ c s))
  else if rr c s < w then iprop(has c (rSlot s) (tileB m ρ s c) ∗ atPos ER (rcvCell c s) 1 ∅ 0 ∗ free c (oBlk s))
  else iprop(cred (tallyAt (rcvCell c s) () NT) ∗ atPos ER (rcvCell c s) 0 ∅ 0 ∗ free c (oBlk s))
def rcvs (c : Dev nD) (w r : ℕ) : sProp 𝕄 := bigSep Finset.univ (rcvSt m ρ c w r)

theorem rr_at (c : Dev nD) {r : ℕ} (hr : r < 15) : rr c (bw c r) = r := rr_bw c ⟨r, by show r < 16; omega⟩
theorem bw_at (c : Dev nD) {r : ℕ} (hr : r < 15) : bw c r ≠ c := bw_ne c ⟨r, hr⟩
theorem lt_bumpr {c s : Dev nD} {r : ℕ} (h : s ≠ bw c r) : (rr c s < r + 1) = (rr c s < r) :=
  propext ⟨fun h1 => lt_of_le_of_ne (Nat.lt_succ_iff.mp h1) fun h' => h (by rw [← h', bw_rr]), fun h1 => Nat.lt_succ_of_lt h1⟩

/-- The `r`-th tile arrived. -/
theorem rcv_wait (c : Dev nD) (r : ℕ) (hr : r < 15) {q : DmaSem sig} (hq : q = rcvS (bw c r)) {offD : Fin 3 → ℕ} {inbD : ∀ a, offD a + S1x256x128.size a ≤ S16x256x128.size a}
    {sp' : Space} {s' : Shape} {e' : EltTy} {src : Memref sig .tc sp' s' e'} {hsrc hdst}
    {α : Type} {p : Prog (TpuEff nD τ sig (Elt F) Λ₀ .tc) α} {Q : α → sProp 𝕄} :
    shared m ρ ⊢ iprop(rcvs m ρ c r r -∗ ow c 0 -∗ ((rcvs m ρ c (r + 1) r ∗ ow c 0) -∗ wpc c p Q)
      -∗ wpc c (.op (.waitDma2 q src
            (((Memref.whole cc0_scratch4 : Memref sig .tc .vmem S16x256x128 .bf16).slice (Rect.unit (s := S16x256x128) offD S1x256x128.size inbD) (fun _ => rfl)).squeeze S256x128 squeezes_S1x256x128_S256x128)
            hsrc hdst) fun _ => p) Q) := by
  subst hq
  have hc : bw c r ≠ c := bw_at c hr
  have e1 : rcvSt m ρ c r r (bw c r) = iprop(cred (tallyAt (rcvCell c (bw c r)) () NT) ∗ atPos ER (rcvCell c (bw c r)) 0 ∅ 0 ∗ free c (oBlk (bw c r))) := by
    unfold rcvSt; rw [if_neg hc, rr_at c hr, if_neg (lt_irrefl r), if_neg (lt_irrefl r)]
  have e2 : rcvSt m ρ c (r + 1) r (bw c r) = iprop(has c (rSlot (bw c r)) (tileB m ρ (bw c r) c) ∗ atPos ER (rcvCell c (bw c r)) 1 ∅ 0 ∗ free c (oBlk (bw c r))) := by
    unfold rcvSt; rw [if_neg hc, rr_at c hr, if_neg (lt_irrefl r), if_pos (Nat.lt_succ_self r)]
  have hB := bump_eq (Φ := rcvSt m ρ c r r) (Φ' := rcvSt m ρ c (r + 1) r) (fun s hs => by unfold rcvSt; simp only [lt_bumpr hs]) e1 e2
  have hcr : (cred (tallyAt (rcvCell c (bw c r)) () NT) : sProp 𝕄) ⊢ cred (tallyAt (rcvCell c (bw c r)) ()
      (((Memref.whole cc0_scratch4 : Memref sig .tc .vmem S16x256x128 .bf16).slice
      (Rect.unit (s := S16x256x128) offD S1x256x128.size inbD) (fun _ => rfl)).squeeze S256x128 squeezes_S1x256x128_S256x128).view.dmaCredit) :=
    Entails.of_eq (congrArg (fun N => cred (tallyAt (rcvCell c (bw c r)) () N)) (NT_r (bw c r)).symm)
  unfold rcvs
  iintro #Hs H Ho Hk
  ihave H := hB $$ H
  icases H with ⟨⟨Hc, Ha, Hf⟩, Hr⟩
  iapply (wait_round m ρ c (w := .waitDma2 (rcvS (bw c r)) src (((Memref.whole cc0_scratch4 : Memref sig .tc .vmem S16x256x128 .bf16).slice
        (Rect.unit (s := S16x256x128) offD S1x256x128.size inbD) (fun _ => rfl)).squeeze S256x128 squeezes_S1x256x128_S256x128) hsrc hdst)
      (wpE_waitDma2_eq 𝒱₀ (c : Thread nD τ) none Set.univ) 0 ((NT_r (bw c r)).trans (exp_rcv m ρ c (bw c r) hc).symm) 0
      (by rw [MayWait_zero]; iintro -; iempintro) (shared_rcv m ρ c (bw c r)) (rest_rcv m ρ c (bw c r) hc)) $$ Hs [Hc] Ha Ho
  · iapply hcr; iexact Hc
  iintro ⟨Ha, -, Ho, HP⟩
  iapply Hk
  isplitl [Ha HP Hr Hf]
  · iapply Hr
    isplitl [HP]; · unfold rcvPay; iexact HP
    isplitl [Ha]; · iexact Ha
    iexact Hf
  iexact Ho

/-- The `r`-th tile read. -/
theorem rcv_load (c : Dev nD) (r : ℕ) (hr : r < 15) {off : Fin 3 → ℕ} (hoff : off = ![(bw c r).val, 0, 0]) {inb hl}
    {α : Type} {p : Vec F S1x256x128 .bf16 → Prog (TpuEff nD τ sig (Elt F) Λ₀ .tc) α} {Q : α → sProp 𝕄} :
    rcvs m ρ c (r + 1) r ⊢ iprop((rcvs m ρ c (r + 1) r -∗ wpc c (p (tileB m ρ (bw c r) c)) Q)
      -∗ wpc c (.op (.load (Memref.whole cc0_scratch4 : Memref sig .tc .vmem S16x256x128 .bf16) (Rect.unit (s := S16x256x128) off S1x256x128.size inb).toLoadRect hl) p) Q) := by
  subst hoff
  have hc : bw c r ≠ c := bw_at c hr
  have e2 : rcvSt m ρ c (r + 1) r (bw c r) = iprop(has c (rSlot (bw c r)) (tileB m ρ (bw c r) c) ∗ atPos ER (rcvCell c (bw c r)) 1 ∅ 0 ∗ free c (oBlk (bw c r))) := by
    unfold rcvSt; rw [if_neg hc, rr_at c hr, if_neg (lt_irrefl r), if_pos (Nat.lt_succ_self r)]
  have hB := bump_eq (Φ := rcvSt m ρ c (r + 1) r) (Φ' := rcvSt m ρ c (r + 1) r) (fun s _ => rfl) e2 e2
  unfold rcvs
  iintro H Hk
  ihave H := hB $$ H
  icases H with ⟨⟨H, Ha⟩, Hr⟩
  iapply (slot_load c _ _ (fun _ => rfl) _) $$ H
  iintro H
  iapply Hk
  iapply Hr
  isplitl [H]; · iexact H
  iexact Ha

/-- The `r`-th tile stored into the result. -/
theorem rcv_store (c : Dev nD) (r : ℕ) (hr : r < 15) {off : Fin 2 → ℕ} (hoff : off = ![256 * (bw c r).val, 0]) {inb inb' hl hx hm}
    {w : FVec F S256x128 .f32} (hw : w = unpackT (tileB m ρ (bw c r) c))
    {α : Type} {p : Prog (TpuEff nD τ sig (Elt F) Λ₀ .tc) α} {Q : α → sProp 𝕄} :
    rcvs m ρ c (r + 1) r ⊢ iprop((rcvs m ρ c (r + 1) (r + 1) -∗ wpc c p Q)
      -∗ wpc c (.op (.load (Memref.whole cc0_stg2_0 : Memref sig .tc .vmem S4096x128 .f32) (Rect.unit (s := S4096x128) off S256x128.size inb).toLoadRect hl)
          fun _ => .op (.store (Memref.whole cc0_stg2_0 : Memref sig .tc .vmem S4096x128 .f32) (Rect.unit (s := S4096x128) off S256x128.size inb') w Finset.univ hx hm) fun _ => p) Q) := by
  subst hoff
  have hc : bw c r ≠ c := bw_at c hr
  have hw' : w = outB m ρ c (bw c r) := by rw [hw]; unfold outB; rw [if_neg hc]
  subst hw'
  have e1 : rcvSt m ρ c (r + 1) r (bw c r) = iprop(has c (rSlot (bw c r)) (tileB m ρ (bw c r) c) ∗ atPos ER (rcvCell c (bw c r)) 1 ∅ 0 ∗ free c (oBlk (bw c r))) := by
    unfold rcvSt; rw [if_neg hc, rr_at c hr, if_neg (lt_irrefl r), if_pos (Nat.lt_succ_self r)]
  have e2 : rcvSt m ρ c (r + 1) (r + 1) (bw c r) = iprop(has c (rSlot (bw c r)) (tileB m ρ (bw c r) c) ∗ atPos ER (rcvCell c (bw c r)) 1 ∅ 0 ∗ has c (oBlk (bw c r)) (outB m ρ c (bw c r))) := by
    unfold rcvSt; rw [if_neg hc, rr_at c hr, if_pos (Nat.lt_succ_self r)]
  have hB := bump_eq (Φ := rcvSt m ρ c (r + 1) r) (Φ' := rcvSt m ρ c (r + 1) (r + 1)) (fun s hs => by unfold rcvSt; simp only [lt_bumpr hs]) e1 e2
  unfold rcvs
  iintro H Hk
  ihave H := hB $$ H
  icases H with ⟨⟨H, Ha, Hf⟩, Hr⟩
  iapply (slot_store c _ _ (fun _ => rfl) _) $$ Hf
  iintro Hf
  iapply Hk
  iapply Hr
  isplitl [H]; · iexact H
  isplitl [Ha]; · iexact Ha
  iexact Hf

/-! ## The weights' double buffer -/

/-- The state of half `b` of the double buffer: each of its two rounds idle, in flight, landed. -/
def wSt0 (c : Dev nD) (b : Fin 2) : sProp 𝕄 := iprop(free c (wSlot b) ∗ atPos ER (wCell c b) 0 ∅ 0 ∗ dutyTok ER (wCell c b) 0 c ∗ dutyTok ER (wCell c b) 1 c
      ∗ wPts m c (ck (wc c b.val)) ∗ wPts m c (ck (wc c (b.val + 2))))
def wSt1 (c : Dev nD) (b : Fin 2) : sProp 𝕄 := iprop(cred (tallyAt (wCell c b) () NW) ∗ atPos ER (wCell c b) 0 ∅ 0 ∗ dutyTok ER (wCell c b) 1 c ∗ wPts m c (ck (wc c (b.val + 2))))
def wSt2 (c : Dev nD) (b : Fin 2) : sProp 𝕄 := iprop(has c (wSlot b) (wval m c (ck (wc c b.val))) ∗ (reached ER (wCell c b) 1 ∗ atPos ER (wCell c b) 1 ∅ 0 ∗ dutyTok ER (wCell c b) 1 c
      ∗ wPts m c (ck (wc c b.val)) ∗ wPts m c (ck (wc c (b.val + 2)))))
def wSt3 (c : Dev nD) (b : Fin 2) : sProp 𝕄 := iprop(cred (tallyAt (wCell c b) () NW) ∗ atPos ER (wCell c b) 1 ∅ 0 ∗ wPts m c (ck (wc c b.val)))
def wSt4 (c : Dev nD) (b : Fin 2) : sProp 𝕄 := iprop(has c (wSlot b) (wval m c (ck (wc c (b.val + 2)))) ∗ (atPos ER (wCell c b) 2 ∅ 0
      ∗ wPts m c (ck (wc c b.val)) ∗ wPts m c (ck (wc c (b.val + 2)))))

/-- What a chunk's transfer leaves is its round's payload. -/
theorem w_land (c : Dev nD) (b : Fin 2) (r k : ℕ) (hr : r < 2) (hk : k = b.val + 2 * r) (fd : (wSlot b).view.ty.Contents (Elt F)) :
    iprop((((wSlot b).squeeze S4096x512 squeezes_S1x4096x512_S4096x512).view.loc (c : Thread nD τ)
        ↦[((wSlot b).squeeze S4096x512 squeezes_S1x4096x512_S4096x512).view.set]{fullShare}
          (((wSlot b).squeeze S4096x512 squeezes_S1x4096x512_S4096x512).view.write (Elt F) fd ((wChk (ck (wc c k))).view.read (Elt F) (wv m c)) Finset.univ))
      ∗ wPts m c (ck (wc c k)))
      ⊢ (Rd m ρ).payload (wCell c b) r c := by
  subst hk
  rw [show (Rd m ρ).payload (wCell c b) r c = wPay m c b (b.val + 2 * r) from pay_w m ρ c b ⟨r, hr⟩ c]
  unfold wPay has owns
  rw [View.set_reshape]
  iintro ⟨H, Hw⟩
  isplitl [H]
  · iexists _
    isplitr
    · ipureintro; exact read_unsqueezed (v := wSlot b) squeezes_S1x4096x512_S4096x512 fd _
    iexact H
  iexact Hw

/-- A chunk's transfer into half `b`. -/
theorem w_copy_core (c : Dev nD) (b : Fin 2) (r k : ℕ) (hr : r < 2) (hk : k = b.val + 2 * r) {off1 : Fin 2 → ℕ} (ho1 : off1 = ![0, 512 * wc c k]) {off : Fin 3 → ℕ} (hoff : off = ![b.val, 0, 0])
    {q : DmaSem sig} (hq : q = wS b) {inb1 : ∀ a, off1 a + S4096x512.size a ≤ S4096x2048.size a} {inb : ∀ a, off a + S1x4096x512.size a ≤ S2x4096x512.size a} {hsrc hdst hsem}
    {α : Type} {p : Prog (TpuEff nD τ sig (Elt F) Λ₀ .tc) α} {Q : α → sProp 𝕄} :
    shared m ρ ⊢ iprop(reached ER (wCell c b) r -∗ free c (wSlot b) -∗ dutyTok ER (wCell c b) r c -∗ wPts m c (ck (wc c k))
      -∗ (cred (tallyAt (wCell c b) () NW) -∗ wpc c p Q)
      -∗ wpc c (.op (.enqueueDma ((Memref.whole main_arg1 : Memref sig .tc .hbm S4096x2048 .f32).slice (Rect.unit (s := S4096x2048) off1 S4096x512.size inb1) (fun _ => rfl))
          (.here (((Memref.whole cc0_scratch2 : Memref sig .tc .vmem S2x4096x512 .f32).slice (Rect.unit (s := S2x4096x512) off S1x4096x512.size inb) (fun _ => rfl)).squeeze S4096x512 squeezes_S1x4096x512_S4096x512))
          (.dma q) hsrc hdst hsem) fun _ => p) Q) := by
  have hck : (ck (wc c k)).val = wc c k := Nat.mod_eq_of_lt (Nat.mod_lt _ (by decide))
  rw [← hck] at ho1
  subst ho1 hoff hq
  have hd : c ∈ (Rd m ρ).duties (wCell c b) r := by
    rw [show (Rd m ρ).duties (wCell c b) r = {c} from dut_w m ρ c b ⟨r, hr⟩]; exact Finset.mem_singleton_self _
  unfold free
  iintro #Hs #Hr ⟨%fd, Hd⟩ Ht Hw Hk
  ihave Hi := (shared_w m ρ c b) $$ Hs
  unfold known
  icases Hi with ⟨⟨%κ, #Hi⟩, -⟩
  iapply (Rounds.wp_copy_pointsTo 𝒱₀ ER (Rd m ρ) (c : Thread nD τ) none (κ := κ) (src := wChk (ck (wc c k)))
    (dst := (wSlot b).squeeze S4096x512 squeezes_S1x4096x512_S4096x512) (sem := .dma (wS b)) (r := r) (d := c) (fs := wv m c) (fd := fd) (q := fullShare)
    hd () NW (NW_w b) (amt_w m ρ c b r c) (w_land m ρ c b r k hr hk fd)) $$ [Hd Ht Hw]
  · isplitr; · iexact Hi
    isplitl [Hw]; · unfold wPts; iexact Hw
    isplitl [Hd]; · rw [View.set_reshape]; iexact Hd
    isplitl [Ht]; · iexact Ht
    iexact Hr
  iexact Hk

/-- The first transfer into half `b`. -/
theorem w_copy0 (c : Dev nD) (b : Fin 2) {off1 : Fin 2 → ℕ} (ho1 : off1 = ![0, 512 * wc c b.val]) {off : Fin 3 → ℕ} (hoff : off = ![b.val, 0, 0])
    {q : DmaSem sig} (hq : q = wS b) {inb1 : ∀ a, off1 a + S4096x512.size a ≤ S4096x2048.size a} {inb : ∀ a, off a + S1x4096x512.size a ≤ S2x4096x512.size a} {hsrc hdst hsem}
    {α : Type} {p : Prog (TpuEff nD τ sig (Elt F) Λ₀ .tc) α} {Q : α → sProp 𝕄} :
    shared m ρ ⊢ iprop(wSt0 m c b -∗ (wSt1 m c b -∗ wpc c p Q)
      -∗ wpc c (.op (.enqueueDma ((Memref.whole main_arg1 : Memref sig .tc .hbm S4096x2048 .f32).slice (Rect.unit (s := S4096x2048) off1 S4096x512.size inb1) (fun _ => rfl))
          (.here (((Memref.whole cc0_scratch2 : Memref sig .tc .vmem S2x4096x512 .f32).slice (Rect.unit (s := S2x4096x512) off S1x4096x512.size inb) (fun _ => rfl)).squeeze S4096x512 squeezes_S1x4096x512_S4096x512))
          (.dma q) hsrc hdst hsem) fun _ => p) Q) := by
  unfold wSt0 wSt1
  iintro #Hs ⟨Hf, Ha, Ht, Ht1, Hw, Hw1⟩ Hk
  ihave Hi := (shared_w m ρ c b) $$ Hs
  unfold known
  icases Hi with ⟨-, #Hr⟩
  iapply (w_copy_core m ρ c b 0 b.val (by decide) rfl ho1 hoff hq) $$ Hs Hr Hf Ht Hw
  iintro Hc
  iapply Hk
  isplitl [Hc]; · iexact Hc
  isplitl [Ha]; · iexact Ha
  isplitl [Ht1]; · iexact Ht1
  iexact Hw1

/-- The second. -/
theorem w_copy1 (c : Dev nD) (b : Fin 2) {off1 : Fin 2 → ℕ} (ho1 : off1 = ![0, 512 * wc c (b.val + 2)]) {off : Fin 3 → ℕ} (hoff : off = ![b.val, 0, 0])
    {q : DmaSem sig} (hq : q = wS b) {inb1 : ∀ a, off1 a + S4096x512.size a ≤ S4096x2048.size a} {inb : ∀ a, off a + S1x4096x512.size a ≤ S2x4096x512.size a} {hsrc hdst hsem}
    {α : Type} {p : Prog (TpuEff nD τ sig (Elt F) Λ₀ .tc) α} {Q : α → sProp 𝕄} :
    shared m ρ ⊢ iprop(wSt2 m c b -∗ (wSt3 m c b -∗ wpc c p Q)
      -∗ wpc c (.op (.enqueueDma ((Memref.whole main_arg1 : Memref sig .tc .hbm S4096x2048 .f32).slice (Rect.unit (s := S4096x2048) off1 S4096x512.size inb1) (fun _ => rfl))
          (.here (((Memref.whole cc0_scratch2 : Memref sig .tc .vmem S2x4096x512 .f32).slice (Rect.unit (s := S2x4096x512) off S1x4096x512.size inb) (fun _ => rfl)).squeeze S4096x512 squeezes_S1x4096x512_S4096x512))
          (.dma q) hsrc hdst hsem) fun _ => p) Q) := by
  unfold wSt2 wSt3
  iintro #Hs ⟨Hf, #Hr, Ha, Ht1, Hw, Hw1⟩ Hk
  ihave Hf := (has_free c (wSlot b) _) $$ Hf
  iapply (w_copy_core m ρ c b 1 (b.val + 2) (by decide) rfl ho1 hoff hq) $$ Hs Hr Hf Ht1 Hw1
  iintro Hc
  iapply Hk
  isplitl [Hc]; · iexact Hc
  isplitl [Ha]; · iexact Ha
  iexact Hw

/-- A chunk arrived. -/
theorem w_wait_core (c : Dev nD) (b : Fin 2) (r k : ℕ) (hr : r < 2) (hk : k = b.val + 2 * r) {O : CellTallies nD τ sig Unit} (hO : (levAts L lv : sProp 𝕄) ⊢ MayWait (c : Thread nD τ) (.dma (wS b)) () O)
    {q : DmaSem sig} (hq : q = wS b) {off : Fin 3 → ℕ} {inb : ∀ a, off a + S1x4096x512.size a ≤ S2x4096x512.size a}
    {sp' : Space} {s' : Shape} {e' : EltTy} {src : Memref sig .tc sp' s' e'} {hsrc hdst}
    {α : Type} {p : Prog (TpuEff nD τ sig (Elt F) Λ₀ .tc) α} {Q : α → sProp 𝕄} :
    shared m ρ ⊢ iprop(cred (tallyAt (wCell c b) () NW) -∗ atPos ER (wCell c b) r ∅ 0 -∗ ow c O
      -∗ ((atPos ER (wCell c b) (r + 1) ∅ 0 ∗ reached ER (wCell c b) (r + 1) ∗ ow c O ∗ wPay m c b k) -∗ wpc c p Q)
      -∗ wpc c (.op (.waitDma2 q src
          (((Memref.whole cc0_scratch2 : Memref sig .tc .vmem S2x4096x512 .f32).slice (Rect.unit (s := S2x4096x512) off S1x4096x512.size inb) (fun _ => rfl)).squeeze S4096x512 squeezes_S1x4096x512_S4096x512)
          hsrc hdst) fun _ => p) Q) := by
  subst hq hk
  have hcr : (cred (tallyAt (wCell c b) () NW) : sProp 𝕄) ⊢ cred (tallyAt (wCell c b) ()
      (((Memref.whole cc0_scratch2 : Memref sig .tc .vmem S2x4096x512 .f32).slice (Rect.unit (s := S2x4096x512) off S1x4096x512.size inb) (fun _ => rfl)).squeeze S4096x512 squeezes_S1x4096x512_S4096x512).view.dmaCredit) :=
    Entails.of_eq (congrArg (fun N => cred (tallyAt (wCell c b) () N)) (NW_w b).symm)
  iintro #Hs Hc Ha Ho Hk
  iapply (wait_round m ρ c (w := .waitDma2 (wS b) src
          (((Memref.whole cc0_scratch2 : Memref sig .tc .vmem S2x4096x512 .f32).slice (Rect.unit (s := S2x4096x512) off S1x4096x512.size inb) (fun _ => rfl)).squeeze S4096x512 squeezes_S1x4096x512_S4096x512)
          hsrc hdst)
      (wpE_waitDma2_eq 𝒱₀ (c : Thread nD τ) none Set.univ) r ((NW_w b).trans (exp_w m ρ c b ⟨r, hr⟩).symm) O
      hO (shared_w m ρ c b) (rest_w m ρ c b ⟨r, hr⟩)) $$ Hs [Hc] Ha Ho
  · iapply hcr; iexact Hc
  iexact Hk

/-- The first chunk of half `b` arrived. -/
theorem w_wait0 (c : Dev nD) (b : Fin 2) (n : ℕ)
    {q : DmaSem sig} (hq : q = wS b) {off : Fin 3 → ℕ} {inb : ∀ a, off a + S1x4096x512.size a ≤ S2x4096x512.size a}
    {sp' : Space} {s' : Shape} {e' : EltTy} {src : Memref sig .tc sp' s' e'} {hsrc hdst}
    {α : Type} {p : Prog (TpuEff nD τ sig (Elt F) Λ₀ .tc) α} {Q : α → sProp 𝕄} :
    shared m ρ ⊢ iprop(wSt1 m c b -∗ ow c (oS c n) -∗ ((wSt2 m c b ∗ ow c (oS c n)) -∗ wpc c p Q)
      -∗ wpc c (.op (.waitDma2 q src
          (((Memref.whole cc0_scratch2 : Memref sig .tc .vmem S2x4096x512 .f32).slice (Rect.unit (s := S2x4096x512) off S1x4096x512.size inb) (fun _ => rfl)).squeeze S4096x512 squeezes_S1x4096x512_S4096x512)
          hsrc hdst) fun _ => p) Q) := by
  unfold wSt1 wSt2
  iintro #Hs ⟨Hc, Ha, Ht1, Hw1⟩ Ho Hk
  iapply (w_wait_core m ρ c b 0 b.val (by decide) rfl (mayWait_lowS c (wS b) (by show 4 + b.val < 22; omega) n) hq) $$ Hs Hc Ha Ho
  unfold wPay
  iintro ⟨Ha, Hr, Ho, Hb, Hw⟩
  iapply Hk
  isplitr [Ho]
  · isplitl [Hb]; · iexact Hb
    isplitl [Hr]; · iexact Hr
    isplitl [Ha]; · iexact Ha
    isplitl [Ht1]; · iexact Ht1
    isplitl [Hw]; · iexact Hw
    iexact Hw1
  iexact Ho

/-- The second. -/
theorem w_wait1 (c : Dev nD) (b : Fin 2) (n : ℕ)
    {q : DmaSem sig} (hq : q = wS b) {off : Fin 3 → ℕ} {inb : ∀ a, off a + S1x4096x512.size a ≤ S2x4096x512.size a}
    {sp' : Space} {s' : Shape} {e' : EltTy} {src : Memref sig .tc sp' s' e'} {hsrc hdst}
    {α : Type} {p : Prog (TpuEff nD τ sig (Elt F) Λ₀ .tc) α} {Q : α → sProp 𝕄} :
    shared m ρ ⊢ iprop(wSt3 m c b -∗ ow c (oS c n) -∗ ((wSt4 m c b ∗ ow c (oS c n)) -∗ wpc c p Q)
      -∗ wpc c (.op (.waitDma2 q src
          (((Memref.whole cc0_scratch2 : Memref sig .tc .vmem S2x4096x512 .f32).slice (Rect.unit (s := S2x4096x512) off S1x4096x512.size inb) (fun _ => rfl)).squeeze S4096x512 squeezes_S1x4096x512_S4096x512)
          hsrc hdst) fun _ => p) Q) := by
  unfold wSt3 wSt4
  iintro #Hs ⟨Hc, Ha, Hw⟩ Ho Hk
  iapply (w_wait_core m ρ c b 1 (b.val + 2) (by decide) rfl (mayWait_lowS c (wS b) (by show 4 + b.val < 22; omega) n) hq) $$ Hs Hc Ha Ho
  unfold wPay
  iintro ⟨Ha, -, Ho, Hb, Hw1⟩
  iapply Hk
  isplitr [Ho]
  · isplitl [Hb]; · iexact Hb
    isplitl [Ha]; · iexact Ha
    isplitl [Hw]; · iexact Hw
    iexact Hw1
  iexact Ho

/-- Half `b` read, its first chunk landed. -/
theorem w_load0 (c : Dev nD) (b : Fin 2) {off : Fin 3 → ℕ} (hoff : off = ![b.val, 0, 0]) {inb hl}
    {α : Type} {p : Vec F S1x4096x512 .f32 → Prog (TpuEff nD τ sig (Elt F) Λ₀ .tc) α} {Q : α → sProp 𝕄} :
    wSt2 m c b ⊢ iprop((wSt2 m c b -∗ wpc c (p (wval m c (ck (wc c b.val)))) Q)
      -∗ wpc c (.op (.load (Memref.whole cc0_scratch2 : Memref sig .tc .vmem S2x4096x512 .f32) (Rect.unit (s := S2x4096x512) off S1x4096x512.size inb).toLoadRect hl) p) Q) := by
  subst hoff
  unfold wSt2
  iintro ⟨H, Hr⟩ Hk
  iapply (slot_load c _ _ (fun _ => rfl) _) $$ H
  iintro H
  iapply Hk
  isplitl [H]; · iexact H
  iexact Hr
/-- Its second. -/
theorem w_load1 (c : Dev nD) (b : Fin 2) {off : Fin 3 → ℕ} (hoff : off = ![b.val, 0, 0]) {inb hl}
    {α : Type} {p : Vec F S1x4096x512 .f32 → Prog (TpuEff nD τ sig (Elt F) Λ₀ .tc) α} {Q : α → sProp 𝕄} :
    wSt4 m c b ⊢ iprop((wSt4 m c b -∗ wpc c (p (wval m c (ck (wc c (b.val + 2))))) Q)
      -∗ wpc c (.op (.load (Memref.whole cc0_scratch2 : Memref sig .tc .vmem S2x4096x512 .f32) (Rect.unit (s := S2x4096x512) off S1x4096x512.size inb).toLoadRect hl) p) Q) := by
  subst hoff
  unfold wSt4
  iintro ⟨H, Hr⟩ Hk
  iapply (slot_load c _ _ (fun _ => rfl) _) $$ H
  iintro H
  iapply Hk
  isplitl [H]; · iexact H
  iexact Hr

/-! ## The activations -/

/-- A buffer of device `c` whole at `f`. -/
abbrev whl (c : Dev nD) (b : Ref sig .tc) (f : b.ty.Contents (Elt F)) : sProp 𝕄 := (((c : Thread nD τ).loc b) ↦{fullShare} (f : Buf (Elt F) ((c : Thread nD τ).loc b)))

/-- The state of the activations' transfer: idle, in flight, landed. -/
def xSt0 (c : Dev nD) : sProp 𝕄 := iprop((∃ f, whl c cc0_scratch0 f) ∗ whl c main_arg0 (xv m c) ∗ dutyTok ER (xCell c) 0 c ∗ atPos ER (xCell c) 0 ∅ 0)
def xSt1 (c : Dev nD) : sProp 𝕄 := iprop(cred (tallyAt (xCell c) () NX) ∗ atPos ER (xCell c) 0 ∅ 0)
def xSt2 (c : Dev nD) : sProp 𝕄 := iprop(whl c cc0_scratch0 (xv m c) ∗ whl c main_arg0 (xv m c) ∗ atPos ER (xCell c) 1 ∅ 0)

theorem x_copy (c : Dev nD) {q : DmaSem sig} (hq : q = xS) {hsrc hdst hsem}
    {α : Type} {p : Prog (TpuEff nD τ sig (Elt F) Λ₀ .tc) α} {Q : α → sProp 𝕄} :
    shared m ρ ⊢ iprop(xSt0 m c -∗ (xSt1 c -∗ wpc c p Q)
      -∗ wpc c (.op (.enqueueDma (Memref.whole main_arg0 : Memref sig .tc .hbm S256x4096 .f32) (.here (Memref.whole cc0_scratch0 : Memref sig .tc .vmem S256x4096 .f32)) (.dma q) hsrc hdst hsem) fun _ => p) Q) := by
  subst hq
  unfold xSt0 xSt1
  iintro #Hs ⟨⟨%fd, Hd⟩, Hx, Ht, Ha⟩ Hk
  ihave Hi := (shared_x m ρ c) $$ Hs
  unfold known
  icases Hi with ⟨⟨%κ, #Hi⟩, #Hr⟩
  iapply (Rounds.wp_copy_pointsTo 𝒱₀ ER (Rd m ρ) (c : Thread nD τ) none (κ := κ) (src := (Memref.whole main_arg0 : Memref sig .tc .hbm S256x4096 .f32))
    (dst := (Memref.whole cc0_scratch0 : Memref sig .tc .vmem S256x4096 .f32)) (sem := .dma xS) (r := 0) (d := c) (fs := xv m c) (fd := fd) (q := fullShare)
    (by rw [dut_x]; exact Finset.mem_singleton_self _) () NX NX_eq (amt_x m ρ c 0 c)
    (by
      rw [pay_x]; unfold xPay
      rw [View.write_whole_univ, View.read_whole, View.set_whole, View.set_whole])) $$ [Hd Ht Hx]
  · isplitr; · iexact Hi
    isplitl [Hx]; · rw [View.set_whole]; iexact Hx
    isplitl [Hd]; · rw [View.set_whole]; iexact Hd
    isplitl [Ht]; · iexact Ht
    iexact Hr
  iintro Hc
  iapply Hk
  isplitl [Hc]; · iexact Hc
  iexact Ha

theorem x_wait (c : Dev nD) (n : ℕ) {q : DmaSem sig} (hq : q = xS) {sp' : Space} {s' : Shape} {e' : EltTy} {src : Memref sig .tc sp' s' e'} {hsrc hdst}
    {α : Type} {p : Prog (TpuEff nD τ sig (Elt F) Λ₀ .tc) α} {Q : α → sProp 𝕄} :
    shared m ρ ⊢ iprop(xSt1 c -∗ ow c (oS c n) -∗ ((xSt2 m c ∗ ow c (oS c n)) -∗ wpc c p Q)
      -∗ wpc c (.op (.waitDma2 q src (Memref.whole cc0_scratch0 : Memref sig .tc .vmem S256x4096 .f32) hsrc hdst) fun _ => p) Q) := by
  subst hq
  have hcr : (cred (tallyAt (xCell c) () NX) : sProp 𝕄) ⊢ cred (tallyAt (xCell c) () (Memref.whole cc0_scratch0 : Memref sig .tc .vmem S256x4096 .f32).view.dmaCredit) :=
    Entails.of_eq (congrArg (fun N => cred (tallyAt (xCell c) () N)) NX_eq.symm)
  unfold xSt1 xSt2
  iintro #Hs ⟨Hc, Ha⟩ Ho Hk
  iapply (wait_round m ρ c (w := .waitDma2 xS src (Memref.whole cc0_scratch0 : Memref sig .tc .vmem S256x4096 .f32) hsrc hdst)
      (wpE_waitDma2_eq 𝒱₀ (c : Thread nD τ) none Set.univ) 0 (NX_eq.trans (exp_x m ρ c).symm) (oS c n)
      (mayWait_lowS c xS (by decide) n) (shared_x m ρ c) (rest_x m ρ c)) $$ Hs [Hc] Ha Ho
  · iapply hcr; iexact Hc
  unfold xPay
  iintro ⟨Ha, -, Ho, Hb, Hw⟩
  iapply Hk
  isplitr [Ho]
  · isplitl [Hb]; · iexact Hb
    isplitl [Hw]; · iexact Hw
    iexact Ha
  iexact Ho

/-- The end of a stretch. -/
theorem wpc_ret (c : Dev nD) {α : Type} (a : α) (Q : α → sProp 𝕄) : Q a ⊢ wpc c (.ret a) Q := by
  unfold wpc
  rw [wp_ret]
  iintro H; imodintro; iexact H

theorem hz2 : (![0, 0] : Fin 2 → ℕ) = fun _ => 0 := funext fun a => by fin_cases a <;> rfl

/-- The landed activations read. -/
theorem x_load (c : Dev nD) {inb hl} {α : Type} {p : Vec F S256x4096 .f32 → Prog (TpuEff nD τ sig (Elt F) Λ₀ .tc) α} {Q : α → sProp 𝕄} :
    xSt2 m c ⊢ iprop((xSt2 m c -∗ wpc c (p (xv m c)) Q)
      -∗ wpc c (.op (.load (Memref.whole cc0_scratch0 : Memref sig .tc .vmem S256x4096 .f32) (Rect.unit (s := S256x4096) ![0, 0] S256x4096.size inb).toLoadRect hl) p) Q) := by
  unfold xSt2
  iintro ⟨H, Hr⟩ Hk
  iapply (wp_load 𝒱₀ (c : Thread nD τ) none Set.univ (m := (Memref.whole cc0_scratch0 : Memref sig .tc .vmem S256x4096 .f32)) (Finset.subset_univ _)) $$ H
  iintro H
  rw [show (Memref.whole cc0_scratch0 : Memref sig .tc .vmem S256x4096 .f32).view.readAt (Elt F) (Rect.unit (s := S256x4096) ![0, 0] S256x4096.size inb).toLoadRect (xv m c) = xv m c from
    Memref.readAt_unit_zero (Elt F) cc0_scratch0 hz2 _ _]
  iapply Hk
  isplitl [H]; · iexact H
  iexact Hr

/-- The cast activations stored. -/
theorem xb_store (c : Dev nD) {inb inb' hl hx hm} {w : (cc0_scratch1 : Ref sig .tc).ty.Contents (Elt F)} {α : Type} {p : Prog (TpuEff nD τ sig (Elt F) Λ₀ .tc) α} {Q : α → sProp 𝕄} :
    iprop(∃ f, whl c cc0_scratch1 f) ⊢ iprop((whl c cc0_scratch1 w -∗ wpc c p Q)
      -∗ wpc c (.op (.load (Memref.whole cc0_scratch1 : Memref sig .tc .vmem S256x4096 .bf16) (Rect.unit (s := S256x4096) ![0, 0] S256x4096.size inb).toLoadRect hl)
          fun _ => .op (.store (Memref.whole cc0_scratch1 : Memref sig .tc .vmem S256x4096 .bf16) (Rect.unit (s := S256x4096) ![0, 0] S256x4096.size inb') w Finset.univ hx hm) fun _ => p) Q) := by
  iintro ⟨%f, H⟩ Hk
  iapply (wp_load 𝒱₀ (c : Thread nD τ) none Set.univ (m := (Memref.whole cc0_scratch1 : Memref sig .tc .vmem S256x4096 .bf16)) (Finset.subset_univ _)) $$ H
  iintro H
  iapply (wp_store 𝒱₀ (c : Thread nD τ) none Set.univ (m := (Memref.whole cc0_scratch1 : Memref sig .tc .vmem S256x4096 .bf16))
    (r := Rect.unit (s := S256x4096) ![0, 0] S256x4096.size inb') (w := w) (Mk := Finset.univ) (Finset.subset_univ _)) $$ H
  iintro H
  rw [show ((Memref.whole cc0_scratch1 : Memref sig .tc .vmem S256x4096 .bf16).access (Rect.unit (s := S256x4096) ![0, 0] S256x4096.size inb')).write (Elt F) f w Finset.univ = w from
    Memref.write_access_unit_zero_univ (Elt F) cc0_scratch1 hz2 inb' f w]
  iapply Hk
  iexact H

/-- The cast activations read. -/
theorem xb_load (c : Dev nD) {inb hl} (f : (cc0_scratch1 : Ref sig .tc).ty.Contents (Elt F)) {α : Type} {p : Vec F S256x4096 .bf16 → Prog (TpuEff nD τ sig (Elt F) Λ₀ .tc) α} {Q : α → sProp 𝕄} :
    whl c cc0_scratch1 f ⊢ iprop((whl c cc0_scratch1 f -∗ wpc c (p f) Q)
      -∗ wpc c (.op (.load (Memref.whole cc0_scratch1 : Memref sig .tc .vmem S256x4096 .bf16) (Rect.unit (s := S256x4096) ![0, 0] S256x4096.size inb).toLoadRect hl) p) Q) := by
  iintro H Hk
  iapply (wp_load 𝒱₀ (c : Thread nD τ) none Set.univ (m := (Memref.whole cc0_scratch1 : Memref sig .tc .vmem S256x4096 .bf16)) (Finset.subset_univ _)) $$ H
  iintro H
  rw [show (Memref.whole cc0_scratch1 : Memref sig .tc .vmem S256x4096 .bf16).view.readAt (Elt F) (Rect.unit (s := S256x4096) ![0, 0] S256x4096.size inb).toLoadRect f = f from
    Memref.readAt_unit_zero (Elt F) cc0_scratch1 hz2 _ _]
  iapply Hk
  iexact H

end Cert.KProof

end
-- ==== Proof.PartsA.lean ====
module

public import proofs.«01_k».proof.Proof.Ops2
public import proofs.«01_k».proof.Proof.Gen.KernelIdeal.Skeleton

/-! The body's stretches, each from the states it finds to those it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The scale's word read. -/
theorem sm_load0 (c : Dev nD) (f : (cc0_stg0_0 : Ref sig .tc).ty.Contents (Elt F)) {inb hl}
    {α : Type} {p : (S1.Idx → Elt F .f32) → Prog (TpuEff nD τ sig (Elt F) Λ₀ .tc) α} {Q : α → sProp 𝕄} :
    whl c cc0_stg0_0 f ⊢ iprop((whl c cc0_stg0_0 f -∗ wpc c (p (((Memref.whole cc0_stg0_0 : Memref sig .tc .smem S1 .f32).access (Rect.unit (s := S1) ![0] S1.size inb)).read (Elt F) f)) Q)
      -∗ wpc c (.op (.load (Memref.whole cc0_stg0_0 : Memref sig .tc .smem S1 .f32) (Rect.unit (s := S1) ![0] S1.size inb).toLoadRect hl) p) Q) := by
  iintro H Hk
  iapply (wp_load_rect 𝒱₀ (c : Thread nD τ) none Set.univ (m := (Memref.whole cc0_stg0_0 : Memref sig .tc .smem S1 .f32)) (r := Rect.unit (s := S1) ![0] S1.size inb)
    (q := fullShare) (f := f) (S := Finset.univ) (Finset.subset_univ _)) $$ H
  iexact Hk

/-- The scale's word read. -/
theorem sm_load1 (c : Dev nD) (f : (cc0_stg1_0 : Ref sig .tc).ty.Contents (Elt F)) {inb hl}
    {α : Type} {p : (S1.Idx → Elt F .f32) → Prog (TpuEff nD τ sig (Elt F) Λ₀ .tc) α} {Q : α → sProp 𝕄} :
    whl c cc0_stg1_0 f ⊢ iprop((whl c cc0_stg1_0 f -∗ wpc c (p (((Memref.whole cc0_stg1_0 : Memref sig .tc .smem S1 .f32).access (Rect.unit (s := S1) ![0] S1.size inb)).read (Elt F) f)) Q)
      -∗ wpc c (.op (.load (Memref.whole cc0_stg1_0 : Memref sig .tc .smem S1 .f32) (Rect.unit (s := S1) ![0] S1.size inb).toLoadRect hl) p) Q) := by
  iintro H Hk
  iapply (wp_load_rect 𝒱₀ (c : Thread nD τ) none Set.univ (m := (Memref.whole cc0_stg1_0 : Memref sig .tc .smem S1 .f32)) (r := Rect.unit (s := S1) ![0] S1.size inb)
    (q := fullShare) (f := f) (S := Finset.univ) (Finset.subset_univ _)) $$ H
  iexact Hk

/-- The end of a stretch, its result under another name. -/
theorem wpc_ret_eq (c : Dev nD) {α : Type} {a b : α} (h : a = b) (Q : α → sProp 𝕄) : Q b ⊢ wpc c (.ret a) Q := h ▸ wpc_ret c b Q

/-- The signals paid, what is owed is the sends. -/
theorem ow_signaled (c : Dev nD) : (ow c (oG c (14 - 14)) : sProp 𝕄) ⊢ ow c (oS c 16) := Entails.refl _

set_option maxHeartbeats 2000000 in
/-- The body's stretch 1. -/
theorem part1 (c : Dev nD) (Q : (Σ' (d0 : Dev nD) (v2 : BitVec 32) (v19 : BitVec 32), Sems sig S_) → sProp 𝕄) :
    shared m ρ ⊢ iprop(sigs c 0 -∗ ow c (oG c 15) -∗ (∀ (v2 : BitVec 32) (v19 : BitVec 32), (sigs c 2 ∗ ow c (oG c 13)) -∗ Q ⟨c, v2, v19, (SemArray.scalar (sig.barrier 0 rfl) : Sems sig S_)⟩)
      -∗ wpc c (k0_part1 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 ) Q) := by
  rw [k0_part1_eq_skeleton]; unfold k0_part1_skel
  simp only [smemLoad, smemLoadElt, semSignalWord, semWaitWord, Prog.lift, Prog.bind_op, Prog.bind_ret, Prog.pure_eq_ret, wp_deviceId]
  iintro #Hs Hg Ho Hk
  iapply (sig_step m ρ c 0 (by decide) (sgn_0 c) rfl) $$ Hs Hg Ho
  iintro ⟨Hg, Ho⟩
  iapply (sig_step m ρ c 1 (by decide) (sgn_1 c) rfl) $$ Hs Hg Ho
  iintro ⟨Hg, Ho⟩
  iapply (wpc_ret c _ _)
  iapply Hk
  isplitl [Hg]; · iexact Hg
  iexact Ho

set_option maxHeartbeats 2000000 in
/-- The body's stretch 2. -/
theorem part2 (c : Dev nD) (v2 : BitVec 32) (Q : PUnit → sProp 𝕄) :
    shared m ρ ⊢ iprop(sigs c 2 -∗ ow c (oG c 13) -∗ ((sigs c 8 ∗ ow c (oG c 7)) -∗ Q PUnit.unit)
      -∗ wpc c (k0_part2 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl) : Sems sig S_)) Q) := by
  rw [k0_part2_eq_skeleton]; unfold k0_part2_skel
  simp only [smemLoad, smemLoadElt, semSignalWord, semWaitWord, Prog.lift, Prog.bind_op, Prog.bind_ret, Prog.pure_eq_ret, wp_deviceId]
  iintro #Hs Hg Ho Hk
  iapply (sig_step m ρ c 2 (by decide) (sgn_2 c) rfl) $$ Hs Hg Ho
  iintro ⟨Hg, Ho⟩
  iapply (sig_step m ρ c 3 (by decide) (sgn_3 c) rfl) $$ Hs Hg Ho
  iintro ⟨Hg, Ho⟩
  iapply (sig_step m ρ c 4 (by decide) (sgn_4 c) rfl) $$ Hs Hg Ho
  iintro ⟨Hg, Ho⟩
  iapply (sig_step m ρ c 5 (by decide) (sgn_5 c) rfl) $$ Hs Hg Ho
  iintro ⟨Hg, Ho⟩
  iapply (sig_step m ρ c 6 (by decide) (sgn_6 c) rfl) $$ Hs Hg Ho
  iintro ⟨Hg, Ho⟩
  iapply (sig_step m ρ c 7 (by decide) (sgn_7 c) rfl) $$ Hs Hg Ho
  iintro ⟨Hg, Ho⟩
  iapply (wpc_ret c _ _)
  iapply Hk
  isplitl [Hg]; · iexact Hg
  iexact Ho

set_option maxHeartbeats 2000000 in
/-- The body's stretch 3. -/
theorem part3 (c : Dev nD) (v2 : BitVec 32) (Q : PUnit → sProp 𝕄) :
    shared m ρ ⊢ iprop(sigs c 8 -∗ ow c (oG c 7) -∗ ((sigs c 14 ∗ ow c (oG c 1)) -∗ Q PUnit.unit)
      -∗ wpc c (k0_part3 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl) : Sems sig S_)) Q) := by
  rw [k0_part3_eq_skeleton]; unfold k0_part3_skel
  simp only [smemLoad, smemLoadElt, semSignalWord, semWaitWord, Prog.lift, Prog.bind_op, Prog.bind_ret, Prog.pure_eq_ret, wp_deviceId]
  iintro #Hs Hg Ho Hk
  iapply (sig_step m ρ c 8 (by decide) (sgn_8 c) rfl) $$ Hs Hg Ho
  iintro ⟨Hg, Ho⟩
  iapply (sig_step m ρ c 9 (by decide) (sgn_9 c) rfl) $$ Hs Hg Ho
  iintro ⟨Hg, Ho⟩
  iapply (sig_step m ρ c 10 (by decide) (sgn_10 c) rfl) $$ Hs Hg Ho
  iintro ⟨Hg, Ho⟩
  iapply (sig_step m ρ c 11 (by decide) (sgn_11 c) rfl) $$ Hs Hg Ho
  iintro ⟨Hg, Ho⟩
  iapply (sig_step m ρ c 12 (by decide) (sgn_12 c) rfl) $$ Hs Hg Ho
  iintro ⟨Hg, Ho⟩
  iapply (sig_step m ρ c 13 (by decide) (sgn_13 c) rfl) $$ Hs Hg Ho
  iintro ⟨Hg, Ho⟩
  iapply (wpc_ret c _ _)
  iapply Hk
  isplitl [Hg]; · iexact Hg
  iexact Ho

set_option maxHeartbeats 2000000 in
/-- The body's stretch 4. -/
theorem part4 (c : Dev nD) (v19 : BitVec 32) (Q : (F .f32) → sProp 𝕄) :
    shared m ρ ⊢ iprop(sigs c 14 -∗ ow c (oG c 1) -∗ xSt0 m c -∗ wSt0 m c 0 -∗ whl c cc0_stg0_0 (s0v m ρ c) -∗ whl c cc0_stg1_0 (s1v m ρ c) -∗ (∃ f, whl c cc0_scratch1 f) -∗ wSt0 m c 1 -∗ ((sigs c 15 ∗ ow c (oS c 16) ∗ xSt2 m c ∗ wSt1 m c 0 ∗ whl c cc0_stg0_0 (s0v m ρ c) ∗ whl c cc0_stg1_0 (s1v m ρ c) ∗ whl c cc0_scratch1 (xb m c) ∗ wSt1 m c 1) -∗ Q (sc m ρ c))
      -∗ wpc c (k0_part4 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v19 (SemArray.scalar (sig.barrier 0 rfl) : Sems sig S_)) Q) := by
  rw [k0_part4_eq_skeleton]; unfold k0_part4_skel
  simp only [smemLoad, smemLoadElt, semSignalWord, semWaitWord, Prog.lift, Prog.bind_op, Prog.bind_ret, Prog.pure_eq_ret, wp_deviceId]
  iintro #Hs Hg Ho HX H0 M0 M1 HB H1 Hk
  iapply (sig_step m ρ c 14 (by decide) (sgn_14 c) rfl) $$ Hs Hg Ho
  iintro ⟨Hg, Ho⟩
  iapply (x_copy m ρ c x_sem) $$ Hs HX
  iintro HX
  iapply (w_copy0 m ρ c 0 (off1_0 c) rfl w_sem0) $$ Hs H0
  iintro H0
  iapply (sm_load0 c _) $$ M0
  iintro M0
  iapply (sm_load1 c _) $$ M1
  iintro M1
  ihave Ho := (ow_signaled c) $$ Ho
  iapply (x_wait m ρ c 16 x_sem) $$ Hs HX Ho
  iintro ⟨HX, Ho⟩
  iapply (x_load m c) $$ HX
  iintro HX
  iapply (xb_store (w := k0_pay2 (xv m c)) c) $$ HB
  iintro HB
  iapply (w_copy0 m ρ c 1 (off1_1 c) rfl w_sem1) $$ Hs H1
  iintro H1
  iapply (wpc_ret_eq c (b := sc m ρ c) rfl)
  iapply Hk
  isplitl [Hg]; · iexact Hg
  isplitl [Ho]; · iexact Ho
  isplitl [HX]; · iexact HX
  isplitl [H0]; · iexact H0
  isplitl [M0]; · iexact M0
  isplitl [M1]; · iexact M1
  isplitl [HB]; · iexact HB
  iexact H1

end Cert.KProof

end
-- ==== Proof.PartsB.lean ====
module

public import proofs.«01_k».proof.Proof.Ops2
public import proofs.«01_k».proof.Proof.Gen.KernelIdeal.Skeleton

/-! The body's stretches, each from the states it finds to those it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000 in
/-- The body's stretch 5. -/
theorem part5 (c : Dev nD) (v2 : BitVec 32) (v19 : BitVec 32) (Q : (Σ' (v121 : FVec F S256x512 .f32) (v123 : BitVec 32) (v125 : BitVec 32) (v136 : BitVec 32) (v137 : FVec F S256x128 .f32), BitVec 1) → sProp 𝕄) :
    shared m ρ ⊢ iprop(wSt1 m c 0 -∗ ow c (oS c 16) -∗ whl c cc0_scratch1 (xb m c) -∗ tiles m ρ c 0 0 0 -∗ ownOut m ρ c 0 -∗ (∀ (v123 : BitVec 32) (v125 : BitVec 32) (v136 : BitVec 32) (v143 : BitVec 1), (wSt2 m c 0 ∗ ow c (oS c 16) ∗ whl c cc0_scratch1 (xb m c) ∗ tiles m ρ c 2 0 0 ∗ ownOut m ρ c 1) -∗ Q ⟨(actv m ρ c (wc c 0)), v123, v125, v136, (sub4 1 (actv m ρ c (wc c 0))), v143⟩)
      -∗ wpc c (k0_part5 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (sc m ρ c)) Q) := by
  rw [k0_part5_eq_skeleton]; unfold k0_part5_skel
  simp only [smemLoad, smemLoadElt, semSignalWord, semWaitWord, Prog.lift, Prog.bind_op, Prog.bind_ret, Prog.pure_eq_ret, wp_deviceId]
  iintro #Hs H0 Ho HB HT HO Hk
  iapply (w_wait0 m ρ c 0 16 w_sem0) $$ Hs H0 Ho
  iintro ⟨H0, Ho⟩
  iapply (xb_load c (xb m c)) $$ HB
  iintro HB
  iapply (w_load0 m c 0 rfl) $$ H0
  iintro H0
  iapply (tile_store m ρ c 0 (by decide) 0 (by decide) (off2_0 c) rfl) $$ HT
  iintro HT
  iapply (own_store m ρ c 0 (by decide) (own_0 c) (k0_off3_eq c) rfl) $$ HO
  iintro HO
  iapply (tile_store m ρ c 1 (by decide) 0 (by decide) (off2_1 c) rfl) $$ HT
  iintro HT
  rw [show k0_pay3 (sc m ρ c) (xb m c) (wval m c (ck (wc c (0 : Fin 2).val))) = (actv m ρ c (wc c 0)) from rfl]
  rw [show k0_pay6 (sc m ρ c) (xb m c) (wval m c (ck (wc c (0 : Fin 2).val))) = (sub4 1 (actv m ρ c (wc c 0))) from rfl]
  iapply (wpc_ret c _ _)
  iapply Hk
  isplitl [H0]; · iexact H0
  isplitl [Ho]; · iexact Ho
  isplitl [HB]; · iexact HB
  isplitl [HT]; · iexact HT
  iexact HO

set_option maxHeartbeats 2000000 in
/-- The body's stretch 6. -/
theorem part6 (c : Dev nD) (v2 : BitVec 32) (v19 : BitVec 32) (v123 : BitVec 32) (v143 : BitVec 1) (Q : (Σ' (v147 : BitVec 32) (v158 : BitVec 32) (v176 : BitVec 32), BitVec 32) → sProp 𝕄) :
    shared m ρ ⊢ iprop(ownOut m ρ c 1 -∗ tiles m ρ c 2 0 0 -∗ wSt2 m c 0 -∗ (∀ (v147 : BitVec 32) (v158 : BitVec 32) (v176 : BitVec 32) (c4_i32_131 : BitVec 32), (ownOut m ρ c 4 ∗ tiles m ρ c 4 0 0 ∗ wSt3 m c 0) -∗ Q ⟨v147, v158, v176, c4_i32_131⟩)
      -∗ wpc c (k0_part6 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (actv m ρ c (wc c 0)) v123 (sub4 1 (actv m ρ c (wc c 0))) v143) Q) := by
  rw [k0_part6_eq_skeleton]; unfold k0_part6_skel
  simp only [smemLoad, smemLoadElt, semSignalWord, semWaitWord, Prog.lift, Prog.bind_op, Prog.bind_ret, Prog.pure_eq_ret, wp_deviceId]
  iintro #Hs HO HT H0 Hk
  iapply (own_store m ρ c 1 (by decide) (own_1 c) (k0_off4_eq c) rfl) $$ HO
  iintro HO
  iapply (tile_store m ρ c 2 (by decide) 0 (by decide) (off2_2 c) rfl) $$ HT
  iintro HT
  iapply (own_store m ρ c 2 (by decide) (own_2 c) (k0_off5_eq c) rfl) $$ HO
  iintro HO
  iapply (tile_store m ρ c 3 (by decide) 0 (by decide) (off2_3 c) rfl) $$ HT
  iintro HT
  iapply (own_store m ρ c 3 (by decide) (own_3 c) (k0_off6_eq c) rfl) $$ HO
  iintro HO
  iapply (w_copy1 m ρ c 0 (off1_2 c) rfl w_sem0) $$ Hs H0
  iintro H0
  iapply (wpc_ret c _ _)
  iapply Hk
  isplitl [HO]; · iexact HO
  isplitl [HT]; · iexact HT
  iexact H0

set_option maxHeartbeats 2000000 in
/-- The body's stretch 7. -/
theorem part7 (c : Dev nD) (v2 : BitVec 32) (v19 : BitVec 32) (v176 : BitVec 32) (c4_i32_131 : BitVec 32) (Q : (Σ' (v192 : FVec F S256x512 .f32) (v194 : BitVec 32) (v196 : BitVec 32) (v207 : BitVec 32) (v208 : FVec F S256x128 .f32), FVec F S256x128 .bf16) → sProp 𝕄) :
    shared m ρ ⊢ iprop(wSt1 m c 1 -∗ ow c (oS c 16) -∗ whl c cc0_scratch1 (xb m c) -∗ tiles m ρ c 4 0 0 -∗ ownOut m ρ c 4 -∗ (∀ (v194 : BitVec 32) (v196 : BitVec 32) (v207 : BitVec 32), (wSt2 m c 1 ∗ ow c (oS c 16) ∗ whl c cc0_scratch1 (xb m c) ∗ tiles m ρ c 5 0 0 ∗ ownOut m ρ c 5) -∗ Q ⟨(actv m ρ c (wc c 1)), v194, v196, v207, (sub4 1 (actv m ρ c (wc c 1))), (k0_pay16 (sc m ρ c) (xb m c) (wval m c (ck (wc c 1))))⟩)
      -∗ wpc c (k0_part7 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (sc m ρ c) v176 c4_i32_131) Q) := by
  rw [k0_part7_eq_skeleton]; unfold k0_part7_skel
  simp only [smemLoad, smemLoadElt, semSignalWord, semWaitWord, Prog.lift, Prog.bind_op, Prog.bind_ret, Prog.pure_eq_ret, wp_deviceId]
  iintro #Hs H1 Ho HB HT HO Hk
  iapply (w_wait0 m ρ c 1 16 w_sem1) $$ Hs H1 Ho
  iintro ⟨H1, Ho⟩
  iapply (xb_load c (xb m c)) $$ HB
  iintro HB
  iapply (w_load0 m c 1 rfl) $$ H1
  iintro H1
  iapply (tile_store m ρ c 4 (by decide) 0 (by decide) (off2_4 c) rfl) $$ HT
  iintro HT
  iapply (own_store m ρ c 4 (by decide) (own_4 c) (k0_off7_eq c) rfl) $$ HO
  iintro HO
  rw [show k0_pay12 (sc m ρ c) (xb m c) (wval m c (ck (wc c (1 : Fin 2).val))) = (actv m ρ c (wc c 1)) from rfl]
  rw [show k0_pay15 (sc m ρ c) (xb m c) (wval m c (ck (wc c (1 : Fin 2).val))) = (sub4 1 (actv m ρ c (wc c 1))) from rfl]
  rw [show k0_pay16 (sc m ρ c) (xb m c) (wval m c (ck (wc c (1 : Fin 2).val))) = (k0_pay16 (sc m ρ c) (xb m c) (wval m c (ck (wc c 1)))) from rfl]
  iapply (wpc_ret c _ _)
  iapply Hk
  isplitl [H1]; · iexact H1
  isplitl [Ho]; · iexact Ho
  isplitl [HB]; · iexact HB
  isplitl [HT]; · iexact HT
  iexact HO

set_option maxHeartbeats 2000000 in
/-- The body's stretch 8. -/
theorem part8 (c : Dev nD) (v2 : BitVec 32) (v125 : BitVec 32) (v136 : BitVec 32) (v147 : BitVec 32) (v194 : BitVec 32) (v207 : BitVec 32) (Q : (Σ' (v218 : BitVec 32) (v229 : BitVec 32), BitVec 32) → sProp 𝕄) :
    shared m ρ ⊢ iprop(tiles m ρ c 5 0 0 -∗ ownOut m ρ c 5 -∗ (cred (tallyAt (barCell c) () 15) ∗ atPos ER (barCell c) 0 ∅ 0) -∗ ow c (oS c 16) -∗ (∀ (v218 : BitVec 32) (v229 : BitVec 32) (v246 : BitVec 32), (tiles m ρ c 8 2 0 ∗ ownOut m ρ c 8 ∗ (atPos ER (barCell c) 1 ∅ 0) ∗ ow c (oS c 14) ∗ rooms c 2) -∗ Q ⟨v218, v229, v246⟩)
      -∗ wpc c (k0_part8 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (SemArray.scalar (sig.barrier 0 rfl) : Sems sig S_) v125 v136 v147 (actv m ρ c (wc c 1)) v194 v207 (sub4 1 (actv m ρ c (wc c 1))) (k0_pay16 (sc m ρ c) (xb m c) (wval m c (ck (wc c 1))))) Q) := by
  rw [k0_part8_eq_skeleton]; unfold k0_part8_skel
  simp only [smemLoad, smemLoadElt, semSignalWord, semWaitWord, Prog.lift, Prog.bind_op, Prog.bind_ret, Prog.pure_eq_ret, wp_deviceId]
  iintro #Hs HT HO HC Ho Hk
  iapply (tile_store m ρ c 5 (by decide) 0 (by decide) (off2_5 c) rfl) $$ HT
  iintro HT
  iapply (own_store m ρ c 5 (by decide) (own_5 c) (k0_off8_eq c) rfl) $$ HO
  iintro HO
  iapply (tile_store m ρ c 6 (by decide) 0 (by decide) (off2_6 c) rfl) $$ HT
  iintro HT
  iapply (own_store m ρ c 6 (by decide) (own_6 c) (k0_off9_eq c) rfl) $$ HO
  iintro HO
  iapply (tile_store m ρ c 7 (by decide) 0 (by decide) (off2_7 c) rfl) $$ HT
  iintro HT
  iapply (own_store m ρ c 7 (by decide) (own_7 c) (k0_off10_eq c) rfl) $$ HO
  iintro HO
  iapply (bar_wait m ρ c rfl) $$ Hs HC Ho
  iintro ⟨HC, Ho, HR⟩
  iapply (tile_send m ρ c 0 (by decide) 8 (by decide) (snd_0 c) (fun _ => Fin.ext (sndV_0 c)) (fun _ => sndC_0 c) (fun _ => sndD_0 c) (fun _ => snd_sem (sndA_0 c) _ _) (fun _ => rcv_sem (sndB_0 c) _ _)) $$ Hs HT HR Ho
  iintro ⟨HT, HR, Ho⟩
  iapply (tile_send m ρ c 1 (by decide) 8 (by decide) (snd_1 c) (fun _ => Fin.ext (sndV_1 c)) (fun _ => sndC_1 c) (fun _ => sndD_1 c) (fun _ => snd_sem (sndA_1 c) _ _) (fun _ => rcv_sem (sndB_1 c) _ _)) $$ Hs HT HR Ho
  iintro ⟨HT, HR, Ho⟩
  iapply (wpc_ret c _ _)
  iapply Hk
  isplitl [HT]; · iexact HT
  isplitl [HO]; · iexact HO
  isplitl [HC]; · iexact HC
  isplitl [Ho]; · iexact Ho
  iexact HR

end Cert.KProof

end
-- ==== Proof.PartsC.lean ====
module

public import proofs.«01_k».proof.Proof.Ops2
public import proofs.«01_k».proof.Proof.Gen.KernelIdeal.Skeleton

/-! The body's stretches, each from the states it finds to those it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000 in
/-- The body's stretch 9. -/
theorem part9 (c : Dev nD) (v2 : BitVec 32) (v19 : BitVec 32) (v147 : BitVec 32) (v158 : BitVec 32) (v196 : BitVec 32) (v207 : BitVec 32) (v218 : BitVec 32) (v229 : BitVec 32) (v246 : BitVec 32) (Q : PUnit → sProp 𝕄) :
    shared m ρ ⊢ iprop(tiles m ρ c 8 2 0 -∗ rooms c 2 -∗ ow c (oS c 14) -∗ wSt2 m c 1 -∗ ((tiles m ρ c 8 8 0 ∗ rooms c 8 ∗ ow c (oS c 8) ∗ wSt3 m c 1) -∗ Q PUnit.unit)
      -∗ wpc c (k0_part9 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 v147 v158 v196 v207 v218 v229 v246) Q) := by
  rw [k0_part9_eq_skeleton]; unfold k0_part9_skel
  simp only [smemLoad, smemLoadElt, semSignalWord, semWaitWord, Prog.lift, Prog.bind_op, Prog.bind_ret, Prog.pure_eq_ret, wp_deviceId]
  iintro #Hs HT HR Ho H1 Hk
  iapply (tile_send m ρ c 2 (by decide) 8 (by decide) (snd_2 c) (fun _ => Fin.ext (sndV_2 c)) (fun _ => sndC_2 c) (fun _ => sndD_2 c) (fun _ => snd_sem (sndA_2 c) _ _) (fun _ => rcv_sem (sndB_2 c) _ _)) $$ Hs HT HR Ho
  iintro ⟨HT, HR, Ho⟩
  iapply (tile_send m ρ c 3 (by decide) 8 (by decide) (snd_3 c) (fun _ => Fin.ext (sndV_3 c)) (fun _ => sndC_3 c) (fun _ => sndD_3 c) (fun _ => snd_sem (sndA_3 c) _ _) (fun _ => rcv_sem (sndB_3 c) _ _)) $$ Hs HT HR Ho
  iintro ⟨HT, HR, Ho⟩
  iapply (tile_send m ρ c 4 (by decide) 8 (by decide) (snd_4 c) (fun _ => Fin.ext (sndV_4 c)) (fun _ => sndC_4 c) (fun _ => sndD_4 c) (fun _ => snd_sem (sndA_4 c) _ _) (fun _ => rcv_sem (sndB_4 c) _ _)) $$ Hs HT HR Ho
  iintro ⟨HT, HR, Ho⟩
  iapply (tile_send m ρ c 5 (by decide) 8 (by decide) (snd_5 c) (fun _ => Fin.ext (sndV_5 c)) (fun _ => sndC_5 c) (fun _ => sndD_5 c) (fun _ => snd_sem (sndA_5 c) _ _) (fun _ => rcv_sem (sndB_5 c) _ _)) $$ Hs HT HR Ho
  iintro ⟨HT, HR, Ho⟩
  iapply (tile_send m ρ c 6 (by decide) 8 (by decide) (snd_6 c) (fun _ => Fin.ext (sndV_6 c)) (fun _ => sndC_6 c) (fun _ => sndD_6 c) (fun _ => snd_sem (sndA_6 c) _ _) (fun _ => rcv_sem (sndB_6 c) _ _)) $$ Hs HT HR Ho
  iintro ⟨HT, HR, Ho⟩
  iapply (tile_send m ρ c 7 (by decide) 8 (by decide) (snd_7 c) (fun _ => Fin.ext (sndV_7 c)) (fun _ => sndC_7 c) (fun _ => sndD_7 c) (fun _ => snd_sem (sndA_7 c) _ _) (fun _ => rcv_sem (sndB_7 c) _ _)) $$ Hs HT HR Ho
  iintro ⟨HT, HR, Ho⟩
  iapply (w_copy1 m ρ c 1 (off1_3 c) rfl w_sem1) $$ Hs H1
  iintro H1
  iapply (wpc_ret c _ _)
  iapply Hk
  isplitl [HT]; · iexact HT
  isplitl [HR]; · iexact HR
  isplitl [Ho]; · iexact Ho
  iexact H1

set_option maxHeartbeats 2000000 in
/-- The body's stretch 10. -/
theorem part10 (c : Dev nD) (v2 : BitVec 32) (v19 : BitVec 32) (Q : (Σ' (v287 : FVec F S256x512 .f32) (v289 : BitVec 32) (v291 : BitVec 32) (v302 : BitVec 32) (v312 : BitVec 32), BitVec 32) → sProp 𝕄) :
    shared m ρ ⊢ iprop(wSt3 m c 0 -∗ ow c (oS c 8) -∗ whl c cc0_scratch1 (xb m c) -∗ tiles m ρ c 8 8 0 -∗ ownOut m ρ c 8 -∗ (∀ (v289 : BitVec 32) (v291 : BitVec 32) (v302 : BitVec 32) (v312 : BitVec 32) (c2_i32_209 : BitVec 32), (wSt4 m c 0 ∗ ow c (oS c 8) ∗ whl c cc0_scratch1 (xb m c) ∗ tiles m ρ c 10 8 0 ∗ ownOut m ρ c 10) -∗ Q ⟨(actv m ρ c (wc c 2)), v289, v291, v302, v312, c2_i32_209⟩)
      -∗ wpc c (k0_part10 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (sc m ρ c)) Q) := by
  rw [k0_part10_eq_skeleton]; unfold k0_part10_skel
  simp only [smemLoad, smemLoadElt, semSignalWord, semWaitWord, Prog.lift, Prog.bind_op, Prog.bind_ret, Prog.pure_eq_ret, wp_deviceId]
  iintro #Hs H0 Ho HB HT HO Hk
  iapply (w_wait1 m ρ c 0 8 w_sem0) $$ Hs H0 Ho
  iintro ⟨H0, Ho⟩
  iapply (xb_load c (xb m c)) $$ HB
  iintro HB
  iapply (w_load1 m c 0 rfl) $$ H0
  iintro H0
  iapply (tile_store m ρ c 8 (by decide) 8 (by decide) (off2_8 c) rfl) $$ HT
  iintro HT
  iapply (own_store m ρ c 8 (by decide) (own_8 c) (k0_off43_eq c) rfl) $$ HO
  iintro HO
  iapply (tile_store m ρ c 9 (by decide) 8 (by decide) (off2_9 c) rfl) $$ HT
  iintro HT
  iapply (own_store m ρ c 9 (by decide) (own_9 c) (k0_off44_eq c) rfl) $$ HO
  iintro HO
  rw [show k0_pay22 (sc m ρ c) (xb m c) (wval m c (ck (wc c ((0 : Fin 2).val + 2)))) = (actv m ρ c (wc c 2)) from rfl]
  iapply (wpc_ret c _ _)
  iapply Hk
  isplitl [H0]; · iexact H0
  isplitl [Ho]; · iexact Ho
  isplitl [HB]; · iexact HB
  isplitl [HT]; · iexact HT
  iexact HO

set_option maxHeartbeats 2000000 in
/-- The body's stretch 11. -/
theorem part11 (c : Dev nD) (v2 : BitVec 32) (v19 : BitVec 32) (v289 : BitVec 32) (v291 : BitVec 32) (v302 : BitVec 32) (v312 : BitVec 32) (c2_i32_209 : BitVec 32) (Q : (Σ' (v313 : BitVec 32), BitVec 32) → sProp 𝕄) :
    shared m ρ ⊢ iprop(tiles m ρ c 10 8 0 -∗ ownOut m ρ c 10 -∗ rooms c 8 -∗ ow c (oS c 8) -∗ (∀ (v313 : BitVec 32) (v324 : BitVec 32), (tiles m ρ c 12 12 0 ∗ ownOut m ρ c 12 ∗ rooms c 12 ∗ ow c (oS c 4)) -∗ Q ⟨v313, v324⟩)
      -∗ wpc c (k0_part11 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (actv m ρ c (wc c 2)) v289 v291 v302 v312 c2_i32_209) Q) := by
  rw [k0_part11_eq_skeleton]; unfold k0_part11_skel
  simp only [smemLoad, smemLoadElt, semSignalWord, semWaitWord, Prog.lift, Prog.bind_op, Prog.bind_ret, Prog.pure_eq_ret, wp_deviceId]
  iintro #Hs HT HO HR Ho Hk
  iapply (tile_store m ρ c 10 (by decide) 8 (by decide) (off2_10 c) rfl) $$ HT
  iintro HT
  iapply (own_store m ρ c 10 (by decide) (own_10 c) (k0_off45_eq c) rfl) $$ HO
  iintro HO
  iapply (tile_store m ρ c 11 (by decide) 8 (by decide) (off2_11 c) rfl) $$ HT
  iintro HT
  iapply (own_store m ρ c 11 (by decide) (own_11 c) (k0_off46_eq c) rfl) $$ HO
  iintro HO
  iapply (tile_send m ρ c 8 (by decide) 12 (by decide) (snd_8 c) (fun _ => Fin.ext (sndV_8 c)) (fun _ => sndC_8 c) (fun _ => sndD_8 c) (fun _ => snd_sem (sndA_8 c) _ _) (fun _ => rcv_sem (sndB_8 c) _ _)) $$ Hs HT HR Ho
  iintro ⟨HT, HR, Ho⟩
  iapply (tile_send m ρ c 9 (by decide) 12 (by decide) (snd_9 c) (fun _ => Fin.ext (sndV_9 c)) (fun _ => sndC_9 c) (fun _ => sndD_9 c) (fun _ => snd_sem (sndA_9 c) _ _) (fun _ => rcv_sem (sndB_9 c) _ _)) $$ Hs HT HR Ho
  iintro ⟨HT, HR, Ho⟩
  iapply (tile_send m ρ c 10 (by decide) 12 (by decide) (snd_10 c) (fun _ => Fin.ext (sndV_10 c)) (fun _ => sndC_10 c) (fun _ => sndD_10 c) (fun _ => snd_sem (sndA_10 c) _ _) (fun _ => rcv_sem (sndB_10 c) _ _)) $$ Hs HT HR Ho
  iintro ⟨HT, HR, Ho⟩
  iapply (tile_send m ρ c 11 (by decide) 12 (by decide) (snd_11 c) (fun _ => Fin.ext (sndV_11 c)) (fun _ => sndC_11 c) (fun _ => sndD_11 c) (fun _ => snd_sem (sndA_11 c) _ _) (fun _ => rcv_sem (sndB_11 c) _ _)) $$ Hs HT HR Ho
  iintro ⟨HT, HR, Ho⟩
  iapply (wpc_ret c _ _)
  iapply Hk
  isplitl [HT]; · iexact HT
  isplitl [HO]; · iexact HO
  isplitl [HR]; · iexact HR
  iexact Ho

set_option maxHeartbeats 2000000 in
/-- The body's stretch 12. -/
theorem part12 (c : Dev nD) (v2 : BitVec 32) (v19 : BitVec 32) (Q : (Σ' (v362 : FVec F S256x512 .f32) (v364 : BitVec 32) (v366 : BitVec 32) (v377 : BitVec 32), FVec F S256x128 .f32) → sProp 𝕄) :
    shared m ρ ⊢ iprop(wSt3 m c 1 -∗ ow c (oS c 4) -∗ whl c cc0_scratch1 (xb m c) -∗ tiles m ρ c 12 12 0 -∗ ownOut m ρ c 12 -∗ (∀ (v364 : BitVec 32) (v366 : BitVec 32) (v377 : BitVec 32), (wSt4 m c 1 ∗ ow c (oS c 4) ∗ whl c cc0_scratch1 (xb m c) ∗ tiles m ρ c 14 12 0 ∗ ownOut m ρ c 13) -∗ Q ⟨(actv m ρ c (wc c 3)), v364, v366, v377, (sub4 1 (actv m ρ c (wc c 3)))⟩)
      -∗ wpc c (k0_part12 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v19 (sc m ρ c)) Q) := by
  rw [k0_part12_eq_skeleton]; unfold k0_part12_skel
  simp only [smemLoad, smemLoadElt, semSignalWord, semWaitWord, Prog.lift, Prog.bind_op, Prog.bind_ret, Prog.pure_eq_ret, wp_deviceId]
  iintro #Hs H1 Ho HB HT HO Hk
  iapply (w_wait1 m ρ c 1 4 w_sem1) $$ Hs H1 Ho
  iintro ⟨H1, Ho⟩
  iapply (xb_load c (xb m c)) $$ HB
  iintro HB
  iapply (w_load1 m c 1 rfl) $$ H1
  iintro H1
  iapply (tile_store m ρ c 12 (by decide) 12 (by decide) (off2_12 c) rfl) $$ HT
  iintro HT
  iapply (own_store m ρ c 12 (by decide) (own_12 c) (k0_off63_eq c) rfl) $$ HO
  iintro HO
  iapply (tile_store m ρ c 13 (by decide) 12 (by decide) (off2_13 c) rfl) $$ HT
  iintro HT
  rw [show k0_pay31 (sc m ρ c) (xb m c) (wval m c (ck (wc c ((1 : Fin 2).val + 2)))) = (actv m ρ c (wc c 3)) from rfl]
  rw [show k0_pay34 (sc m ρ c) (xb m c) (wval m c (ck (wc c ((1 : Fin 2).val + 2)))) = (sub4 1 (actv m ρ c (wc c 3))) from rfl]
  iapply (wpc_ret c _ _)
  iapply Hk
  isplitl [H1]; · iexact H1
  isplitl [Ho]; · iexact Ho
  isplitl [HB]; · iexact HB
  isplitl [HT]; · iexact HT
  iexact HO

set_option maxHeartbeats 2000000 in
/-- The body's stretch 13. -/
theorem part13 (c : Dev nD) (v2 : BitVec 32) (v364 : BitVec 32) (v366 : BitVec 32) (v377 : BitVec 32) (Q : (Σ' (v388 : BitVec 32), BitVec 32) → sProp 𝕄) :
    shared m ρ ⊢ iprop(ownOut m ρ c 13 -∗ tiles m ρ c 14 12 0 -∗ rooms c 12 -∗ ow c (oS c 4) -∗ (∀ (v388 : BitVec 32) (v399 : BitVec 32), (ownOut m ρ c 16 ∗ tiles m ρ c 16 15 0 ∗ rooms c 15 ∗ ow c (oS c 1)) -∗ Q ⟨v388, v399⟩)
      -∗ wpc c (k0_part13 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 (actv m ρ c (wc c 3)) v364 v366 v377 (sub4 1 (actv m ρ c (wc c 3)))) Q) := by
  rw [k0_part13_eq_skeleton]; unfold k0_part13_skel
  simp only [smemLoad, smemLoadElt, semSignalWord, semWaitWord, Prog.lift, Prog.bind_op, Prog.bind_ret, Prog.pure_eq_ret, wp_deviceId]
  iintro #Hs HO HT HR Ho Hk
  iapply (own_store m ρ c 13 (by decide) (own_13 c) (k0_off64_eq c) rfl) $$ HO
  iintro HO
  iapply (tile_store m ρ c 14 (by decide) 12 (by decide) (off2_14 c) rfl) $$ HT
  iintro HT
  iapply (own_store m ρ c 14 (by decide) (own_14 c) (k0_off65_eq c) rfl) $$ HO
  iintro HO
  iapply (tile_store m ρ c 15 (by decide) 12 (by decide) (off2_15 c) rfl) $$ HT
  iintro HT
  iapply (own_store m ρ c 15 (by decide) (own_15 c) (k0_off66_eq c) rfl) $$ HO
  iintro HO
  iapply (tile_send m ρ c 12 (by decide) 16 (by decide) (snd_12 c) (fun _ => Fin.ext (sndV_12 c)) (fun _ => sndC_12 c) (fun _ => sndD_12 c) (fun _ => snd_sem (sndA_12 c) _ _) (fun _ => rcv_sem (sndB_12 c) _ _)) $$ Hs HT HR Ho
  iintro ⟨HT, HR, Ho⟩
  iapply (tile_send m ρ c 13 (by decide) 16 (by decide) (snd_13 c) (fun _ => Fin.ext (sndV_13 c)) (fun _ => sndC_13 c) (fun _ => sndD_13 c) (fun _ => snd_sem (sndA_13 c) _ _) (fun _ => rcv_sem (sndB_13 c) _ _)) $$ Hs HT HR Ho
  iintro ⟨HT, HR, Ho⟩
  iapply (tile_send m ρ c 14 (by decide) 16 (by decide) (snd_14 c) (fun _ => Fin.ext (sndV_14 c)) (fun _ => sndC_14 c) (fun _ => sndD_14 c) (fun _ => snd_sem (sndA_14 c) _ _) (fun _ => rcv_sem (sndB_14 c) _ _)) $$ Hs HT HR Ho
  iintro ⟨HT, HR, Ho⟩
  iapply (wpc_ret c _ _)
  iapply Hk
  isplitl [HO]; · iexact HO
  isplitl [HT]; · iexact HT
  isplitl [HR]; · iexact HR
  iexact Ho

end Cert.KProof

end
-- ==== Proof.PartsD.lean ====
module

public import proofs.«01_k».proof.Proof.Ops2
public import proofs.«01_k».proof.Proof.Gen.KernelIdeal.Skeleton

/-! The body's stretches, each from the states it finds to those it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The sends paid, nothing is owed. -/
theorem ow_sent (c : Dev nD) : (ow c (oS c (15 - 15)) : sProp 𝕄) ⊢ ow c 0 := Entails.refl _

set_option maxHeartbeats 2000000 in
/-- The body's stretch 14. -/
theorem part14 (c : Dev nD) (v2 : BitVec 32) (v399 : BitVec 32) (Q : BitVec 32 → sProp 𝕄) :
    shared m ρ ⊢ iprop(tiles m ρ c 16 15 0 -∗ rooms c 15 -∗ ow c (oS c 1) -∗ rcvs m ρ c 0 0 -∗ (∀ (v441 : BitVec 32), (tiles m ρ c 16 16 0 ∗ rooms c 16 ∗ ow c 0 ∗ rcvs m ρ c 2 1) -∗ Q v441)
      -∗ wpc c (k0_part14 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v399) Q) := by
  rw [k0_part14_eq_skeleton]; unfold k0_part14_skel
  simp only [smemLoad, smemLoadElt, semSignalWord, semWaitWord, Prog.lift, Prog.bind_op, Prog.bind_ret, Prog.pure_eq_ret, wp_deviceId]
  iintro #Hs HT HR Ho HV Hk
  iapply (tile_send m ρ c 15 (by decide) 16 (by decide) (snd_15 c) (fun _ => Fin.ext (sndV_15 c)) (fun _ => sndC_15 c) (fun _ => sndD_15 c) (fun _ => snd_sem (sndA_15 c) _ _) (fun _ => rcv_sem (sndB_15 c) _ _)) $$ Hs HT HR Ho
  iintro ⟨HT, HR, Ho⟩
  ihave Ho := (ow_sent c) $$ Ho
  iapply (rcv_wait m ρ c 0 (by decide) (rcv_sem (rcvS_0 c) _ _)) $$ Hs HV Ho
  iintro ⟨HV, Ho⟩
  iapply (rcv_load m ρ c 0 (by decide) (rcvL_0 c)) $$ HV
  iintro HV
  iapply (rcv_store m ρ c 0 (by decide) (rcvO_0 c) rfl) $$ HV
  iintro HV
  iapply (rcv_wait m ρ c 1 (by decide) (rcv_sem (rcvS_1 c) _ _)) $$ Hs HV Ho
  iintro ⟨HV, Ho⟩
  iapply (wpc_ret c _ _)
  iapply Hk
  isplitl [HT]; · iexact HT
  isplitl [HR]; · iexact HR
  isplitl [Ho]; · iexact Ho
  iexact HV

set_option maxHeartbeats 2000000 in
/-- The body's stretch 15. -/
theorem part15 (c : Dev nD) (v2 : BitVec 32) (v441 : BitVec 32) (Q : BitVec 32 → sProp 𝕄) :
    shared m ρ ⊢ iprop(rcvs m ρ c 2 1 -∗ ow c 0 -∗ (∀ (v477 : BitVec 32), (rcvs m ρ c 3 3 ∗ ow c 0) -∗ Q v477)
      -∗ wpc c (k0_part15 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v441) Q) := by
  rw [k0_part15_eq_skeleton]; unfold k0_part15_skel
  simp only [smemLoad, smemLoadElt, semSignalWord, semWaitWord, Prog.lift, Prog.bind_op, Prog.bind_ret, Prog.pure_eq_ret, wp_deviceId]
  iintro #Hs HV Ho Hk
  iapply (rcv_load m ρ c 1 (by decide) (rcvL_1 c)) $$ HV
  iintro HV
  iapply (rcv_store m ρ c 1 (by decide) (rcvO_1 c) rfl) $$ HV
  iintro HV
  iapply (rcv_wait m ρ c 2 (by decide) (rcv_sem (rcvS_2 c) _ _)) $$ Hs HV Ho
  iintro ⟨HV, Ho⟩
  iapply (rcv_load m ρ c 2 (by decide) (rcvL_2 c)) $$ HV
  iintro HV
  iapply (rcv_store m ρ c 2 (by decide) (rcvO_2 c) rfl) $$ HV
  iintro HV
  iapply (wpc_ret c _ _)
  iapply Hk
  isplitl [HV]; · iexact HV
  iexact Ho

set_option maxHeartbeats 2000000 in
/-- The body's stretch 16. -/
theorem part16 (c : Dev nD) (v2 : BitVec 32) (v477 : BitVec 32) (Q : (Σ' (v513 : BitVec 32), BitVec 32) → sProp 𝕄) :
    shared m ρ ⊢ iprop(rcvs m ρ c 3 3 -∗ ow c 0 -∗ (∀ (v513 : BitVec 32) (v514 : BitVec 32), (rcvs m ρ c 5 5 ∗ ow c 0) -∗ Q ⟨v513, v514⟩)
      -∗ wpc c (k0_part16 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v477) Q) := by
  rw [k0_part16_eq_skeleton]; unfold k0_part16_skel
  simp only [smemLoad, smemLoadElt, semSignalWord, semWaitWord, Prog.lift, Prog.bind_op, Prog.bind_ret, Prog.pure_eq_ret, wp_deviceId]
  iintro #Hs HV Ho Hk
  iapply (rcv_wait m ρ c 3 (by decide) (rcv_sem (rcvS_3 c) _ _)) $$ Hs HV Ho
  iintro ⟨HV, Ho⟩
  iapply (rcv_load m ρ c 3 (by decide) (rcvL_3 c)) $$ HV
  iintro HV
  iapply (rcv_store m ρ c 3 (by decide) (rcvO_3 c) rfl) $$ HV
  iintro HV
  iapply (rcv_wait m ρ c 4 (by decide) (rcv_sem (rcvS_4 c) _ _)) $$ Hs HV Ho
  iintro ⟨HV, Ho⟩
  iapply (rcv_load m ρ c 4 (by decide) (rcvL_4 c)) $$ HV
  iintro HV
  iapply (rcv_store m ρ c 4 (by decide) (rcvO_4 c) rfl) $$ HV
  iintro HV
  iapply (wpc_ret c _ _)
  iapply Hk
  isplitl [HV]; · iexact HV
  iexact Ho

set_option maxHeartbeats 2000000 in
/-- The body's stretch 17. -/
theorem part17 (c : Dev nD) (v2 : BitVec 32) (v513 : BitVec 32) (v514 : BitVec 32) (Q : BitVec 32 → sProp 𝕄) :
    shared m ρ ⊢ iprop(rcvs m ρ c 5 5 -∗ ow c 0 -∗ (∀ (c8_i32_359 : BitVec 32), (rcvs m ρ c 7 7 ∗ ow c 0) -∗ Q c8_i32_359)
      -∗ wpc c (k0_part17 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v513 v514) Q) := by
  rw [k0_part17_eq_skeleton]; unfold k0_part17_skel
  simp only [smemLoad, smemLoadElt, semSignalWord, semWaitWord, Prog.lift, Prog.bind_op, Prog.bind_ret, Prog.pure_eq_ret, wp_deviceId]
  iintro #Hs HV Ho Hk
  iapply (rcv_wait m ρ c 5 (by decide) (rcv_sem (rcvS_5 c) _ _)) $$ Hs HV Ho
  iintro ⟨HV, Ho⟩
  iapply (rcv_load m ρ c 5 (by decide) (rcvL_5 c)) $$ HV
  iintro HV
  iapply (rcv_store m ρ c 5 (by decide) (rcvO_5 c) rfl) $$ HV
  iintro HV
  iapply (rcv_wait m ρ c 6 (by decide) (rcv_sem (rcvS_6 c) _ _)) $$ Hs HV Ho
  iintro ⟨HV, Ho⟩
  iapply (rcv_load m ρ c 6 (by decide) (rcvL_6 c)) $$ HV
  iintro HV
  iapply (rcv_store m ρ c 6 (by decide) (rcvO_6 c) rfl) $$ HV
  iintro HV
  iapply (wpc_ret c _ _)
  iapply Hk
  isplitl [HV]; · iexact HV
  iexact Ho

set_option maxHeartbeats 2000000 in
/-- The body's stretch 18. -/
theorem part18 (c : Dev nD) (v2 : BitVec 32) (c8_i32_359 : BitVec 32) (Q : (Σ' (v567 : BitVec 32), FVec F S256x128 .bf16) → sProp 𝕄) :
    shared m ρ ⊢ iprop(rcvs m ρ c 7 7 -∗ ow c 0 -∗ (∀ (v567 : BitVec 32), (rcvs m ρ c 9 8 ∗ ow c 0) -∗ Q ⟨v567, (k0_pay48 (tileB m ρ (bw c 8) c))⟩)
      -∗ wpc c (k0_part18 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 c8_i32_359) Q) := by
  rw [k0_part18_eq_skeleton]; unfold k0_part18_skel
  simp only [smemLoad, smemLoadElt, semSignalWord, semWaitWord, Prog.lift, Prog.bind_op, Prog.bind_ret, Prog.pure_eq_ret, wp_deviceId]
  iintro #Hs HV Ho Hk
  iapply (rcv_wait m ρ c 7 (by decide) (rcv_sem (rcvS_7 c) _ _)) $$ Hs HV Ho
  iintro ⟨HV, Ho⟩
  iapply (rcv_load m ρ c 7 (by decide) (rcvL_7 c)) $$ HV
  iintro HV
  iapply (rcv_store m ρ c 7 (by decide) (rcvO_7 c) rfl) $$ HV
  iintro HV
  iapply (rcv_wait m ρ c 8 (by decide) (rcv_sem (rcvS_8 c) _ _)) $$ Hs HV Ho
  iintro ⟨HV, Ho⟩
  iapply (rcv_load m ρ c 8 (by decide) (rcvL_8 c)) $$ HV
  iintro HV
  rw [show k0_pay48 (tileB m ρ (bw c 8) c) = (k0_pay48 (tileB m ρ (bw c 8) c)) from rfl]
  iapply (wpc_ret c _ _)
  iapply Hk
  isplitl [HV]; · iexact HV
  iexact Ho

end Cert.KProof

end
-- ==== Proof.PartsE.lean ====
module

public import proofs.«01_k».proof.Proof.Ops2
public import proofs.«01_k».proof.Proof.Gen.KernelIdeal.Skeleton

/-! The body's stretches, each from the states it finds to those it leaves. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 2000000 in
/-- The body's stretch 19. -/
theorem part19 (c : Dev nD) (v2 : BitVec 32) (v567 : BitVec 32) (Q : BitVec 32 → sProp 𝕄) :
    shared m ρ ⊢ iprop(rcvs m ρ c 9 8 -∗ ow c 0 -∗ (∀ (v603 : BitVec 32), (rcvs m ρ c 10 10 ∗ ow c 0) -∗ Q v603)
      -∗ wpc c (k0_part19 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v567 (k0_pay48 (tileB m ρ (bw c 8) c))) Q) := by
  rw [k0_part19_eq_skeleton]; unfold k0_part19_skel
  simp only [smemLoad, smemLoadElt, semSignalWord, semWaitWord, Prog.lift, Prog.bind_op, Prog.bind_ret, Prog.pure_eq_ret, wp_deviceId]
  iintro #Hs HV Ho Hk
  iapply (rcv_store m ρ c 8 (by decide) (rcvO_8 c) rfl) $$ HV
  iintro HV
  iapply (rcv_wait m ρ c 9 (by decide) (rcv_sem (rcvS_9 c) _ _)) $$ Hs HV Ho
  iintro ⟨HV, Ho⟩
  iapply (rcv_load m ρ c 9 (by decide) (rcvL_9 c)) $$ HV
  iintro HV
  iapply (rcv_store m ρ c 9 (by decide) (rcvO_9 c) rfl) $$ HV
  iintro HV
  iapply (wpc_ret c _ _)
  iapply Hk
  isplitl [HV]; · iexact HV
  iexact Ho

set_option maxHeartbeats 2000000 in
/-- The body's stretch 20. -/
theorem part20 (c : Dev nD) (v2 : BitVec 32) (v603 : BitVec 32) (Q : BitVec 32 → sProp 𝕄) :
    shared m ρ ⊢ iprop(rcvs m ρ c 10 10 -∗ ow c 0 -∗ (∀ (v639 : BitVec 32), (rcvs m ρ c 12 12 ∗ ow c 0) -∗ Q v639)
      -∗ wpc c (k0_part20 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v603) Q) := by
  rw [k0_part20_eq_skeleton]; unfold k0_part20_skel
  simp only [smemLoad, smemLoadElt, semSignalWord, semWaitWord, Prog.lift, Prog.bind_op, Prog.bind_ret, Prog.pure_eq_ret, wp_deviceId]
  iintro #Hs HV Ho Hk
  iapply (rcv_wait m ρ c 10 (by decide) (rcv_sem (rcvS_10 c) _ _)) $$ Hs HV Ho
  iintro ⟨HV, Ho⟩
  iapply (rcv_load m ρ c 10 (by decide) (rcvL_10 c)) $$ HV
  iintro HV
  iapply (rcv_store m ρ c 10 (by decide) (rcvO_10 c) rfl) $$ HV
  iintro HV
  iapply (rcv_wait m ρ c 11 (by decide) (rcv_sem (rcvS_11 c) _ _)) $$ Hs HV Ho
  iintro ⟨HV, Ho⟩
  iapply (rcv_load m ρ c 11 (by decide) (rcvL_11 c)) $$ HV
  iintro HV
  iapply (rcv_store m ρ c 11 (by decide) (rcvO_11 c) rfl) $$ HV
  iintro HV
  iapply (wpc_ret c _ _)
  iapply Hk
  isplitl [HV]; · iexact HV
  iexact Ho

set_option maxHeartbeats 2000000 in
/-- The body's stretch 21. -/
theorem part21 (c : Dev nD) (v2 : BitVec 32) (v639 : BitVec 32) (Q : (Σ' (v673 : BitVec 32), BitVec 32) → sProp 𝕄) :
    shared m ρ ⊢ iprop(rcvs m ρ c 12 12 -∗ ow c 0 -∗ (∀ (v673 : BitVec 32) (c16_i32_458 : BitVec 32), (rcvs m ρ c 14 14 ∗ ow c 0) -∗ Q ⟨v673, c16_i32_458⟩)
      -∗ wpc c (k0_part21 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v639) Q) := by
  rw [k0_part21_eq_skeleton]; unfold k0_part21_skel
  simp only [smemLoad, smemLoadElt, semSignalWord, semWaitWord, Prog.lift, Prog.bind_op, Prog.bind_ret, Prog.pure_eq_ret, wp_deviceId]
  iintro #Hs HV Ho Hk
  iapply (rcv_wait m ρ c 12 (by decide) (rcv_sem (rcvS_12 c) _ _)) $$ Hs HV Ho
  iintro ⟨HV, Ho⟩
  iapply (rcv_load m ρ c 12 (by decide) (rcvL_12 c)) $$ HV
  iintro HV
  iapply (rcv_store m ρ c 12 (by decide) (rcvO_12 c) rfl) $$ HV
  iintro HV
  iapply (rcv_wait m ρ c 13 (by decide) (rcv_sem (rcvS_13 c) _ _)) $$ Hs HV Ho
  iintro ⟨HV, Ho⟩
  iapply (rcv_load m ρ c 13 (by decide) (rcvL_13 c)) $$ HV
  iintro HV
  iapply (rcv_store m ρ c 13 (by decide) (rcvO_13 c) rfl) $$ HV
  iintro HV
  iapply (wpc_ret c _ _)
  iapply Hk
  isplitl [HV]; · iexact HV
  iexact Ho

set_option maxHeartbeats 2000000 in
/-- The body's stretch 22. -/
theorem part22 (c : Dev nD) (v2 : BitVec 32) (v125 : BitVec 32) (v136 : BitVec 32) (v147 : BitVec 32) (v158 : BitVec 32) (v196 : BitVec 32) (v207 : BitVec 32) (v673 : BitVec 32) (c16_i32_458 : BitVec 32) (Q : PUnit → sProp 𝕄) :
    shared m ρ ⊢ iprop(rcvs m ρ c 14 14 -∗ ow c 0 -∗ tiles m ρ c 16 16 0 -∗ ((rcvs m ρ c 15 15 ∗ ow c 0 ∗ tiles m ρ c 16 16 5) -∗ Q PUnit.unit)
      -∗ wpc c (k0_part22 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c v2 v125 v136 v147 v158 v196 v207 v673 c16_i32_458) Q) := by
  rw [k0_part22_eq_skeleton]; unfold k0_part22_skel
  simp only [smemLoad, smemLoadElt, semSignalWord, semWaitWord, Prog.lift, Prog.bind_op, Prog.bind_ret, Prog.pure_eq_ret, wp_deviceId]
  iintro #Hs HV Ho HT Hk
  iapply (rcv_wait m ρ c 14 (by decide) (rcv_sem (rcvS_14 c) _ _)) $$ Hs HV Ho
  iintro ⟨HV, Ho⟩
  iapply (rcv_load m ρ c 14 (by decide) (rcvL_14 c)) $$ HV
  iintro HV
  iapply (rcv_store m ρ c 14 (by decide) (rcvO_14 c) rfl) $$ HV
  iintro HV
  iapply (tile_wait m ρ c 0 (by decide) (swt_0 c) (fun _ => snd_sem (swtA_0 c) _ _)) $$ Hs HT Ho
  iintro ⟨HT, Ho⟩
  iapply (tile_wait m ρ c 1 (by decide) (swt_1 c) (fun _ => snd_sem (swtA_1 c) _ _)) $$ Hs HT Ho
  iintro ⟨HT, Ho⟩
  iapply (tile_wait m ρ c 2 (by decide) (swt_2 c) (fun _ => snd_sem (swtA_2 c) _ _)) $$ Hs HT Ho
  iintro ⟨HT, Ho⟩
  iapply (tile_wait m ρ c 3 (by decide) (swt_3 c) (fun _ => snd_sem (swtA_3 c) _ _)) $$ Hs HT Ho
  iintro ⟨HT, Ho⟩
  iapply (tile_wait m ρ c 4 (by decide) (swt_4 c) (fun _ => snd_sem (swtA_4 c) _ _)) $$ Hs HT Ho
  iintro ⟨HT, Ho⟩
  iapply (wpc_ret c _ _)
  iapply Hk
  isplitl [HV]; · iexact HV
  isplitl [Ho]; · iexact Ho
  iexact HT

end Cert.KProof

end
-- ==== Proof.Body.lean ====
module

public import proofs.«01_k».proof.Proof.PartsA
public import proofs.«01_k».proof.Proof.PartsB
public import proofs.«01_k».proof.Proof.PartsC
public import proofs.«01_k».proof.Proof.PartsD
public import proofs.«01_k».proof.Proof.PartsE

/-! The body whole: its stretches one after the other. -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A stretch followed by the rest. -/
theorem wpc_bind (c : Dev nD) {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  unfold wpc
  rw [wp_bind]

set_option maxHeartbeats 4000000 in
/-- The stretches in order, and the first thirteen waits on the sends. -/
theorem part23 (c : Dev nD) (Q : (Σ' (d0 : Dev nD) (v2 : BitVec 32) (v388 : BitVec 32) (v399 : BitVec 32), BitVec 32) → sProp 𝕄) :
    shared m ρ ⊢ iprop(sigs c 0 -∗ ow c (oG c 15) -∗ xSt0 m c -∗ (∃ f, whl c cc0_scratch1 f) -∗ wSt0 m c 0 -∗ wSt0 m c 1 -∗ tiles m ρ c 0 0 0 -∗ ownOut m ρ c 0 -∗ rcvs m ρ c 0 0 -∗ (cred (tallyAt (barCell c) () 15) ∗ atPos ER (barCell c) 0 ∅ 0) -∗ whl c cc0_stg0_0 (s0v m ρ c) -∗ whl c cc0_stg1_0 (s1v m ρ c) -∗ (∀ (v2 v388 v399 v731 : BitVec 32), (sigs c 15 ∗ ow c 0 ∗ xSt2 m c ∗ whl c cc0_scratch1 (xb m c) ∗ wSt4 m c 0 ∗ wSt4 m c 1 ∗ tiles m ρ c 16 16 13 ∗ rooms c 16 ∗ ownOut m ρ c 16 ∗ rcvs m ρ c 15 15 ∗ (atPos ER (barCell c) 1 ∅ 0) ∗ whl c cc0_stg0_0 (s0v m ρ c) ∗ whl c cc0_stg1_0 (s1v m ρ c)) -∗ Q ⟨c, v2, v388, v399, v731⟩)
      -∗ wpc c (k0_part23 (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [k0_part23_eq_skeleton]; unfold k0_part23_skel
  simp only [Prog.lift, Prog.bind_op, Prog.bind_ret, Prog.pure_eq_ret]
  iintro #Hs Hg Ho HX HB H0 H1 HT HO HV HC M0 M1 Hk
  iapply (wpc_bind c _ _ _)
  iapply (part1 m ρ c  _) $$ Hs Hg Ho
  iintro %v2 %v19 ⟨Hg, Ho⟩
  try dsimp only
  iapply (wpc_bind c _ _ _)
  iapply (part2 m ρ c _ _) $$ Hs Hg Ho
  iintro  ⟨Hg, Ho⟩
  iapply (wpc_bind c _ _ _)
  iapply (part3 m ρ c _ _) $$ Hs Hg Ho
  iintro  ⟨Hg, Ho⟩
  iapply (wpc_bind c _ _ _)
  iapply (part4 m ρ c _ _) $$ Hs Hg Ho HX H0 M0 M1 HB H1
  iintro  ⟨Hg, Ho, HX, H0, M0, M1, HB, H1⟩
  try dsimp only
  iapply (wpc_bind c _ _ _)
  iapply (part5 m ρ c _ _ _) $$ Hs H0 Ho HB HT HO
  iintro %v123 %v125 %v136 %v143 ⟨H0, Ho, HB, HT, HO⟩
  try dsimp only
  iapply (wpc_bind c _ _ _)
  iapply (part6 m ρ c _ _ _ _ _) $$ Hs HO HT H0
  iintro %v147 %v158 %v176 %c4_i32_131 ⟨HO, HT, H0⟩
  try dsimp only
  iapply (wpc_bind c _ _ _)
  iapply (part7 m ρ c _ _ _ _ _) $$ Hs H1 Ho HB HT HO
  iintro %v194 %v196 %v207 ⟨H1, Ho, HB, HT, HO⟩
  try dsimp only
  iapply (wpc_bind c _ _ _)
  iapply (part8 m ρ c _ _ _ _ _ _ _) $$ Hs HT HO HC Ho
  iintro %v218 %v229 %v246 ⟨HT, HO, HC, Ho, HR⟩
  try dsimp only
  iapply (wpc_bind c _ _ _)
  iapply (part9 m ρ c _ _ _ _ _ _ _ _ _ _) $$ Hs HT HR Ho H1
  iintro  ⟨HT, HR, Ho, H1⟩
  iapply (wpc_bind c _ _ _)
  iapply (part10 m ρ c _ _ _) $$ Hs H0 Ho HB HT HO
  iintro %v289 %v291 %v302 %v312 %c2_i32_209 ⟨H0, Ho, HB, HT, HO⟩
  try dsimp only
  iapply (wpc_bind c _ _ _)
  iapply (part11 m ρ c _ _ _ _ _ _ _ _) $$ Hs HT HO HR Ho
  iintro %v313 %v324 ⟨HT, HO, HR, Ho⟩
  try dsimp only
  iapply (wpc_bind c _ _ _)
  iapply (part12 m ρ c _ _ _) $$ Hs H1 Ho HB HT HO
  iintro %v364 %v366 %v377 ⟨H1, Ho, HB, HT, HO⟩
  try dsimp only
  iapply (wpc_bind c _ _ _)
  iapply (part13 m ρ c _ _ _ _ _) $$ Hs HO HT HR Ho
  iintro %v388 %v399 ⟨HO, HT, HR, Ho⟩
  try dsimp only
  iapply (wpc_bind c _ _ _)
  iapply (part14 m ρ c _ _ _) $$ Hs HT HR Ho HV
  iintro %v441 ⟨HT, HR, Ho, HV⟩
  try dsimp only
  iapply (wpc_bind c _ _ _)
  iapply (part15 m ρ c _ _ _) $$ Hs HV Ho
  iintro %v477 ⟨HV, Ho⟩
  try dsimp only
  iapply (wpc_bind c _ _ _)
  iapply (part16 m ρ c _ _ _) $$ Hs HV Ho
  iintro %v513 %v514 ⟨HV, Ho⟩
  try dsimp only
  iapply (wpc_bind c _ _ _)
  iapply (part17 m ρ c _ _ _ _) $$ Hs HV Ho
  iintro %c8_i32_359 ⟨HV, Ho⟩
  try dsimp only
  iapply (wpc_bind c _ _ _)
  iapply (part18 m ρ c _ _ _) $$ Hs HV Ho
  iintro %v567 ⟨HV, Ho⟩
  try dsimp only
  iapply (wpc_bind c _ _ _)
  iapply (part19 m ρ c _ _ _) $$ Hs HV Ho
  iintro %v603 ⟨HV, Ho⟩
  try dsimp only
  iapply (wpc_bind c _ _ _)
  iapply (part20 m ρ c _ _ _) $$ Hs HV Ho
  iintro %v639 ⟨HV, Ho⟩
  try dsimp only
  iapply (wpc_bind c _ _ _)
  iapply (part21 m ρ c _ _ _) $$ Hs HV Ho
  iintro %v673 %c16_i32_458 ⟨HV, Ho⟩
  try dsimp only
  iapply (wpc_bind c _ _ _)
  iapply (part22 m ρ c _ _ _ _ _ _ _ _ _ _) $$ Hs HV Ho HT
  iintro  ⟨HV, Ho, HT⟩
  iapply (tile_wait m ρ c 5 (by decide) (swt_5 c) (fun _ => snd_sem (swtA_5 c) _ _)) $$ Hs HT Ho
  iintro ⟨HT, Ho⟩
  iapply (tile_wait m ρ c 6 (by decide) (swt_6 c) (fun _ => snd_sem (swtA_6 c) _ _)) $$ Hs HT Ho
  iintro ⟨HT, Ho⟩
  iapply (tile_wait m ρ c 7 (by decide) (swt_7 c) (fun _ => snd_sem (swtA_7 c) _ _)) $$ Hs HT Ho
  iintro ⟨HT, Ho⟩
  iapply (tile_wait m ρ c 8 (by decide) (swt_8 c) (fun _ => snd_sem (swtA_8 c) _ _)) $$ Hs HT Ho
  iintro ⟨HT, Ho⟩
  iapply (tile_wait m ρ c 9 (by decide) (swt_9 c) (fun _ => snd_sem (swtA_9 c) _ _)) $$ Hs HT Ho
  iintro ⟨HT, Ho⟩
  iapply (tile_wait m ρ c 10 (by decide) (swt_10 c) (fun _ => snd_sem (swtA_10 c) _ _)) $$ Hs HT Ho
  iintro ⟨HT, Ho⟩
  iapply (tile_wait m ρ c 11 (by decide) (swt_11 c) (fun _ => snd_sem (swtA_11 c) _ _)) $$ Hs HT Ho
  iintro ⟨HT, Ho⟩
  iapply (tile_wait m ρ c 12 (by decide) (swt_12 c) (fun _ => snd_sem (swtA_12 c) _ _)) $$ Hs HT Ho
  iintro ⟨HT, Ho⟩
  iapply (wpc_ret c _ _)
  iapply Hk
  isplitl [Hg]; · iexact Hg
  isplitl [Ho]; · iexact Ho
  isplitl [HX]; · iexact HX
  isplitl [HB]; · iexact HB
  isplitl [H0]; · iexact H0
  isplitl [H1]; · iexact H1
  isplitl [HT]; · iexact HT
  isplitl [HR]; · iexact HR
  isplitl [HO]; · iexact HO
  isplitl [HV]; · iexact HV
  isplitl [HC]; · iexact HC
  isplitl [M0]; · iexact M0
  iexact M1

set_option maxHeartbeats 2000000 in
/-- The body. -/
theorem body (c : Dev nD) (Q : PUnit → sProp 𝕄) :
    shared m ρ ⊢ iprop(sigs c 0 -∗ ow c (oG c 15) -∗ xSt0 m c -∗ (∃ f, whl c cc0_scratch1 f) -∗ wSt0 m c 0 -∗ wSt0 m c 1 -∗ tiles m ρ c 0 0 0 -∗ ownOut m ρ c 0 -∗ rcvs m ρ c 0 0 -∗ (cred (tallyAt (barCell c) () 15) ∗ atPos ER (barCell c) 0 ∅ 0) -∗ whl c cc0_stg0_0 (s0v m ρ c) -∗ whl c cc0_stg1_0 (s1v m ρ c) -∗ ((sigs c 15 ∗ ow c 0 ∗ xSt2 m c ∗ whl c cc0_scratch1 (xb m c) ∗ wSt4 m c 0 ∗ wSt4 m c 1 ∗ tiles m ρ c 16 16 16 ∗ rooms c 16 ∗ ownOut m ρ c 16 ∗ rcvs m ρ c 15 15 ∗ (atPos ER (barCell c) 1 ∅ 0) ∗ whl c cc0_stg0_0 (s0v m ρ c) ∗ whl c cc0_stg1_0 (s1v m ρ c)) -∗ Q ⟨⟩)
      -∗ wpc c (cc0_body (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) Q) := by
  rw [cc0_body_eq_skeleton]; unfold cc0_body_skel
  simp only [Prog.lift, Prog.bind_op, Prog.bind_ret, Prog.pure_eq_ret]
  iintro #Hs Hg Ho HX HB H0 H1 HT HO HV HC M0 M1 Hk
  iapply (wpc_bind c _ _ _)
  iapply (part23 m ρ c _) $$ Hs Hg Ho HX HB H0 H1 HT HO HV HC M0 M1
  iintro %v2 %v388 %v399 %v731 ⟨Hg, Ho, HX, HB, H0, H1, HT, HR, HO, HV, HC, M0, M1⟩
  try dsimp only
  iapply (tile_wait m ρ c 13 (by decide) (swt_13 c) (fun _ => snd_sem (swtA_13 c) _ _)) $$ Hs HT Ho
  iintro ⟨HT, Ho⟩
  iapply (tile_wait m ρ c 14 (by decide) (swt_14 c) (fun _ => snd_sem (swtA_14 c) _ _)) $$ Hs HT Ho
  iintro ⟨HT, Ho⟩
  iapply (tile_wait m ρ c 15 (by decide) (swt_15 c) (fun _ => snd_sem (swtA_15 c) _ _)) $$ Hs HT Ho
  iintro ⟨HT, Ho⟩
  iapply (wpc_ret c _ _)
  iapply Hk
  isplitl [Hg]; · iexact Hg
  isplitl [Ho]; · iexact Ho
  isplitl [HX]; · iexact HX
  isplitl [HB]; · iexact HB
  isplitl [H0]; · iexact H0
  isplitl [H1]; · iexact H1
  isplitl [HT]; · iexact HT
  isplitl [HR]; · iexact HR
  isplitl [HO]; · iexact HO
  isplitl [HV]; · iexact HV
  isplitl [HC]; · iexact HC
  isplitl [M0]; · iexact M0
  iexact M1

end Cert.KProof

end
-- ==== Proof.Slots.lean ====
module

public import proofs.«01_k».proof.Proof.Ops2
public import Idealize.ShloMosaic.Lib.Ring

/-! # Buffers cut into slots and joined again -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots of each buffer -/

theorem mem_ySlot (t : Dev nD) (i : (cc0_scratch3 : Ref sig .tc).ty.Idx) : i ∈ (ySlot t).view.set ↔ (i 0).val = t.val := by
  have h1 : (i 1).val < 256 := (i 1).isLt
  have h2 : (i 2).val < 128 := (i 2).isLt
  have hs : (ySlot t).view.set = (Rect.unit (s := S16x256x128) ![t.val, 0, 0] S1x256x128.size (slot_inb t)).set := View.set_slice_whole _ _
  rw [hs, Rect.mem_set_unit]
  constructor
  · intro h
    have h3 : t.val ≤ (i 0).val ∧ (i 0).val < t.val + 1 := h 0
    omega
  · intro h a
    fin_cases a
    · show t.val ≤ (i 0).val ∧ (i 0).val < t.val + 1; omega
    · show 0 ≤ (i 1).val ∧ (i 1).val < 0 + 256; omega
    · show 0 ≤ (i 2).val ∧ (i 2).val < 0 + 128; omega
theorem mem_rSlot (t : Dev nD) (i : (cc0_scratch4 : Ref sig .tc).ty.Idx) : i ∈ (rSlot t).view.set ↔ (i 0).val = t.val := by
  have h1 : (i 1).val < 256 := (i 1).isLt
  have h2 : (i 2).val < 128 := (i 2).isLt
  have hs : (rSlot t).view.set = (Rect.unit (s := S16x256x128) ![t.val, 0, 0] S1x256x128.size (slot_inb t)).set := View.set_slice_whole _ _
  rw [hs, Rect.mem_set_unit]
  constructor
  · intro h
    have h3 : t.val ≤ (i 0).val ∧ (i 0).val < t.val + 1 := h 0
    omega
  · intro h a
    fin_cases a
    · show t.val ≤ (i 0).val ∧ (i 0).val < t.val + 1; omega
    · show 0 ≤ (i 1).val ∧ (i 1).val < 0 + 256; omega
    · show 0 ≤ (i 2).val ∧ (i 2).val < 0 + 128; omega
theorem mem_wSlot (b : Fin 2) (i : (cc0_scratch2 : Ref sig .tc).ty.Idx) : i ∈ (wSlot b).view.set ↔ (i 0).val = b.val := by
  have h1 : (i 1).val < 4096 := (i 1).isLt
  have h2 : (i 2).val < 512 := (i 2).isLt
  have hs : (wSlot b).view.set = (Rect.unit (s := S2x4096x512) ![b.val, 0, 0] S1x4096x512.size (wsl_inb b)).set := View.set_slice_whole _ _
  rw [hs, Rect.mem_set_unit]
  constructor
  · intro h
    have h3 : b.val ≤ (i 0).val ∧ (i 0).val < b.val + 1 := h 0
    omega
  · intro h a
    fin_cases a
    · show b.val ≤ (i 0).val ∧ (i 0).val < b.val + 1; omega
    · show 0 ≤ (i 1).val ∧ (i 1).val < 0 + 4096; omega
    · show 0 ≤ (i 2).val ∧ (i 2).val < 0 + 512; omega
theorem mem_oBlk (s : Dev nD) (i : (cc0_stg2_0 : Ref sig .tc).ty.Idx) : i ∈ (oBlk s).view.set ↔ (i 0).val / 256 = s.val := by
  have h1 : (i 1).val < 128 := (i 1).isLt
  have hs : (oBlk s).view.set = (Rect.unit (s := S4096x128) ![256 * s.val, 0] S256x128.size (blk_inb s)).set := View.set_slice_whole _ _
  rw [hs, Rect.mem_set_unit]
  constructor
  · intro h
    have h3 : 256 * s.val ≤ (i 0).val ∧ (i 0).val < 256 * s.val + 256 := h 0
    omega
  · intro h a
    fin_cases a
    · show 256 * s.val ≤ (i 0).val ∧ (i 0).val < 256 * s.val + 256; omega
    · show 0 ≤ (i 1).val ∧ (i 1).val < 0 + 128; omega
theorem mem_wChk (j : Fin 4) (i : (main_arg1 : Ref sig .tc).ty.Idx) : i ∈ (wChk j).view.set ↔ (i 1).val / 512 = j.val := by
  have h1 : (i 0).val < 4096 := (i 0).isLt
  have hs : (wChk j).view.set = (Rect.unit (s := S4096x2048) ![0, 512 * j.val] S4096x512.size (wck_inb j)).set := View.set_slice_whole _ _
  rw [hs, Rect.mem_set_unit]
  constructor
  · intro h
    have h3 : 512 * j.val ≤ (i 1).val ∧ (i 1).val < 512 * j.val + 512 := h 1
    omega
  · intro h a
    fin_cases a
    · show 0 ≤ (i 0).val ∧ (i 0).val < 0 + 4096; omega
    · show 512 * j.val ≤ (i 1).val ∧ (i 1).val < 512 * j.val + 512; omega

/-- Sets told apart by a number are disjoint, and cover when every element has one of the numbers. -/
theorem disj_of_num {I B : Type} [DecidableEq I] (K : B → Finset I) (num : I → ℕ) (nm : B → ℕ) (hnm : Function.Injective nm) (h : ∀ b i, i ∈ K b ↔ num i = nm b) (b b' : B) (hb : b ≠ b') :
    Disjoint (K b) (K b') :=
  Finset.disjoint_left.mpr fun i h1 h2 => hb (hnm (((h b i).mp h1).symm.trans ((h b' i).mp h2)))
theorem cover_of_num {I B : Type} [Fintype I] [DecidableEq I] [Fintype B] (K : B → Finset I) (num : I → ℕ) (nm : B → ℕ) (h : ∀ b i, i ∈ K b ↔ num i = nm b)
    (hex : ∀ i, ∃ b, num i = nm b) : Finset.univ.biUnion K = Finset.univ :=
  Finset.eq_univ_iff_forall.mpr fun i => by
    obtain ⟨b, hb⟩ := hex i
    exact Finset.mem_biUnion.mpr ⟨b, Finset.mem_univ b, (h b i).mpr hb⟩

omit [FloatOps F] in
theorem to_free (c : Dev nD) {sp : Space} {sh : Shape} {e : EltTy} (v : Memref sig .tc sp sh e) (f : v.view.ty.Contents (Elt F)) :
    (v.view.loc (c : Thread nD τ) ↦[v.view.set]{fullShare} f : sProp 𝕄) ⊢ free c v := by
  unfold free
  iintro H
  iexists f
  iexact H

omit [FloatOps F] in
theorem y_split (c : Dev nD) : (iprop(∃ f : Buf (Elt F) ((c : Thread nD τ).loc cc0_scratch3), (((c : Thread nD τ).loc cc0_scratch3) ↦{fullShare} f)) : sProp 𝕄)
    ⊢ bigSep Finset.univ fun b : Dev nD => free c (ySlot b) := by
  iintro ⟨%f, H⟩
  ihave H := (Entails.of_eq (Ring.pointsTo_blocks (ℓ := (c : Thread nD τ).loc cc0_scratch3) (fun b : Dev nD => (ySlot b).view.set)
    (disj_of_num _ (fun i => (i 0).val) _ Fin.val_injective mem_ySlot) (cover_of_num _ (fun i => (i 0).val) _ mem_ySlot (fun i => ⟨i 0, rfl⟩)) f)) $$ H
  iapply (show bigSep Finset.univ (fun b : Dev nD => (((c : Thread nD τ).loc cc0_scratch3) ↦[(ySlot b).view.set]{fullShare} f : sProp 𝕄)) ⊢ _ from bigSep_mono fun b _ => to_free c (ySlot b) f)
  iexact H
omit [FloatOps F] in
theorem y_join (c : Dev nD) [Nonempty (Buf (Elt F) ((c : Thread nD τ).loc cc0_scratch3))] : (bigSep Finset.univ fun b : Dev nD => (free c (ySlot b) : sProp 𝕄))
    ⊢ iprop(∃ f : Buf (Elt F) ((c : Thread nD τ).loc cc0_scratch3), (((c : Thread nD τ).loc cc0_scratch3) ↦{fullShare} f)) :=
  Ring.pointsTo_blocks_join_exists (ℓ := (c : Thread nD τ).loc cc0_scratch3) (fun b : Dev nD => (ySlot b).view.set)
    (disj_of_num _ (fun i => (i 0).val) _ Fin.val_injective mem_ySlot) (cover_of_num _ (fun i => (i 0).val) _ mem_ySlot (fun i => ⟨i 0, rfl⟩)) (Classical.arbitrary _)

omit [FloatOps F] in
theorem r_split (c : Dev nD) : (iprop(∃ f : Buf (Elt F) ((c : Thread nD τ).loc cc0_scratch4), (((c : Thread nD τ).loc cc0_scratch4) ↦{fullShare} f)) : sProp 𝕄)
    ⊢ bigSep Finset.univ fun b : Dev nD => free c (rSlot b) := by
  iintro ⟨%f, H⟩
  ihave H := (Entails.of_eq (Ring.pointsTo_blocks (ℓ := (c : Thread nD τ).loc cc0_scratch4) (fun b : Dev nD => (rSlot b).view.set)
    (disj_of_num _ (fun i => (i 0).val) _ Fin.val_injective mem_rSlot) (cover_of_num _ (fun i => (i 0).val) _ mem_rSlot (fun i => ⟨i 0, rfl⟩)) f)) $$ H
  iapply (show bigSep Finset.univ (fun b : Dev nD => (((c : Thread nD τ).loc cc0_scratch4) ↦[(rSlot b).view.set]{fullShare} f : sProp 𝕄)) ⊢ _ from bigSep_mono fun b _ => to_free c (rSlot b) f)
  iexact H
omit [FloatOps F] in
theorem r_join (c : Dev nD) [Nonempty (Buf (Elt F) ((c : Thread nD τ).loc cc0_scratch4))] : (bigSep Finset.univ fun b : Dev nD => (free c (rSlot b) : sProp 𝕄))
    ⊢ iprop(∃ f : Buf (Elt F) ((c : Thread nD τ).loc cc0_scratch4), (((c : Thread nD τ).loc cc0_scratch4) ↦{fullShare} f)) :=
  Ring.pointsTo_blocks_join_exists (ℓ := (c : Thread nD τ).loc cc0_scratch4) (fun b : Dev nD => (rSlot b).view.set)
    (disj_of_num _ (fun i => (i 0).val) _ Fin.val_injective mem_rSlot) (cover_of_num _ (fun i => (i 0).val) _ mem_rSlot (fun i => ⟨i 0, rfl⟩)) (Classical.arbitrary _)

omit [FloatOps F] in
theorem w_split (c : Dev nD) : (iprop(∃ f : Buf (Elt F) ((c : Thread nD τ).loc cc0_scratch2), (((c : Thread nD τ).loc cc0_scratch2) ↦{fullShare} f)) : sProp 𝕄)
    ⊢ bigSep Finset.univ fun b : Fin 2 => free c (wSlot b) := by
  iintro ⟨%f, H⟩
  ihave H := (Entails.of_eq (Ring.pointsTo_blocks (ℓ := (c : Thread nD τ).loc cc0_scratch2) (fun b : Fin 2 => (wSlot b).view.set)
    (disj_of_num _ (fun i => (i 0).val) _ Fin.val_injective mem_wSlot) (cover_of_num _ (fun i => (i 0).val) _ mem_wSlot (fun i => ⟨i 0, rfl⟩)) f)) $$ H
  iapply (show bigSep Finset.univ (fun b : Fin 2 => (((c : Thread nD τ).loc cc0_scratch2) ↦[(wSlot b).view.set]{fullShare} f : sProp 𝕄)) ⊢ _ from bigSep_mono fun b _ => to_free c (wSlot b) f)
  iexact H
omit [FloatOps F] in
theorem w_join (c : Dev nD) [Nonempty (Buf (Elt F) ((c : Thread nD τ).loc cc0_scratch2))] : (bigSep Finset.univ fun b : Fin 2 => (free c (wSlot b) : sProp 𝕄))
    ⊢ iprop(∃ f : Buf (Elt F) ((c : Thread nD τ).loc cc0_scratch2), (((c : Thread nD τ).loc cc0_scratch2) ↦{fullShare} f)) :=
  Ring.pointsTo_blocks_join_exists (ℓ := (c : Thread nD τ).loc cc0_scratch2) (fun b : Fin 2 => (wSlot b).view.set)
    (disj_of_num _ (fun i => (i 0).val) _ Fin.val_injective mem_wSlot) (cover_of_num _ (fun i => (i 0).val) _ mem_wSlot (fun i => ⟨i 0, rfl⟩)) (Classical.arbitrary _)

omit [FloatOps F] in
theorem o_split (c : Dev nD) : (iprop(∃ f : Buf (Elt F) ((c : Thread nD τ).loc cc0_stg2_0), (((c : Thread nD τ).loc cc0_stg2_0) ↦{fullShare} f)) : sProp 𝕄)
    ⊢ bigSep Finset.univ fun b : Dev nD => free c (oBlk b) := by
  iintro ⟨%f, H⟩
  ihave H := (Entails.of_eq (Ring.pointsTo_blocks (ℓ := (c : Thread nD τ).loc cc0_stg2_0) (fun b : Dev nD => (oBlk b).view.set)
    (disj_of_num _ (fun i => (i 0).val / 256) _ Fin.val_injective mem_oBlk) (cover_of_num _ (fun i => (i 0).val / 256) _ mem_oBlk (fun i => ⟨⟨(i 0).val / 256, by have : (i 0).val < 4096 := (i 0).isLt; show _ < 16; omega⟩, rfl⟩)) f)) $$ H
  iapply (show bigSep Finset.univ (fun b : Dev nD => (((c : Thread nD τ).loc cc0_stg2_0) ↦[(oBlk b).view.set]{fullShare} f : sProp 𝕄)) ⊢ _ from bigSep_mono fun b _ => to_free c (oBlk b) f)
  iexact H

omit [FloatOps F] in
/-- The weights are their four column chunks. -/
theorem wts_chunks (c : Dev nD) : (((c : Thread nD τ).loc main_arg1) ↦{fullShare} wv m c : sProp 𝕄) = bigSep Finset.univ fun j : Fin 4 => wPts m c j :=
  Ring.pointsTo_blocks (ℓ := (c : Thread nD τ).loc main_arg1) (fun b : Fin 4 => (wChk b).view.set)
    (disj_of_num _ (fun i => (i 1).val / 512) _ Fin.val_injective mem_wChk) (cover_of_num _ (fun i => (i 1).val / 512) _ mem_wChk (fun i => ⟨⟨(i 1).val / 512, by have : (i 1).val < 2048 := (i 1).isLt; omega⟩, rfl⟩)) _

/-! ## The result from its row blocks -/

/-- Where a row block holds an element of the result. -/
def outIdx (i : S4096x128.Idx) : S256x128.Idx := fun a => match a with
  | 0 => ⟨(i 0).val % 256, Nat.mod_lt _ (by decide)⟩
  | 1 => ⟨(i 1).val, (i 1).isLt⟩
theorem outRow (i : S4096x128.Idx) : (i 0).val / 256 < nD := by
  have : (i 0).val < 4096 := (i 0).isLt
  show _ < 16; omega
/-- Device `c`'s whole result. -/
def outFull (c : Dev nD) : (cc0_stg2_0 : Ref sig .tc).ty.Contents (Elt F) := fun i => outB m ρ c ⟨(i 0).val / 256, outRow i⟩ (outIdx i)

theorem read_outFull (c s : Dev nD) : (oBlk s).view.read (Elt F) (outFull m ρ c) = outB m ρ c s := by
  funext j
  have h0 : (j 0).val < 256 := (j 0).isLt
  have e0 : ((oBlk s).view.emb j 0).val = 256 * s.val + (j 0).val := by
    show 256 * s.val + 1 * (j 0).val = _; omega
  have e1 : ((oBlk s).view.emb j 1).val = (j 1).val := by
    show 0 + 1 * (j 1).val = _; omega
  have hs : (⟨((oBlk s).view.emb j 0).val / 256, outRow _⟩ : Dev nD) = s := Fin.ext (by show _ / 256 = s.val; rw [e0]; omega)
  have hj : outIdx ((oBlk s).view.emb j) = j := funext fun a => by
    fin_cases a
    · exact Fin.ext (by show ((oBlk s).view.emb j 0).val % 256 = (j 0).val; rw [e0]; omega)
    · exact Fin.ext e1
  show outB m ρ c ⟨((oBlk s).view.emb j 0).val / 256, _⟩ (outIdx ((oBlk s).view.emb j)) = outB m ρ c s j
  rw [hs, hj]

omit [FloatOps F] in
/-- A memref held at a reading is held at any contents with that reading. -/
theorem has_at (c : Dev nD) {sp : Space} {sh : Shape} {e : EltTy} (v : Memref sig .tc sp sh e) (X : sh.Idx → Elt F e) (g : v.view.ty.Contents (Elt F)) (hg : v.view.read (Elt F) g = X) :
    (has c v X : sProp 𝕄) ⊢ iprop(v.view.loc (c : Thread nD τ) ↦[v.view.set]{fullShare} g) := by
  unfold has owns
  iintro ⟨%f, %hf, H⟩
  have h : ∀ i ∈ v.view.set, f i = g i := fun i hi => by
    obtain ⟨x, -, rfl⟩ := Finset.mem_map.mp hi
    have := congrFun (hf.trans hg.symm) x
    rw [View.read_apply, View.read_apply] at this
    exact (cast_inj _).mp this
  iapply (Entails.of_eq (pointsTo_congr h)) $$ H

theorem o_whole (c : Dev nD) : (bigSep Finset.univ fun s : Dev nD => (has c (oBlk s) (outB m ρ c s) : sProp 𝕄)) ⊢ whl c cc0_stg2_0 (outFull m ρ c) := by
  refine (bigSep_mono fun s _ => has_at c (oBlk s) _ (outFull m ρ c) (read_outFull m ρ c s)).trans ?_
  exact Entails.of_eq (Ring.pointsTo_blocks (ℓ := (c : Thread nD τ).loc cc0_stg2_0) (fun b : Dev nD => (oBlk b).view.set)
    (disj_of_num _ (fun i => (i 0).val / 256) _ Fin.val_injective mem_oBlk) (cover_of_num _ (fun i => (i 0).val / 256) _ mem_oBlk (fun i => ⟨⟨(i 0).val / 256, by have : (i 0).val < 4096 := (i 0).isLt; show _ < 16; omega⟩, rfl⟩)) _).symm

end Cert.KProof

end
-- ==== Proof.Ghost.lean ====
module

public import proofs.«01_k».proof.Proof.Ops2
public import proofs.«01_k».proof.Proof.Gen.KernelIdeal.Launch

/-! # The protocol at launch: its cells, its tokens and its credits -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device -/

omit [FloatOps F] in
theorem flat6_l (A B C D E G : sProp 𝕄) : iprop(((A ∗ B ∗ C ∗ D) ∗ E) ∗ G) ⊢ iprop(A ∗ B ∗ C ∗ D ∗ E ∗ G) := by
  iintro ⟨⟨⟨H0, H1, H2, H3⟩, H4⟩, H5⟩
  isplitl [H0]; · iexact H0
  isplitl [H1]; · iexact H1
  isplitl [H2]; · iexact H2
  isplitl [H3]; · iexact H3
  isplitl [H4]; · iexact H4
  iexact H5
omit [FloatOps F] in
theorem flat6_r (A B C D E G : sProp 𝕄) : iprop(A ∗ B ∗ C ∗ D ∗ E ∗ G) ⊢ iprop(((A ∗ B ∗ C ∗ D) ∗ E) ∗ G) := by
  iintro ⟨H0, H1, H2, H3, H4, H5⟩
  isplitr [H5]
  · isplitr [H4]
    · isplitl [H0]; · iexact H0
      isplitl [H1]; · iexact H1
      isplitl [H2]; · iexact H2
      iexact H3
    iexact H4
  iexact H5
omit [FloatOps F] in
theorem flat6 (A B C D E G : sProp 𝕄) : iprop(((A ∗ B ∗ C ∗ D) ∗ E) ∗ G) = iprop(A ∗ B ∗ C ∗ D ∗ E ∗ G) :=
  BI.equiv_iff.mp ⟨flat6_l A B C D E G, flat6_r A B C D E G⟩
omit [FloatOps F] in
theorem to_emp (A : sProp 𝕄) : A ⊢ iprop(emp) := by iintro -; iempintro

omit [FloatOps F] in
theorem cut36 (Φ : Fin 36 → sProp 𝕄) : bigSep Finset.univ Φ
    = iprop(Φ 0 ∗ Φ 1 ∗ Φ 2 ∗ Φ 3 ∗ (bigSep Finset.univ fun t : Dev nD => Φ ⟨4 + t.val, by have : t.val < 16 := t.isLt; omega⟩)
      ∗ (bigSep Finset.univ fun s : Dev nD => Φ ⟨20 + s.val, by have : s.val < 16 := s.isLt; omega⟩)) := by
  have h1 : bigSep Finset.univ Φ = iprop(bigSep Finset.univ (fun a : Fin 20 => Φ ⟨a.val, by omega⟩) ∗ bigSep Finset.univ fun s : Fin 16 => Φ ⟨20 + s.val, by omega⟩) := by
    rw [bigSep_univ_equiv (finSumFinEquiv : Fin 20 ⊕ Fin 16 ≃ Fin 36) Φ, BI.bigSep_univ_sum]; rfl
  have h2 : bigSep Finset.univ (fun a : Fin 20 => Φ ⟨a.val, by omega⟩)
      = iprop(bigSep Finset.univ (fun a : Fin 4 => Φ ⟨a.val, by omega⟩) ∗ bigSep Finset.univ fun t : Fin 16 => Φ ⟨4 + t.val, by omega⟩) := by
    rw [bigSep_univ_equiv (finSumFinEquiv : Fin 4 ⊕ Fin 16 ≃ Fin 20) _, BI.bigSep_univ_sum]; rfl
  have h3 : bigSep Finset.univ (fun a : Fin 4 => Φ ⟨a.val, by omega⟩) = iprop(Φ 0 ∗ Φ 1 ∗ Φ 2 ∗ Φ 3) :=
    bigSep_univ_eq_bigSepL [(0 : Fin 4), (1 : Fin 4), (2 : Fin 4), (3 : Fin 4)] (by decide) (by decide) _
  rw [h1, h2, h3]
  exact flat6 _ _ _ _ _ _

theorem kcell_snd (c t : Dev nD) (h : 4 + t.val < 36) : kcell (c, ⟨4 + t.val, h⟩) = sndCell c t := by
  unfold kcell ksem
  dsimp only
  rw [if_neg (by omega)]
  congr 2
  exact Fin.ext (by show 4 + t.val + 2 = 6 + t.val; omega)
theorem kcell_rcv (c s : Dev nD) (h : 20 + s.val < 36) : kcell (c, ⟨20 + s.val, h⟩) = rcvCell c s := by
  unfold kcell ksem
  dsimp only
  rw [if_neg (by omega)]
  congr 2
  exact Fin.ext (by show 20 + s.val + 2 = 22 + s.val; omega)

omit [FloatOps F] in
/-- Something of every cell of a device, cell by cell. -/
theorem cells_eq (Ψ : GSem nD τ sig → sProp 𝕄) (c : Dev nD) : bigSep Finset.univ (fun k : Fin 36 => Ψ (kcell (c, k)))
    = iprop(Ψ (barCell c) ∗ Ψ (xCell c) ∗ Ψ (wCell c 0) ∗ Ψ (wCell c 1) ∗ (bigSep Finset.univ fun t : Dev nD => Ψ (sndCell c t))
      ∗ (bigSep Finset.univ fun s : Dev nD => Ψ (rcvCell c s))) := by
  rw [cut36 (fun k : Fin 36 => Ψ (kcell (c, k)))]
  simp only [kcell_snd, kcell_rcv]
  rfl

theorem ksem_injective : Function.Injective ksem := by
  intro i j h
  unfold ksem at h
  have hi := i.isLt
  have hj := j.isLt
  split at h <;> split at h
  · exact Fin.ext (by omega)
  · exact absurd h (by intro h'; cases h')
  · exact absurd h (by intro h'; cases h')
  · have := congrArg Fin.val (SemLoc.dma.inj h)
    simp only at this
    exact Fin.ext (by omega)
theorem kcell_injective : Function.Injective (kcell : Dev nD × Fin 36 → GSem nD τ sig) := by
  rintro ⟨c, k⟩ ⟨c', k'⟩ h
  have h1 : c = c' := by have := congrArg (fun g : GSem nD τ sig => g.1.1) h; exact this
  have h2 : ksem k = ksem k' := congrArg Prod.snd h
  rw [h1, ksem_injective h2]
/-- Every cell of the protocol. -/
def allCells : Finset (GSem nD τ sig) := Finset.univ.map ⟨kcell, kcell_injective⟩

/-- The tokens, by the device that pays with them. -/
abbrev tokOf (x : Dev nD × (Dev nD × Fin 36) × Fin 2) : GSem nD τ sig × ℕ × Dev nD := (kcell x.2.1, x.2.2.val, x.1)
theorem tokOf_injective : Function.Injective tokOf := by
  rintro ⟨d, p, r⟩ ⟨d', p', r'⟩ h
  have h1 : kcell p = kcell p' := congrArg Prod.fst h
  have h2 : r.val = r'.val := congrArg (fun x => x.2.1) h
  have h3 : d = d' := congrArg (fun x => x.2.2) h
  rw [h3, kcell_injective h1, Fin.ext h2]
def allToks : Finset (GSem nD τ sig × ℕ × Dev nD) := Finset.univ.map ⟨tokOf, tokOf_injective⟩

/-- The ghost state at launch. -/
def u₀ : UU := (initOf (Pipeline.cells cfgs cellOf_inj) (Pipeline.launchToks cfgs cellOf_inj), initOf allCells allToks)

/-- The tokens device `d` pays with. -/
def pays (d : Dev nD) : sProp 𝕄 :=
  bigSep Finset.univ fun p : Dev nD × Fin 36 => iprop(dutyTok ER (kcell p) 0 d ∗ dutyTok ER (kcell p) 1 d)
/-- The positions of a device's cells. -/
def poss (c : Dev nD) : sProp 𝕄 := bigSep Finset.univ fun k : Fin 36 => atPos ER (kcell (c, k)) 0 ∅ 0

/-- What the launch deals a device. -/
def G (c : Dev nD) : sProp 𝕄 :=
  iprop((bigSep Finset.univ fun k : Fin 36 => roundState ER (Rd m ρ) (kcell (c, k)) 0)
    ∗ (bigSep Finset.univ fun k : Fin 36 => reached ER (kcell (c, k)) 0) ∗ poss c ∗ pays c)
/-- What the device makes of it. -/
def G' (c : Dev nD) : sProp 𝕄 :=
  iprop((bigSep Finset.univ fun p : Dev nD × Fin 36 => known m ρ (kcell p)) ∗ poss c ∗ pays c)

omit [FloatOps F] in
theorem two_rounds (Φ : Fin 2 → sProp 𝕄) : bigSep Finset.univ Φ = iprop(Φ 0 ∗ Φ 1) :=
  bigSep_univ_eq_bigSepL [(0 : Fin 2), (1 : Fin 2)] (by decide) (by decide) Φ

theorem fund_all : BI.own (ER (F := F) (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 36 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => pays c := by
    unfold allToks
    rw [bigSep_map, bigSep_univ_prod]
    refine bigSep_congr fun c _ => ?_
    rw [bigSep_univ_prod]
    unfold pays
    exact bigSep_congr fun p _ => two_rounds _
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss
  simp only [bigSep_sep']
  isplitl [Hst']; · iexact Hst'
  isplitl [Hr']; · iexact Hr'
  isplitl [Hat']; · iexact Hat'
  iexact Htok'

/-- The transfers' semaphores of the kernel. -/
abbrev osem (i : Fin 35) : SemLoc sig := .dma ⟨i.val + 3, by have := i.isLt; show _ < 38; omega⟩

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- A device's counters, all at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 36 => semVal (kcell (c, k)) 0 : sProp 𝕄) := by
  have h : (bigSep Finset.univ fun k : Fin 36 => semVal (kcell (c, k)) 0 : sProp 𝕄)
      = iprop(bigSep Finset.univ (fun k : Fin 1 => semVal (kcell (c, ⟨k.val, by omega⟩)) 0) ∗ bigSep Finset.univ (fun k : Fin 35 => semVal (kcell (c, ⟨1 + k.val, by omega⟩)) 0)) := by
    rw [bigSep_univ_equiv (finSumFinEquiv : Fin 1 ⊕ Fin 35 ≃ Fin 36) _, BI.bigSep_univ_sum]; rfl
  have h1 : (bigSep Finset.univ (fun k : Fin 1 => semVal (kcell (c, ⟨k.val, by omega⟩)) 0) : sProp 𝕄) = semVal (barCell c) 0 :=
    bigSep_univ_eq_bigSepL [(0 : Fin 1)] (by decide) (by decide) _
  have h2 : (bigSep Finset.univ (fun k : Fin 35 => semVal (kcell (c, ⟨1 + k.val, by omega⟩)) 0) : sProp 𝕄)
      = Pipeline.ownSems0 (Ix := Unit) (Name := ℕ) (U := UU) (Lvl := ℕ) (Val := Elt F) (τ := τ) osem c := by
    unfold Pipeline.ownSems0
    refine bigSep_congr fun k _ => ?_
    have : ksem ⟨1 + k.val, by omega⟩ = osem k := by
      unfold ksem osem
      dsimp only
      rw [if_neg (by omega)]
      congr 1
      exact Fin.ext (by show 1 + k.val + 2 = k.val + 3; omega)
    show semVal ((c : Thread nD τ), ksem ⟨1 + k.val, _⟩) 0 = _
    rw [this]
  rw [h, h1, h2, unscopedSems0_eq]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 36 => known m ρ (kcell (c, k))) ∗ poss c ∗ pays c) := by
  unfold G
  iintro ⟨Hos, Hus, Hst, Hr, Hat, Htok⟩
  ihave Hv := (Entails.of_eq (sems0_eq (F := F) c)) $$ [Hos Hus]
  · isplitl [Hus] <;> iassumption
  imod (show iprop((bigSep Finset.univ fun k : Fin 36 => semVal (kcell (c, k)) 0) ∗ bigSep Finset.univ fun k : Fin 36 => roundState ER (Rd m ρ) (kcell (c, k)) 0)
      ⊢ (|={Set.univ}=> bigSep Finset.univ fun k : Fin 36 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv Hr]
  · unfold known
    iapply (Entails.of_eq (bigSep_sep' Finset.univ (fun k : Fin 36 => iprop(∃ κ : ℕ, cellInv ER (Rd m ρ) κ (kcell (c, k)))) (fun k : Fin 36 => reached ER (kcell (c, k)) 0)).symm)
    isplitl [Hinv] <;> iassumption
  isplitl [Hat]; · iexact Hat
  iexact Htok

theorem regroup :
    (bigSep Finset.univ fun c : Dev nD => iprop((bigSep Finset.univ fun k : Fin 36 => known m ρ (kcell (c, k))) ∗ poss c ∗ pays c) : sProp 𝕄)
      ⊢ bigSep Finset.univ (G' m ρ) := by
  rw [bigSep_sep', ← bigSep_univ_prod (fun p : Dev nD × Fin 36 => known m ρ (kcell p))]
  unfold G'
  exact BI.bigSep_with_persistent fun c _ => BI.Entails.refl _

/-- The global step: every device's counters become its cells' invariants, known to all. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What a device owes at launch. -/
abbrev O₀ (c : Dev nD) : CellTallies nD τ sig Unit := oG c 15

theorem bar_eq_iff {a b : Dev nD} : barCell a = barCell b ↔ a = b :=
  ⟨fun h => Fin.ext (congrArg (fun g : GSem nD τ sig => g.1.1.val) h), fun h => h ▸ rfl⟩
theorem rcv_eq_iff {a s b t : Dev nD} : rcvCell a s = rcvCell b t ↔ a = b ∧ s = t := by
  constructor
  · intro h
    have h1 : a = b := Fin.ext (congrArg (fun g : GSem nD τ sig => g.1.1.val) h)
    have h2 : (SemLoc.dma (rcvS s) : SemLoc sig) = .dma (rcvS t) := congrArg Prod.snd h
    have h3 := congrArg Fin.val (SemLoc.dma.inj h2)
    have h4 : 22 + s.val = 22 + t.val := h3
    exact ⟨h1, Fin.ext (by omega)⟩
  · rintro ⟨rfl, rfl⟩; rfl
theorem rcv_ne_bar {a s b : Dev nD} : rcvCell a s ≠ barCell b := fun h => by
  have := congrArg Prod.snd h
  cases this

theorem oS_bar (d c : Dev nD) : ∀ n, oS d n (barCell c) () = 0
  | 0 => rfl
  | n + 1 => by
    unfold oS oT
    rw [Pi.add_apply, Finsupp.add_apply, oS_bar d c n]
    split
    · rfl
    · rw [tallyAt_ne_cell (fun h => rcv_ne_bar h.symm), Finsupp.zero_apply, Nat.add_zero]
theorem oG_bar (d c : Dev nD) : ∀ n, oG d n (barCell c) () = ∑ i ∈ Finset.range n, if fw d (15 - i) = c then 1 else 0
  | 0 => oS_bar d c 16
  | n + 1 => by
    unfold oG
    rw [Pi.add_apply, Finsupp.add_apply, oG_bar d c n, Finset.sum_range_succ, tallyAt_apply]
    congr 1
    by_cases h : fw d (15 - n) = c
    · rw [if_pos h, if_pos ⟨by rw [h], rfl⟩]
    · rw [if_neg h, if_neg (fun ⟨h1, _⟩ => h (bar_eq_iff.mp h1).symm)]
theorem oS_rcv (d c s : Dev nD) : ∀ n, oS d n (rcvCell c s) () = (∑ i ∈ Finset.range n, if tl d (15 - i) = c ∧ c ≠ d ∧ d = s then 1 else 0) * NT
  | 0 => (Nat.zero_mul _).symm
  | n + 1 => by
    unfold oS oT
    rw [Pi.add_apply, Finsupp.add_apply, oS_rcv d c s n, Finset.sum_range_succ, Nat.add_mul]
    congr 1
    by_cases h : tl d (15 - n) = d
    · rw [if_pos h, if_neg (by rintro ⟨h1, h2, -⟩; exact h2 (h1.symm.trans h)), Nat.zero_mul]; rfl
    · rw [if_neg h, tallyAt_apply]
      by_cases h' : tl d (15 - n) = c ∧ d = s
      · have e1 : tl d (15 - n) = c ∧ c ≠ d ∧ d = s := ⟨h'.1, fun e => h (h'.1.trans e), h'.2⟩
        have e2 : rcvCell c s = rcvCell (tl d (15 - n)) d ∧ () = () := ⟨by rw [h'.1, h'.2], rfl⟩
        rw [if_pos e1, if_pos e2, Nat.one_mul]
      · have e1 : ¬ (tl d (15 - n) = c ∧ c ≠ d ∧ d = s) := fun ⟨h1, h2, h3⟩ => h' ⟨h1, h3⟩
        have e2 : ¬ (rcvCell c s = rcvCell (tl d (15 - n)) d ∧ () = ()) := fun ⟨h1, _⟩ => h' ⟨(rcv_eq_iff.mp h1).1.symm, (rcv_eq_iff.mp h1).2.symm⟩
        rw [if_neg e1, if_neg e2, Nat.zero_mul]
theorem oG_rcv (d c s : Dev nD) : ∀ n, oG d n (rcvCell c s) () = oS d 16 (rcvCell c s) ()
  | 0 => rfl
  | n + 1 => by
    unfold oG
    rw [Pi.add_apply, Finsupp.add_apply, oG_rcv d c s n, tallyAt_ne_cell rcv_ne_bar, Finsupp.zero_apply, Nat.add_zero]

theorem count_bar : ∀ c : Dev nD, (∑ d : Dev nD, ∑ i ∈ Finset.range 15, if fw d (15 - i) = c then 1 else 0) = 15 := by decide +kernel
theorem count_rcv : ∀ c s : Dev nD, s ≠ c → (∑ d : Dev nD, ∑ i ∈ Finset.range 16, if tl d (15 - i) = c ∧ c ≠ d ∧ d = s then 1 else 0) = 1 := by decide +kernel

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => oG_bar d c 15]
  exact count_bar c
theorem launch_rcv (c s : Dev nD) (h : s ≠ c) :
    tallyOn (rcvCell c s) (launchCredit (Pipeline.owing O₀) 0 (rcvCell c s)) = (tallyAt (rcvCell c s) () NT : CellTallies nD τ sig Unit) := by
  unfold tallyAt; refine congrArg _ (Finsupp.ext fun u => ?_); cases u
  rw [Pipeline.launchCredit_owing, Finsupp.single_eq_same, Finset.sum_congr rfl fun d _ => (oG_rcv d c s 15).trans (oS_rcv d c s 16), ← Finset.sum_mul,
    count_rcv c s h, Nat.one_mul]

omit [FloatOps F] in
/-- The credits a device is dealt: its barrier's fifteen units and, per other device, one tile. -/
theorem creds (c : Dev nD) :
    (Pipeline.launchCred O₀ c : sProp 𝕄) ⊢ iprop(cred (tallyAt (barCell c) () 15)
      ∗ bigSep Finset.univ fun s : Dev nD => if s = c then iprop(emp) else cred (tallyAt (rcvCell c s) () NT)) := by
  unfold Pipeline.launchCred
  rw [bigSep_univ_at _ (SemLoc.reg barS), launch_bar]
  refine sep_mono_right ?_
  have hinj : Function.Injective (fun s : Dev nD => (SemLoc.dma (rcvS s) : SemLoc sig)) := fun s t h => by
    have h4 : 22 + s.val = 22 + t.val := congrArg Fin.val (SemLoc.dma.inj h)
    exact Fin.ext (by omega)
  refine (BI.bigSep_subset (t := Finset.univ.map ⟨_, hinj⟩) fun x hx => ?_).trans ?_
  · obtain ⟨s, -, rfl⟩ := Finset.mem_map.mp hx
    have hne : (SemLoc.dma (rcvS s) : SemLoc sig) ≠ .reg barS := by intro h; cases h
    exact Finset.mem_erase.mpr ⟨hne, Finset.mem_univ _⟩
  rw [bigSep_map]
  refine bigSep_mono fun s _ => ?_
  by_cases h : s = c
  · rw [if_pos h]; exact to_emp _
  · rw [if_neg h, ← launch_rcv c s h]; exact BI.Entails.refl _

end Cert.KProof

end
-- ==== Proof.Deal.lean ====
module

public import proofs.«01_k».proof.Proof.Slots
public import proofs.«01_k».proof.Proof.Ghost

/-! # From what a device is dealt to what its body starts from, and back -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families with one member apart -/

omit [FloatOps F] in
theorem apart {I : Type} [Fintype I] [DecidableEq I] (Φ : I → sProp 𝕄) (c : I) :
    bigSep Finset.univ Φ ⊢ iprop(Φ c ∗ bigSep Finset.univ fun s => if s = c then iprop(emp) else Φ s) := by
  have e1 : bigSep Finset.univ Φ = iprop(Φ c ∗ bigSep (Finset.univ.erase c) Φ) := BI.bigSep_erase (Finset.mem_univ c)
  have e2 : bigSep Finset.univ (fun s => if s = c then iprop(emp) else Φ s)
      = iprop((if c = c then iprop(emp) else Φ c) ∗ bigSep (Finset.univ.erase c) (fun s => if s = c then iprop(emp) else Φ s)) :=
    BI.bigSep_erase (Finset.mem_univ c)
  have e3 : bigSep (Finset.univ.erase c) (fun s => if s = c then iprop(emp) else Φ s) = bigSep (Finset.univ.erase c) Φ :=
    bigSep_congr fun s hs => if_neg (Finset.ne_of_mem_erase hs)
  rw [e1, e2, e3, if_pos rfl]
  iintro ⟨H1, H2⟩
  isplitl [H1]; · iexact H1
  isplitr; · iempintro
  iexact H2
omit [FloatOps F] in
theorem unapart {I : Type} [Fintype I] [DecidableEq I] (Φ : I → sProp 𝕄) (c : I) :
    iprop(Φ c ∗ bigSep Finset.univ fun s => if s = c then iprop(emp) else Φ s) ⊢ bigSep Finset.univ Φ := by
  have e1 : bigSep Finset.univ Φ = iprop(Φ c ∗ bigSep (Finset.univ.erase c) Φ) := BI.bigSep_erase (Finset.mem_univ c)
  have e2 : bigSep Finset.univ (fun s => if s = c then iprop(emp) else Φ s)
      = iprop((if c = c then iprop(emp) else Φ c) ∗ bigSep (Finset.univ.erase c) (fun s => if s = c then iprop(emp) else Φ s)) :=
    BI.bigSep_erase (Finset.mem_univ c)
  have e3 : bigSep (Finset.univ.erase c) (fun s => if s = c then iprop(emp) else Φ s) = bigSep (Finset.univ.erase c) Φ :=
    bigSep_congr fun s hs => if_neg (Finset.ne_of_mem_erase hs)
  rw [e1, e2, e3, if_pos rfl]
  iintro ⟨H1, -, H2⟩
  isplitl [H1]; · iexact H1
  iexact H2

omit [FloatOps F] in
/-- Two families conjoined member by member. -/
theorem zip {I : Type} (s : Finset I) (Φ Ψ : I → sProp 𝕄) : iprop(bigSep s Φ ∗ bigSep s Ψ) ⊢ bigSep s fun i => iprop(Φ i ∗ Ψ i) :=
  Entails.of_eq (bigSep_sep' s Φ Ψ).symm

/-! ## The tokens a device pays with -/

omit [FloatOps F] in
theorem pays_split (c : Dev nD) : (pays c : sProp 𝕄) ⊢ iprop((bigSep Finset.univ fun t : Dev nD => dutyTok ER (barCell t) 0 c) ∗ dutyTok ER (xCell c) 0 c
    ∗ (dutyTok ER (wCell c 0) 0 c ∗ dutyTok ER (wCell c 0) 1 c) ∗ (dutyTok ER (wCell c 1) 0 c ∗ dutyTok ER (wCell c 1) 1 c)
    ∗ (bigSep Finset.univ fun t : Dev nD => dutyTok ER (sndCell c t) 0 c) ∗ bigSep Finset.univ fun t : Dev nD => dutyTok ER (rcvCell t c) 0 c) := by
  let Ψ : GSem nD τ sig → sProp 𝕄 := fun g => iprop(dutyTok ER g 0 c ∗ dutyTok ER g 1 c)
  have h0 : (pays c : sProp 𝕄) = bigSep Finset.univ fun t : Dev nD => iprop(Ψ (barCell t) ∗ Ψ (xCell t) ∗ Ψ (wCell t 0) ∗ Ψ (wCell t 1) ∗ (bigSep Finset.univ fun u : Dev nD => Ψ (sndCell t u))
      ∗ (bigSep Finset.univ fun s : Dev nD => Ψ (rcvCell t s))) := by
    unfold pays
    rw [bigSep_univ_prod]
    exact bigSep_congr fun t _ => cells_eq Ψ t
  rw [h0]
  simp only [bigSep_sep']
  have hf (g : GSem nD τ sig) : Ψ g ⊢ dutyTok ER g 0 c := by
    show iprop(dutyTok ER g 0 c ∗ dutyTok ER g 1 c) ⊢ _
    iintro ⟨H, -⟩
    iexact H
  iintro ⟨H0, H1, H2, H3, H4, H5⟩
  isplitl [H0]
  · iapply (show bigSep Finset.univ (fun t : Dev nD => Ψ (barCell t)) ⊢ _ from bigSep_mono fun t _ => hf _); iexact H0
  isplitl [H1]
  · iapply (hf _); iapply (show bigSep Finset.univ (fun t : Dev nD => Ψ (xCell t)) ⊢ Ψ (xCell c) from BI.bigSep_elim (Finset.mem_univ c)); iexact H1
  isplitl [H2]
  · iapply (show bigSep Finset.univ (fun t : Dev nD => Ψ (wCell t 0)) ⊢ Ψ (wCell c 0) from BI.bigSep_elim (Finset.mem_univ c)); iexact H2
  isplitl [H3]
  · iapply (show bigSep Finset.univ (fun t : Dev nD => Ψ (wCell t 1)) ⊢ Ψ (wCell c 1) from BI.bigSep_elim (Finset.mem_univ c)); iexact H3
  isplitl [H4]
  · iapply (show bigSep Finset.univ (fun t : Dev nD => bigSep Finset.univ fun u : Dev nD => Ψ (sndCell t u)) ⊢ _ from
      (BI.bigSep_elim (Finset.mem_univ c)).trans (bigSep_mono fun u _ => hf _)); iexact H4
  · iapply (show bigSep Finset.univ (fun t : Dev nD => bigSep Finset.univ fun u : Dev nD => Ψ (rcvCell t u)) ⊢ _ from
      bigSep_mono fun u _ => (BI.bigSep_elim (Finset.mem_univ c)).trans (hf _)); iexact H5

/-! ## Into the body's states -/

/-- The devices in the order they are signalled. -/
def fwE (c : Dev nD) : Dev nD ≃ Dev nD :=
  Equiv.ofBijective (fun o : Dev nD => fw c (o.val + 1)) (Finite.injective_iff_bijective.mp fun a b => by revert c a b; decide +kernel)
theorem fw_last (c o : Dev nD) (h : ¬ o.val < 15) : fw c (o.val + 1) = c := by revert c o; decide +kernel
theorem fw_ne' (c o : Dev nD) (h : o.val < 15) : fw c (o.val + 1) ≠ c := fun e => fw_ne c ⟨o.val, h⟩ e.symm

omit [FloatOps F] in
/-- The barrier's tokens and the slots handed over, signal by signal. -/
theorem sigs_intro (c : Dev nD) :
    iprop((bigSep Finset.univ fun t : Dev nD => dutyTok ER (barCell t) 0 c) ∗ bigSep Finset.univ fun s : Dev nD => if s = c then iprop(emp) else free c (rSlot s))
      ⊢ (sigs c 0 : sProp 𝕄) := by
  refine (zip _ _ _).trans ?_
  unfold sigs
  rw [bigSep_univ_equiv (fwE c)]
  refine bigSep_mono fun o _ => ?_
  show iprop(dutyTok ER (barCell (fw c (o.val + 1))) 0 c ∗ (if fw c (o.val + 1) = c then iprop(emp) else free c (rSlot (fw c (o.val + 1))))) ⊢ sigSt c 0 o
  unfold sigSt
  by_cases h : o.val < 15
  · rw [if_neg (fw_ne' c o h), if_pos ⟨Nat.zero_le _, h⟩]
  · rw [if_neg (fun h' : 0 ≤ o.val ∧ o.val < 15 => h h'.2)]; exact to_emp _

/-- The outgoing tiles' slots, positions and tokens, tile by tile. -/
theorem tiles_intro (c : Dev nD) :
    iprop((bigSep Finset.univ fun t : Dev nD => free c (ySlot t)) ∗ (bigSep Finset.univ fun t : Dev nD => atPos ER (sndCell c t) 0 ∅ 0)
        ∗ (bigSep Finset.univ fun t : Dev nD => dutyTok ER (sndCell c t) 0 c) ∗ bigSep Finset.univ fun t : Dev nD => dutyTok ER (rcvCell t c) 0 c)
      ⊢ tiles m ρ c 0 0 0 := by
  have e : ∀ t : Dev nD, iprop(free c (ySlot t) ∗ atPos ER (sndCell c t) 0 ∅ 0 ∗ dutyTok ER (sndCell c t) 0 c ∗ dutyTok ER (rcvCell t c) 0 c) ⊢ tileSt m ρ c 0 0 0 t := fun t => by
    unfold tileSt
    by_cases h : t = c
    · rw [if_pos h]
      iintro ⟨H1, H2, -⟩
      isplitl [H1]; · iexact H1
      iexact H2
    · rw [if_neg h, if_neg (Nat.not_lt_zero _), if_neg (Nat.not_lt_zero _), if_neg (Nat.not_lt_zero _)]
      unfold toSend
      iintro ⟨H1, H2, H3, H4⟩
      isplitl [H1]; · iexact H1
      isplitl [H3]; · iexact H3
      isplitl [H4]; · iexact H4
      iexact H2
  unfold tiles
  rw [← bigSep_sep', ← bigSep_sep', ← bigSep_sep']
  exact bigSep_mono fun t _ => e t

/-- The incoming tiles' slots, positions, credits and row blocks, source by source. -/
theorem rcvs_intro (c : Dev nD) :
    iprop(free c (rSlot c) ∗ (bigSep Finset.univ fun s : Dev nD => if s = c then iprop(emp) else cred (tallyAt (rcvCell c s) () NT))
        ∗ (bigSep Finset.univ fun s : Dev nD => atPos ER (rcvCell c s) 0 ∅ 0) ∗ bigSep Finset.univ fun s : Dev nD => if s = c then iprop(emp) else free c (oBlk s))
      ⊢ rcvs m ρ c 0 0 := by
  have e : ∀ s : Dev nD, iprop((if s = c then free c (rSlot c) else iprop(emp)) ∗ (if s = c then iprop(emp) else cred (tallyAt (rcvCell c s) () NT)) ∗ atPos ER (rcvCell c s) 0 ∅ 0
      ∗ (if s = c then iprop(emp) else free c (oBlk s))) ⊢ rcvSt m ρ c 0 0 s := fun s => by
    unfold rcvSt
    by_cases h : s = c
    · rw [if_pos h, if_pos h, if_pos h, if_pos h, h]
      iintro ⟨H1, -, H2, -⟩
      isplitl [H1]; · iexact H1
      iexact H2
    · rw [if_neg h, if_neg h, if_neg h, if_neg h, if_neg (Nat.not_lt_zero _), if_neg (Nat.not_lt_zero _)]
      iintro ⟨-, H2, H3, H4⟩
      isplitl [H2]; · iexact H2
      isplitl [H3]; · iexact H3
      iexact H4
  have e1 : bigSep Finset.univ (fun s : Dev nD => if s = c then (free c (rSlot c) : sProp 𝕄) else iprop(emp)) = free c (rSlot c) := by
    rw [show bigSep Finset.univ (fun s : Dev nD => if s = c then (free c (rSlot c) : sProp 𝕄) else iprop(emp))
        = iprop((if c = c then (free c (rSlot c) : sProp 𝕄) else iprop(emp)) ∗ bigSep (Finset.univ.erase c) fun s : Dev nD => if s = c then (free c (rSlot c) : sProp 𝕄) else iprop(emp)) from
          BI.bigSep_erase (Finset.mem_univ c),
      if_pos rfl, bigSep_congr (s := Finset.univ.erase c) (Ψ := fun _ => iprop(emp)) (fun s hs => if_neg (Finset.ne_of_mem_erase hs)),
      show bigSep (Finset.univ.erase c) (fun _ : Dev nD => iprop(emp)) = (iprop(emp) : sProp 𝕄) from BI.bigSep_emp_const _]
    exact BI.equiv_iff.mp BI.sep_emp
  unfold rcvs
  rw [← e1, ← bigSep_sep', ← bigSep_sep', ← bigSep_sep']
  exact bigSep_mono fun s _ => e s

/-- The chunks in the order they are taken. -/
def wcE (c : Dev nD) : Fin 4 ≃ Fin 4 :=
  Equiv.ofBijective (fun k : Fin 4 => ck (wc c k.val)) (Finite.injective_iff_bijective.mp fun a b => by revert c a b; decide +kernel)

/-- The weights are the four chunks in the order they are taken. -/
theorem wts_order (c : Dev nD) : (((c : Thread nD τ).loc main_arg1) ↦{fullShare} wv m c : sProp 𝕄)
    = iprop(wPts m c (ck (wc c 0)) ∗ wPts m c (ck (wc c 1)) ∗ wPts m c (ck (wc c 2)) ∗ wPts m c (ck (wc c 3))) := by
  rw [wts_chunks m c, bigSep_univ_equiv (wcE c)]
  exact bigSep_univ_eq_bigSepL [(0 : Fin 4), (1 : Fin 4), (2 : Fin 4), (3 : Fin 4)] (by decide) (by decide) _

/-! ## What a device starts and ends with -/

/-- What device `c` starts from, its scratch apart. -/
def start (c : Dev nD) : sProp 𝕄 :=
  iprop(shared m ρ ∗ poss c ∗ pays c ∗ (cred (tallyAt (barCell c) () 15) ∗ bigSep Finset.univ fun s : Dev nD => if s = c then iprop(emp) else cred (tallyAt (rcvCell c s) () NT))
    ∗ whl c main_arg0 (xv m c) ∗ whl c main_arg1 (wv m c))
/-- Its scratch buffers at some contents. -/
def scr (c : Dev nD) : sProp 𝕄 :=
  iprop((∃ f, whl c cc0_scratch0 f) ∗ (∃ f, whl c cc0_scratch1 f) ∗ (∃ f, whl c cc0_scratch2 f) ∗ (∃ f, whl c cc0_scratch3 f) ∗ (∃ f, whl c cc0_scratch4 f))
/-- Its arguments as they were. -/
def args (c : Dev nD) : sProp 𝕄 := iprop(whl c main_arg0 (xv m c) ∗ whl c main_arg1 (wv m c))

/-- What the body starts from. -/
def pre (c : Dev nD) : sProp 𝕄 :=
  iprop(sigs c 0 ∗ xSt0 m c ∗ (∃ f, whl c cc0_scratch1 f) ∗ wSt0 m c 0 ∗ wSt0 m c 1 ∗ tiles m ρ c 0 0 0 ∗ ownOut m ρ c 0 ∗ rcvs m ρ c 0 0
    ∗ (cred (tallyAt (barCell c) () 15) ∗ atPos ER (barCell c) 0 ∅ 0))

theorem deal (c : Dev nD) : iprop(start m ρ c ∗ scr c ∗ ∃ f, whl c cc0_stg2_0 f) ⊢ iprop(shared m ρ ∗ pre m ρ c) := by
  have hp : (poss c : sProp 𝕄) = _ := cells_eq (fun g => atPos ER g 0 ∅ 0) c
  have hw : whl c main_arg1 (wv m c) = _ := wts_order m c
  have ho : (free c (oBlk c) : sProp 𝕄) = ownOut m ρ c 0 := by unfold ownOut; rw [if_neg (Nat.not_lt_zero _)]
  have h2 : (bigSep Finset.univ fun b : Fin 2 => free c (wSlot b) : sProp 𝕄) = iprop(free c (wSlot 0) ∗ free c (wSlot 1)) :=
    bigSep_univ_eq_bigSepL [(0 : Fin 2), (1 : Fin 2)] (by decide) (by decide) _
  unfold start scr
  iintro ⟨⟨#Hs, Hp, Ht, ⟨Hc, Hcr⟩, Hx, Hw⟩, ⟨S0, S1, S2, S3, S4⟩, So⟩
  ihave Hp := (Entails.of_eq hp) $$ Hp
  icases Hp with ⟨PB, PX, PW0, PW1, PS, PR⟩
  ihave Ht := (pays_split c) $$ Ht
  icases Ht with ⟨TB, TX, ⟨TW00, TW01⟩, ⟨TW10, TW11⟩, TS, TR⟩
  ihave Hw := (Entails.of_eq hw) $$ Hw
  icases Hw with ⟨W0, W1, W2, W3⟩
  ihave S2 := (w_split c) $$ S2
  ihave S2 := (Entails.of_eq h2) $$ S2
  icases S2 with ⟨S20, S21⟩
  ihave S3 := (y_split c) $$ S3
  ihave S4 := (r_split c) $$ S4
  ihave S4 := (apart (fun s : Dev nD => free c (rSlot s)) c) $$ S4
  icases S4 with ⟨S4c, S4⟩
  ihave So := (o_split c) $$ So
  ihave So := (apart (fun s : Dev nD => free c (oBlk s)) c) $$ So
  icases So with ⟨Soc, So⟩
  isplitr; · iexact Hs
  unfold pre xSt0 wSt0
  isplitl [TB S4]
  · iapply (sigs_intro c)
    isplitl [TB] <;> iassumption
  isplitl [S0 Hx TX PX]
  · isplitl [S0]; · iexact S0
    isplitl [Hx]; · iexact Hx
    isplitl [TX]; · iexact TX
    iexact PX
  isplitl [S1]; · iexact S1
  isplitl [S20 PW0 TW00 TW01 W0 W2]
  · isplitl [S20]; · iexact S20
    isplitl [PW0]; · iexact PW0
    isplitl [TW00]; · iexact TW00
    isplitl [TW01]; · iexact TW01
    isplitl [W0]; · iexact W0
    iexact W2
  isplitl [S21 PW1 TW10 TW11 W1 W3]
  · isplitl [S21]; · iexact S21
    isplitl [PW1]; · iexact PW1
    isplitl [TW10]; · iexact TW10
    isplitl [TW11]; · iexact TW11
    isplitl [W1]; · iexact W1
    iexact W3
  isplitl [S3 PS TS TR]
  · iapply (tiles_intro m ρ c)
    isplitl [S3]; · iexact S3
    isplitl [PS]; · iexact PS
    isplitl [TS]; · iexact TS
    iexact TR
  isplitl [Soc]; · iapply (Entails.of_eq ho); iexact Soc
  isplitl [S4c Hcr PR So]
  · iapply (rcvs_intro m ρ c)
    isplitl [S4c]; · iexact S4c
    isplitl [Hcr]; · iexact Hcr
    isplitl [PR]; · iexact PR
    iexact So
  isplitl [Hc]; · iexact Hc
  iexact PB

/-! ## The cells closed -/

theorem bar_not_w (c : Dev nD) (b : Fin 2) : (barCell c).2 ≠ .dma (wS b) := by intro h; cases h
theorem x_not_w (c : Dev nD) (b : Fin 2) : (xCell c).2 ≠ .dma (wS b) := by
  intro h
  have h2 : 3 = 4 + b.val := congrArg Fin.val (SemLoc.dma.inj h)
  omega
theorem snd_not_w (c t : Dev nD) (b : Fin 2) : (sndCell c t).2 ≠ .dma (wS b) := by
  intro h
  have h2 : 6 + t.val = 4 + b.val := congrArg Fin.val (SemLoc.dma.inj h)
  have := b.isLt
  omega
theorem rcv_not_w (c t : Dev nD) (b : Fin 2) : (rcvCell c t).2 ≠ .dma (wS b) := by
  intro h
  have h2 : 22 + t.val = 4 + b.val := congrArg Fin.val (SemLoc.dma.inj h)
  have := b.isLt
  omega

theorem close_cell (g : GSem nD τ sig) (R : ℕ) (hs : shared m ρ ⊢ known m ρ g) (hR : ∀ r, R ≤ r → (Rd (F := F) m ρ).duties g r = ∅) :
    iprop(shared m ρ ∗ atPos ER g R ∅ 0) ⊢ (|={Set.univ}=> semVal g 0 : sProp 𝕄) := by
  iintro ⟨#Hs, Ha⟩
  ihave Hi := hs $$ Hs
  unfold known
  icases Hi with ⟨⟨%κ, #Hi⟩, -⟩
  iapply (Rounds.cell_close ER (Rd m ρ) (Set.mem_univ κ) (fun h => h) (R := R) hR)
  isplitr; · iexact Hi
  iexact Ha

theorem tile_close (c t : Dev nD) : iprop(shared m ρ ∗ tileSt m ρ c 16 16 16 t) ⊢ iprop(free c (ySlot t) ∗ |={Set.univ}=> semVal (sndCell c t) 0) := by
  unfold tileSt
  by_cases h : t = c
  · rw [if_pos h]
    subst h
    iintro ⟨#Hs, Hf, Ha⟩
    isplitl [Hf]; · iexact Hf
    iapply (close_cell m ρ (sndCell t t) 0 (shared_snd m ρ t t) (fun r _ => dut_snd_self m ρ t r))
    isplitr; · iexact Hs
    iexact Ha
  · rw [if_neg h, if_pos (rk_lt c t)]
    iintro ⟨#Hs, Hf, Ha⟩
    isplitl [Hf]; · iexact Hf
    iapply (close_cell m ρ (sndCell c t) 1 (shared_snd m ρ c t) (fun r hr => dut_late1 m ρ _ (snd_not_w c t) r hr))
    isplitr; · iexact Hs
    iexact Ha

theorem rcv_close (c s : Dev nD) : iprop(shared m ρ ∗ rcvSt m ρ c 15 15 s)
    ⊢ iprop(free c (rSlot s) ∗ (|={Set.univ}=> semVal (rcvCell c s) 0) ∗ if s = c then iprop(emp) else has c (oBlk s) (outB m ρ c s)) := by
  unfold rcvSt
  by_cases h : s = c
  · rw [if_pos h, if_pos h]
    subst h
    iintro ⟨#Hs, Hf, Ha⟩
    isplitl [Hf]; · iexact Hf
    isplitl [Ha]
    · iapply (close_cell m ρ (rcvCell s s) 0 (shared_rcv m ρ s s) (fun r _ => dut_rcv_self m ρ s r))
      isplitr; · iexact Hs
      iexact Ha
    iempintro
  · rw [if_neg h, if_neg h, if_pos (rr_lt c s h)]
    iintro ⟨#Hs, Hf, Ha, Ho⟩
    isplitl [Hf]; · iapply (has_free c (rSlot s)); iexact Hf
    isplitl [Ha]
    · iapply (close_cell m ρ (rcvCell c s) 1 (shared_rcv m ρ c s) (fun r hr => dut_late1 m ρ _ (rcv_not_w c s) r hr))
      isplitr; · iexact Hs
      iexact Ha
    iexact Ho

/-- What the body ends with. -/
def post (c : Dev nD) : sProp 𝕄 :=
  iprop(xSt2 m c ∗ whl c cc0_scratch1 (xb m c) ∗ wSt4 m c 0 ∗ wSt4 m c 1 ∗ tiles m ρ c 16 16 16 ∗ ownOut m ρ c 16 ∗ rcvs m ρ c 15 15 ∗ atPos ER (barCell c) 1 ∅ 0)

instance y_nonempty (c : Dev nD) : Nonempty (Buf (Elt F) ((c : Thread nD τ).loc cc0_scratch3)) := ⟨fun _ => Classical.arbitrary _⟩
instance r_nonempty (c : Dev nD) : Nonempty (Buf (Elt F) ((c : Thread nD τ).loc cc0_scratch4)) := ⟨fun _ => Classical.arbitrary _⟩
instance w_nonempty (c : Dev nD) : Nonempty (Buf (Elt F) ((c : Thread nD τ).loc cc0_scratch2)) := ⟨fun _ => Classical.arbitrary _⟩

theorem gather (c : Dev nD) : iprop(shared m ρ ∗ post m ρ c)
    ⊢ |={Set.univ}=> iprop(args m c ∗ scr c ∗ (bigSep Finset.univ fun k : Fin 36 => semVal (kcell (c, k)) 0) ∗ whl c cc0_stg2_0 (outFull m ρ c)) := by
  have hw : _ = whl c main_arg1 (wv m c) := (wts_order m c).symm
  have ho : ownOut m ρ c 16 = has c (oBlk c) (outB m ρ c c) := by unfold ownOut; rw [if_pos (rk_lt c c)]
  have h2 : (bigSep Finset.univ fun b : Fin 2 => free c (wSlot b) : sProp 𝕄) = iprop(free c (wSlot 0) ∗ free c (wSlot 1)) :=
    bigSep_univ_eq_bigSepL [(0 : Fin 2), (1 : Fin 2)] (by decide) (by decide) _
  have hc : _ = (bigSep Finset.univ fun k : Fin 36 => semVal (kcell (c, k)) 0 : sProp 𝕄) := (cells_eq (fun g => semVal g 0) c).symm
  have hT : iprop(shared m ρ ∗ tiles m ρ c 16 16 16) ⊢ iprop((bigSep Finset.univ fun t : Dev nD => free c (ySlot t)) ∗ (|={Set.univ}=> bigSep Finset.univ fun t : Dev nD => semVal (sndCell c t) 0)) := by
    refine (BI.bigSep_with_persistent fun t _ => tile_close m ρ c t).trans ?_
    rw [bigSep_sep']
    exact BI.sep_mono (BI.Entails.refl _) (bigSep_fupd _ _)
  have hV : iprop(shared m ρ ∗ rcvs m ρ c 15 15) ⊢ iprop((bigSep Finset.univ fun t : Dev nD => free c (rSlot t)) ∗ (|={Set.univ}=> bigSep Finset.univ fun t : Dev nD => semVal (rcvCell c t) 0)
      ∗ bigSep Finset.univ fun s : Dev nD => if s = c then iprop(emp) else has c (oBlk s) (outB m ρ c s)) := by
    refine (BI.bigSep_with_persistent fun t _ => rcv_close m ρ c t).trans ?_
    rw [bigSep_sep', bigSep_sep']
    exact BI.sep_mono (BI.Entails.refl _) (BI.sep_mono (bigSep_fupd _ _) (BI.Entails.refl _))
  unfold post xSt2 wSt4
  iintro ⟨#Hs, ⟨S0, Hx, PX⟩, S1, ⟨S20, PW0, W0, W2⟩, ⟨S21, PW1, W1, W3⟩, HT, HO, HV, PB⟩
  ihave HT := hT $$ [HT]
  · isplitr; · iexact Hs
    iexact HT
  icases HT with ⟨S3, HT⟩
  imod HT with HT
  ihave HV := hV $$ [HV]
  · isplitr; · iexact Hs
    iexact HV
  icases HV with ⟨S4, HV, Ho⟩
  imod HV with HV
  imod (close_cell m ρ (barCell c) 1 (shared_bar m ρ c) (fun r hr => dut_late1 m ρ _ (bar_not_w c) r hr)) $$ [PB] with PB
  · isplitr; · iexact Hs
    iexact PB
  imod (close_cell m ρ (xCell c) 1 (shared_x m ρ c) (fun r hr => dut_late1 m ρ _ (x_not_w c) r hr)) $$ [PX] with PX
  · isplitr; · iexact Hs
    iexact PX
  imod (close_cell m ρ (wCell c 0) 2 (shared_w m ρ c 0) (fun r hr => dut_late m ρ _ r hr)) $$ [PW0] with PW0
  · isplitr; · iexact Hs
    iexact PW0
  imod (close_cell m ρ (wCell c 1) 2 (shared_w m ρ c 1) (fun r hr => dut_late m ρ _ r hr)) $$ [PW1] with PW1
  · isplitr; · iexact Hs
    iexact PW1
  imodintro
  unfold args scr
  isplitl [Hx W0 W1 W2 W3]
  · isplitl [Hx]; · iexact Hx
    iapply (Entails.of_eq hw)
    isplitl [W0]; · iexact W0
    isplitl [W1]; · iexact W1
    isplitl [W2]; · iexact W2
    iexact W3
  isplitl [S0 S1 S20 S21 S3 S4]
  · isplitl [S0]; · iexists _; iexact S0
    isplitl [S1]; · iexists _; iexact S1
    isplitl [S20 S21]
    · iapply (w_join c)
      iapply (Entails.of_eq h2.symm)
      isplitl [S20]
      · iapply (has_free c (wSlot 0)); iexact S20
      · iapply (has_free c (wSlot 1)); iexact S21
    isplitl [S3]; · iapply (y_join c); iexact S3
    iapply (r_join c); iexact S4
  isplitl [PB PX PW0 PW1 HT HV]
  · iapply (Entails.of_eq hc)
    isplitl [PB]; · iexact PB
    isplitl [PX]; · iexact PX
    isplitl [PW0]; · iexact PW0
    isplitl [PW1]; · iexact PW1
    isplitl [HT]; · iexact HT
    iexact HV
  iapply (o_whole m ρ c)
  iapply (unapart (fun s : Dev nD => has c (oBlk s) (outB m ρ c s)) c)
  isplitl [HO]; · iapply (Entails.of_eq ho); iexact HO
  iexact Ho

end Cert.KProof

end
-- ==== Proof.Launch.lean ====
module

public import Idealize.ShloMosaic.Lib.Pipeline.Quiescent
public import Idealize.ShloMosaic.Lib.Quiescent
public import proofs.«01_k».proof.Proof.Gen.KernelIdeal.Points
public import proofs.«01_k».proof.Proof.Body
public import proofs.«01_k».proof.Proof.Deal

/-! # The launch: the body obligation and the run -/

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- Before the body and after it. -/
def Φ₀ (c : Dev nD) : sProp 𝕄 := iprop(start m ρ c ∗ scr c)
def Φ₁ (c : Dev nD) : sProp 𝕄 := iprop(args m c ∗ scr c ∗ bigSep Finset.univ fun k : Fin 36 => semVal (kcell (c, k)) 0)

/-- The arrays at launch, the windows' contents after the body, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => s0v m ρ c
    | ⟨1, _⟩ => s1v m ρ c
    | ⟨2, _⟩ => outFull m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (c : Thread nD τ) (Memref.whole b) fullShare X : sProp 𝕄) = iprop(∃ f : Buf (Elt F) ((c : Thread nD τ).loc b), ⌜f = X⌝ ∗ (((c : Thread nD τ).loc b) ↦{fullShare} f)) := by
  unfold owns; simp only [Memref.view_whole, View.read_whole, View.set_whole]

/-- A buffer whole at contents `X`. -/
abbrev at' (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem at_out (c : Dev nD) (b : Ref sig .tc) (X : b.ty.Contents (Elt F)) : at' c b X ⊢ (whl c b X : sProp 𝕄) := by
  iintro ⟨%f, %h, H⟩
  subst h
  iexact H
theorem at_in (c : Dev nD) (b : Ref sig .tc) (X : b.ty.Contents (Elt F)) : (whl c b X : sProp 𝕄) ⊢ at' c b X := by
  iintro H
  iexists X
  isplitr; · ipureintro; rfl
  iexact H
theorem at_some (c : Dev nD) (b : Ref sig .tc) (X : b.ty.Contents (Elt F)) : at' c b X ⊢ (∃ f, whl c b f : sProp 𝕄) := by
  iintro ⟨%f, -, H⟩
  iexists f
  iexact H

def bodyPre (c : Dev nD) : sProp 𝕄 :=
  iprop(Φ₀ m ρ c ∗ (dats m ρ 0 c).owesAt () t0_0.castSucc
    ∗ (∃ d, at' c cc0_stg0_0 ((dats m ρ 0 c).before (0 : Fin 3) t0_0 d))
    ∗ (∃ d, at' c cc0_stg1_0 ((dats m ρ 0 c).before (1 : Fin 3) t0_0 d))
    ∗ (∃ d, at' c cc0_stg2_0 ((dats m ρ 0 c).before (2 : Fin 3) t0_0 d)))
def bodyPost (c : Dev nD) : sProp 𝕄 :=
  iprop(Φ₁ m c ∗ (dats m ρ 0 c).owesAt () t0_0.succ
    ∗ at' c cc0_stg0_0 (s0v m ρ c) ∗ at' c cc0_stg1_0 (s1v m ρ c) ∗ at' c cc0_stg2_0 (outFull m ρ c))

theorem before_0 (c : Dev nD) (d) : (dats m ρ 0 c).before (0 : Fin 3) t0_0 d = s0v m ρ c := by
  unfold Dat.before; rw [if_pos (fetch0_0 _)]; rfl
theorem before_1 (c : Dev nD) (d) : (dats m ρ 0 c).before (1 : Fin 3) t0_0 d = s1v m ρ c := by
  unfold Dat.before; rw [if_pos (fetch0_1 _)]; rfl

theorem owes_in (c : Dev nD) : (dats m ρ 0 c).owesAt () t0_0.castSucc ⊢ ow c (oG c 15) := by
  unfold Dat.owesAt Pipeline.owesWithin ow
  rw [show (dats m ρ 0 c).owed t0_0.castSucc = oG c 15 from rfl]
  iintro ⟨%W, -, H⟩
  iexists W
  iexact H
theorem owes_out (c : Dev nD) : ow c 0 ⊢ (dats m ρ 0 c).owesAt () t0_0.succ := by
  unfold Dat.owesAt Pipeline.owesWithin ow
  rw [show (dats m ρ 0 c).owed t0_0.succ = 0 from rfl]
  iintro ⟨%W, H⟩
  iexists W
  isplitr; · ipureintro; exact fun _ _ => Or.inl trivial
  iexact H

/-- What the body is left with makes what the obligation asks for. -/
theorem finish (c : Dev nD) : iprop(shared m ρ ∗ sigs c 15 ∗ ow c 0 ∗ xSt2 m c ∗ whl c cc0_scratch1 (xb m c) ∗ wSt4 m c 0 ∗ wSt4 m c 1 ∗ tiles m ρ c 16 16 16 ∗ rooms c 16 ∗ ownOut m ρ c 16
      ∗ rcvs m ρ c 15 15 ∗ (atPos ER (barCell c) 1 ∅ 0) ∗ whl c cc0_stg0_0 (s0v m ρ c) ∗ whl c cc0_stg1_0 (s1v m ρ c))
    ⊢ |={Set.univ}=> bodyPost m ρ c := by
  iintro ⟨#Hs, -, Ho, HX, HB, H0, H1, HT, -, HO, HV, HC, M0, M1⟩
  imod (gather m ρ c) $$ [HX HB H0 H1 HT HO HV HC] with ⟨Ha, Hr, Hv, Hout⟩
  · isplitr; · iexact Hs
    unfold post
    isplitl [HX]; · iexact HX
    isplitl [HB]; · iexact HB
    isplitl [H0]; · iexact H0
    isplitl [H1]; · iexact H1
    isplitl [HT]; · iexact HT
    isplitl [HO]; · iexact HO
    isplitl [HV]; · iexact HV
    iexact HC
  imodintro
  unfold bodyPost Φ₁
  isplitl [Ha Hr Hv]
  · isplitl [Ha]; · iexact Ha
    isplitl [Hr] <;> iassumption
  isplitl [Ho]; · iapply (owes_out m ρ c); iexact Ho
  isplitl [M0]; · iapply (at_in c cc0_stg0_0 _); iexact M0
  isplitl [M1]; · iapply (at_in c cc0_stg1_0 _); iexact M1
  iapply (at_in c cc0_stg2_0 _); iexact Hout

set_option maxRecDepth 4000 in
set_option maxHeartbeats 2000000 in
theorem body_run (c : Dev nD) : bodyPre m ρ c ⊢ wpc c (cc0_body (Memref.whole main_arg0) (Memref.isWhole_whole _) (Memref.whole main_arg1) (Memref.isWhole_whole _) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  refine BIBase.Entails.trans ?_ (wp_fupd _ _ _ _ _)
  unfold bodyPre Φ₀
  iintro ⟨⟨Hst, Hsc⟩, Ho, ⟨%d0, M0⟩, ⟨%d1, M1⟩, ⟨%d2, M2⟩⟩
  rw [before_0, before_1]
  ihave M0 := (at_out c cc0_stg0_0 _) $$ M0
  ihave M1 := (at_out c cc0_stg1_0 _) $$ M1
  ihave M2 := (at_some c cc0_stg2_0 _) $$ M2
  ihave Ho := (owes_in m ρ c) $$ Ho
  ihave H := (deal m ρ c) $$ [Hst Hsc M2]
  · isplitl [Hst]; · iexact Hst
    isplitl [Hsc]; · iexact Hsc
    iexact M2
  icases H with ⟨#Hs, H⟩
  unfold pre
  icases H with ⟨Hg, HX, HB, H0, H1, HT, HO, HV, HC⟩
  iapply (body m ρ c (fun _ => iprop(|={Set.univ}=> bodyPost m ρ c))) $$ Hs Hg Ho HX HB H0 H1 HT HO HV HC M0 M1
  iintro ⟨Hg, Ho, HX, HB, H0, H1, HT, HR, HO, HV, HC, M0, M1⟩
  iapply (finish m ρ c)
  isplitr; · iexact Hs
  isplitl [Hg]; · iexact Hg
  isplitl [Ho]; · iexact Ho
  isplitl [HX]; · iexact HX
  isplitl [HB]; · iexact HB
  isplitl [H0]; · iexact H0
  isplitl [H1]; · iexact H1
  isplitl [HT]; · iexact HT
  isplitl [HR]; · iexact HR
  isplitl [HO]; · iexact HO
  isplitl [HV]; · iexact HV
  isplitl [HC]; · iexact HC
  isplitl [M0] <;> iassumption

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_run m ρ c

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have h0 : (Pipeline.unscopedRestP Pipeline.Prefetch.none cfg0.spec c (fun b => m ((c : Thread nD τ).loc b)) : sProp 𝕄)
      = iprop(whl c main_arg0 (xv m c) ∗ whl c main_arg1 (wv m c)) :=
    (Pipeline.unscopedRestP_none _ _ _).trans (unscopedRest0_eq c _)
  iintro ⟨Hr, Hlev, Hcr, -, HG⟩
  ihave Hr := (Entails.of_eq h0) $$ Hr
  icases Hr with ⟨Hx, Hw⟩
  ihave Hc := (creds c) $$ Hcr
  imodintro
  unfold start G' shared
  icases HG with ⟨Hk, Hp, Ht⟩
  isplitl
  · isplitl [Hk Hlev]
    · isplitl [Hk] <;> iassumption
    isplitl [Hp]; · iexact Hp
    isplitl [Ht]; · iexact Ht
    isplitl [Hc]; · iexact Hc
    isplitl [Hx] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  have h : (Pipeline.scopedRest cfg0.spec c : sProp 𝕄) = scr c := scopedRest0_eq c
  rw [h]
  unfold Φ₀
  iintro ⟨Hs, -, Hr⟩
  isplitl [Hs] <;> iassumption

/-- What a device is left with at the end. -/
def rest (c : Dev nD) : sProp 𝕄 := iprop(unscopedSems0 c ∗ args m c)

theorem phi1_exit (c : Dev nD) :
    (dats m ρ 0 c).Φ (Fin.last cfg0.N) ⊢ iprop(rest m c ∗ Pipeline.ownSems0 osem c ∗ Pipeline.scopedRest cfg0.spec c) := by
  rw [show (dats m ρ 0 c).Φ (Fin.last cfg0.N) = Φ₁ m c from rfl]
  have h : (Pipeline.scopedRest cfg0.spec c : sProp 𝕄) = scr c := scopedRest0_eq c
  rw [h]
  unfold Φ₁ rest
  rw [← sems0_eq]
  iintro ⟨Ha, Hr, Hu, Ho⟩
  isplitl [Hu Ha]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) 15
    · rw [show (dats m ρ 0 c).owed ⟨_ + 1, ht⟩ = 0 from rfl, MayWait_zero]
      exact to_emp _

/-- What the two arguments kept by the body hold in memory. -/
theorem args_read (c : Dev nD) (s' : Phys nD τ sig (Elt F)) :
    iprop(args m c ∗ SI s') ⊢ (<pers> ⌜s'.mem.mem ((c : Thread nD τ).loc main_arg0) = xv m c ∧ s'.mem.mem ((c : Thread nD τ).loc main_arg1) = wv m c⌝ : sProp 𝕄) := by
  have h0 : iprop(args m c ∗ SI s') ⊢ (⌜∀ i ∈ (Finset.univ : Finset _), s'.mem.mem ((c : Thread nD τ).loc main_arg0) i = xv m c i⌝ : sProp 𝕄) := by
    refine BIBase.Entails.trans ?_ (SI_pointsTo_agree (q := fullShare))
    unfold args
    iintro ⟨⟨H, -⟩, HS⟩
    isplitl [HS] <;> iassumption
  have h1 : iprop(args m c ∗ SI s') ⊢ (⌜∀ i ∈ (Finset.univ : Finset _), s'.mem.mem ((c : Thread nD τ).loc main_arg1) i = wv m c i⌝ : sProp 𝕄) := by
    refine BIBase.Entails.trans ?_ (SI_pointsTo_agree (q := fullShare))
    unfold args
    iintro ⟨⟨-, H⟩, HS⟩
    isplitl [HS] <;> iassumption
  have h : iprop(args m c ∗ SI s') ⊢ (⌜s'.mem.mem ((c : Thread nD τ).loc main_arg0) = xv m c ∧ s'.mem.mem ((c : Thread nD τ).loc main_arg1) = wv m c⌝ : sProp 𝕄) :=
    fun x hx => ⟨funext fun i => h0 x hx i (Finset.mem_univ i), funext fun i => h1 x hx i (Finset.mem_univ i)⟩
  exact h.trans Laws.persistently_pure.2

/-! ## The run -/

def finalA (c : Dev nD) (w : Fin cfg0.W) : Buf (Elt F) ((cfg0.win w).arr.view.loc (c : Thread nD τ)) := (dats m ρ 0 c).arrAt w cfg0.N

/-- Every window's array at its final contents, and the two arguments kept by the body as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0) ∧ r.2.mem ((c : Thread nD τ).loc main_arg1) = m ((c : Thread nD τ).loc main_arg1)

set_option maxRecDepth 8000 in
/-- For any float values and any memory with zero counters every execution of the sixteen devices ends, with each
    device's result array at the computed contents, its arguments as they were and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := rest m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = xv m c ∧ s.mem ((c : Thread nD τ).loc main_arg1) = wv m c)
    (hY := fun c s' => by
      unfold rest
      iintro ⟨⟨Hu, Ha⟩, -, HSI⟩
      ihave %h := (args_read m c s') $$ [Ha HSI]
      · isplitl [Ha] <;> iassumption
      ihave %h2 := (tcUnscoped_read c s') $$ [Hu HSI]
      · isplitl [Hu] <;> iassumption
      imodintro
      isplitr; · ipureintro; exact ⟨h2, h⟩
      iexact HSI)
    (hQ := fun _ h hs => ⟨fun c => ⟨(h c).1, (h c).2.2.2⟩, sem_eq_zero hs fun c => (h c).2.2.1⟩)

theorem finalA_0 (c : Dev nD) : finalA m ρ c (0 : Fin 3) = m ((c : Thread nD τ).loc main_arg2) := (dats (F := F) m ρ 0 c).arrAt_in (0 : Fin 3) rfl _
theorem finalA_1 (c : Dev nD) : finalA m ρ c (1 : Fin 3) = m ((c : Thread nD τ).loc main_arg3) := (dats (F := F) m ρ 0 c).arrAt_in (1 : Fin 3) rfl _

end Cert.KProof

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_within_clip_KernelIdeal
public import proofs.«01_k».proof.Proof.Gen.Pre_within_clip_ReferenceIdeal
public import proofs.«01_k».proof.Proof.Gen.ReferenceIdeal.Run
public import proofs.«01_k».proof.Proof.Launch

/-! # The frames

The kernel as printed and its reading over the reals have the same text, so both frames are the one run with the
values dropped; the reference's frame is its own run. -/

@[expose] public section

-- the two texts are compared part by part
set_option maxHeartbeats 1000000

noncomputable section

namespace Cert.KProof

open Idealize.ShloMosaic Idealize.ShloMosaic.TcCoe Idealize.SL.Sem

/-- The two bodies are one text. -/
theorem body_same : Cert.Kernel.cc0_body (F := Bits) = Cert.KernelIdeal.cc0_body (F := Bits) := by rfl

/-- So the two tables of bodies are one table. -/
theorem bodies_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    rw [body_same]

/-- And the two whole tables, with the staging pipeline's own entries, are one. -/
theorem defs_same : Cert.Kernel.defs (F := Bits) = Cert.KernelIdeal.defs (F := Bits) := by
  unfold Cert.Kernel.defs Cert.KernelIdeal.defs
  rw [bodies_same]
  rfl

/-- The two entry programs are one text. -/
theorem main_same : Cert.Kernel.main (F := Bits) = Cert.KernelIdeal.main (F := Bits) := by rfl

/-- The one run with the values dropped: the four arguments end as they began, and every semaphore at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  refine (θ_run Cert.KernelIdeal.defs _ _).mono (fun r h => ?_) (run_main m ρ)
  exact ⟨fun c => ⟨(h.1 c).2.1, (h.1 c).2.2, ((h.1 c).1 (0 : Fin 3)).trans (finalA_0 m ρ c), ((h.1 c).1 (1 : Fin 3)).trans (finalA_1 m ρ c)⟩, h.2⟩

/-- The program as printed: its run is the one run, at the machine's own floats. -/
theorem frame_kernel : Cert.quiescent_Kernel := by
  intro m ρ _
  rw [defs_same, main_same]
  exact frame_any (F := Bits) m ρ

/-- The same program over the reals. -/
theorem frame_kernel_ideal : Cert.quiescent_KernelIdeal := fun m ρ _ => frame_any (F := Ideal) m ρ

/-- In particular where the precondition holds. -/
theorem frame_kernel_ideal_within : Cert.quiescent_KernelIdeal_pre_within_clip_KernelIdeal :=
  fun m ρ _ => frame_any (F := Ideal) m ρ

/-- The reference's run: one device, and no semaphore at all. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- In particular where the precondition holds. -/
theorem frame_reference_within : Cert.quiescent_ReferenceIdeal_pre_within_clip_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.KProof

end
-- ==== Proof.Arith.lean ====
module

public import proofs.«01_k».proof.Proof.Base
public import proofs.«01_k».proof.Proof.Gen.ReferenceIdeal
public import Idealize.ShloMosaic.Lib.Pointwise
public import Idealize.ShloMosaic.Lib.ReduceAll
public import Idealize.ShloMosaic.Lib.IdealHost

/-! # The two formulas at an index

Over the reals: what the kernel stores of a chunk's product, what the reference computes, each read at one index; and
the arithmetic between them. -/

@[expose] public section

noncomputable section

namespace Cert.KProof

open Cert.KernelIdeal Cert.KernelIdeal.Gen
open Idealize.ShloMosaic Idealize.ShloMosaic.TcCoe

/-! ## Arithmetic -/

/-- An exponential plus one is not zero. -/
theorem one_add_exp_ne (x : EReal) : 1 + Ideal.exp x ≠ 0 := by
  have h : (0 : EReal) ≤ Ideal.exp x := by
    induction x with
    | bot => exact le_refl _
    | top => exact le_top
    | coe r => rw [Ideal.exp_coe]; exact EReal.coe_nonneg.mpr (Real.exp_pos r).le
  have h1 : (0 : EReal) < 1 + Ideal.exp x := lt_of_lt_of_le zero_lt_one (le_add_of_nonneg_right h)
  exact h1.ne'

/-- SiLU as the kernel writes it, a product with the logistic function, is the quotient. -/
theorem silu_eq (y : EReal) : y * Ideal.logistic y = Ideal.div y (1 + Ideal.exp (-y)) := by
  unfold Ideal.logistic
  exact Idealize.ShloMosaic.Ideal.mul_one_div (one_add_exp_ne _)

/-- The clip's two bounds are opposite. -/
theorem bounds_opp : Ideal.ofBits .f32 0xC2700000#32 = -Ideal.ofBits .f32 0x42700000#32 := by
  simp [Ideal.ofBits, Ideal.ieee, -EReal.coe_mul, -EReal.coe_neg]
  norm_num

/-- A number whose magnitude is within the bound is its own clip. -/
theorem clip_id {c y : EReal} (h : max y (-y) ≤ c) : min c (max (-c) y) = y := by
  have h1 : y ≤ c := (le_max_left _ _).trans h
  have h2 : -c ≤ y := EReal.neg_le.mp ((le_max_right _ _).trans h)
  rw [max_eq_right h2, min_eq_right h1]

/-! ## The kernel's side -/

/-- The cast of the activations. -/
theorem pay2_at (X : Vec Ideal S256x4096 .f32) (r : Fin 256) (k : Fin 4096) : k0_pay2 X (ix2 r k) = X (ix2 r k) := by
  pointwise [k0_pay2]

/-- A chunk's activation at an index. -/
theorem pay3_at (s : Ideal .f32) (X : Vec Ideal S256x4096 .bf16) (W : Vec Ideal S1x4096x512 .f32) (r : Fin 256) (j : Fin 512) :
    k0_pay3 s X W (ix2 r j)
      = ((∑ k : Fin 4096, X (ix2 r k) * W (ix3 0 k j)) * s) * Ideal.logistic ((∑ k : Fin 4096, X (ix2 r k) * W (ix3 0 k j)) * s) := by
  pointwise [k0_pay3]

/-- A column tile of a chunk at an index. -/
theorem sub4_at (i : ℕ) (hi : i < 4) (v : FVec Ideal S256x512 .f32) (r : Fin 256) (j : Fin 128) :
    sub4 i v (ix2 r j) = v (ix2 r ⟨128 * i + j.val, by omega⟩) := by
  have : i = 0 ∨ i = 1 ∨ i = 2 ∨ i = 3 := by omega
  rcases this with rfl | rfl | rfl | rfl <;> pointwise [sub4]

/-- What travels is, over the reals, the tile itself. -/
theorem unpack_pack (v : FVec Ideal S256x128 .f32) (r : Fin 256) (j : Fin 128) : unpackT (packT v) (ix2 r j) = v (ix2 r j) := by
  pointwise [unpackT, packT]

end Cert.KProof

end
-- ==== Proof.Value.lean ====
module

public import proofs.«01_k».proof.Proof.Frames
public import proofs.«01_k».proof.Proof.Arith
public import Idealize.ShloMosaic.Lib.Pipeline.ValueKit

/-! # The value

The result of a device at an index is SiLU of the scaled product of a row of some device's activations with a column of
the weights; the reference computes the same, its exponent clipped, which the precondition makes no difference. -/

@[expose] public section

noncomputable section

namespace Cert.KProof

open Idealize.ShloMosaic Idealize.ShloMosaic.TcCoe Idealize.SL.Sem

/-! ## The contents of the result array, over any floats -/

section Contents
open Cert.KernelIdeal Cert.KernelIdeal.Gen
variable {F : FTy → Type} [FloatOps F]
variable (m : (ℓ : Loc nD τ sig) → Buf (Elt F) ℓ) (ρ : Dev nD → PrngReg)

/-- The result array ends as the staging buffer was left: the whole result of the device. -/
theorem finalA_2 (c : Dev nD) : finalA m ρ c (2 : Fin 3) = outFull m ρ c := by
  unfold finalA
  refine (dats m ρ 0 c).arrAt_eq_of_after_last (2 : Fin 3) t0_0 (by decide +kernel) _ fun j => ?_
  rfl

/-- An array of one element has one index. -/
theorem idx1_eq (x y : S1.Idx) : x = y := by
  funext i
  match i with
  | ⟨0, _⟩ => exact Subsingleton.elim (α := Fin 1) _ _

/-- A staged scale is the one element of its argument. -/
theorem s0v_at (c : Dev nD) : at0 (s0v m ρ c) = (m ((c : Thread nD τ).loc main_arg2) : S1.Idx → Elt F .f32) (ix1 0) := by
  unfold at0 s0v s₀
  exact congrArg (m ((c : Thread nD τ).loc main_arg2) : S1.Idx → Elt F .f32) (idx1_eq _ _)

/-- The other one too. -/
theorem s1v_at (c : Dev nD) : at1 (s1v m ρ c) = (m ((c : Thread nD τ).loc main_arg3) : S1.Idx → Elt F .f32) (ix1 0) := by
  unfold at1 s1v s₀
  exact congrArg (m ((c : Thread nD τ).loc main_arg3) : S1.Idx → Elt F .f32) (idx1_eq _ _)

/-- A staged weight chunk at an index. -/
theorem wval_at (c : Dev nD) (j : Fin 4) (k : Fin 4096) (l : Fin 512) :
    wval m c j (ix3 0 k l) = (m ((c : Thread nD τ).loc main_arg1) : S4096x2048.Idx → Elt F .f32) (ix2 k ⟨512 * j.val + l.val, by omega⟩) := by
  have e : (Shape.reshapeEquiv (Shape.Squeezes.numel_eq squeezes_S1x4096x512_S4096x512)).symm (ix3 0 k l) = ix2 k l := by
    rw [Shape.reshapeEquiv_symm]
    pointwise
  unfold wval wv
  rw [e]
  refine congrArg (m ((c : Thread nD τ).loc main_arg1) : S4096x2048.Idx → Elt F .f32) ?_
  funext a
  match a with
  | ⟨0, _⟩ => exact Fin.ext (by show 0 + 1 * k.val = k.val; omega)
  | ⟨1, _⟩ => exact Fin.ext (by show 512 * j.val + 1 * l.val = 512 * j.val + l.val; omega)

end Contents

/-! ## Over the reals -/

/-- The scaled product of row `r` of one device's activations with column `n` of the weights. -/
def yAt (X : FVec Ideal Cert.KernelIdeal.S256x4096 .f32) (W : FVec Ideal Cert.KernelIdeal.S4096x2048 .f32) (a b : FVec Ideal Cert.KernelIdeal.S1 .f32)
    (r : Fin 256) (n : Fin 2048) : EReal :=
  (∑ k : Fin 4096, X (ix2 r k) * W (ix2 k n)) * (a (ix1 0) * b (ix1 0))

section Kernel
open Cert.KernelIdeal Cert.KernelIdeal.Gen
variable (m : (ℓ : Loc nD τ sig) → Buf (Elt Ideal) ℓ) (ρ : Dev nD → PrngReg)

/-- The same of device `c`'s arguments. -/
def yDev (c : Dev nD) (r : Fin 256) (n : Fin 2048) : EReal :=
  yAt (m ((c : Thread nD τ).loc main_arg0)) (m ((c : Thread nD τ).loc main_arg1)) (m ((c : Thread nD τ).loc main_arg2)) (m ((c : Thread nD τ).loc main_arg3)) r n

/-- A chunk's activation at an index, from what the kernel's operands are at an index. -/
theorem chunk_at (s : Ideal .f32) (Xb : Vec Ideal S256x4096 .bf16) (Wc : Vec Ideal S1x4096x512 .f32) (X : FVec Ideal S256x4096 .f32) (W : FVec Ideal S4096x2048 .f32)
    (a b : FVec Ideal S1 .f32) (q : ℕ) (hq : q < 4) (hs : s = FloatOps.mulf (a (ix1 0)) (b (ix1 0))) (hX : ∀ (r : Fin 256) (k : Fin 4096), Xb (ix2 r k) = X (ix2 r k))
    (hW : ∀ (k : Fin 4096) (l : Fin 512), Wc (ix3 0 k l) = W (ix2 k ⟨512 * q + l.val, by omega⟩)) (r : Fin 256) (l : Fin 512) :
    k0_pay3 s Xb Wc (ix2 r l) = yAt X W a b r ⟨512 * q + l.val, by omega⟩ * Ideal.logistic (yAt X W a b r ⟨512 * q + l.val, by omega⟩) := by
  have hy : (∑ k : Fin 4096, Xb (ix2 r k) * Wc (ix3 0 k l) : EReal) * s = yAt X W a b r ⟨512 * q + l.val, by omega⟩ := by
    subst hs
    refine congrArg (fun z : EReal => z * (a (ix1 0) * b (ix1 0))) (Finset.sum_congr rfl fun k _ => ?_)
    rw [hX, hW]
  rw [pay3_at, hy]

/-- A chunk's activation on device `c`, at an index. -/
theorem actv_at (c : Dev nD) (q : ℕ) (hq : q < 4) (r : Fin 256) (l : Fin 512) :
    actv m ρ c q (ix2 r l) = yDev m c r ⟨512 * q + l.val, by omega⟩ * Ideal.logistic (yDev m c r ⟨512 * q + l.val, by omega⟩) := by
  have hk : (ck q).val = q := Nat.mod_eq_of_lt hq
  refine chunk_at (sc m ρ c) (xb m c) (wval m c (ck q)) _ _ _ _ q hq ?_ (fun r k => pay2_at (xv m c) r k) (fun k l => ?_) r l
  · unfold sc
    rw [s0v_at, s1v_at]
    rfl
  · rw [wval_at]
    exact congrArg (fun z => (m ((c : Thread nD τ).loc main_arg1) : S4096x2048.Idx → EReal) (ix2 k z)) (Fin.ext (by show 512 * (ck q).val + l.val = 512 * q + l.val; rw [hk]))

/-- The tile device `c` computes for device `t`, at an index: SiLU of the scaled product, as a quotient. -/
theorem tileF_at (c t : Dev nD) (r : Fin 256) (j : Fin 128) :
    tileF m ρ c t (ix2 r j)
      = Ideal.div (yDev m c r ⟨128 * t.val + j.val, by have : t.val < 16 := t.isLt; omega⟩)
          (1 + Ideal.exp (-yDev m c r ⟨128 * t.val + j.val, by have : t.val < 16 := t.isLt; omega⟩)) := by
  have ht : t.val < 16 := t.isLt
  unfold tileF
  rw [sub4_at _ (Nat.mod_lt _ (by decide)), actv_at m ρ c (t.val / 4) (by omega), silu_eq]
  have e : (⟨512 * (t.val / 4) + (128 * (t.val % 4) + j.val), by omega⟩ : Fin 2048) = ⟨128 * t.val + j.val, by omega⟩ :=
    Fin.ext (by show 512 * (t.val / 4) + (128 * (t.val % 4) + j.val) = 128 * t.val + j.val; omega)
  show Ideal.div (yDev m c r ⟨512 * (t.val / 4) + (128 * (t.val % 4) + j.val), _⟩) (1 + Ideal.exp (-yDev m c r ⟨512 * (t.val / 4) + (128 * (t.val % 4) + j.val), _⟩)) = _
  rw [e]

/-- Row block `s` of device `c`'s result, sent or kept, is the tile device `s` computed for it. -/
theorem outB_at (c s : Dev nD) (r : Fin 256) (j : Fin 128) : outB m ρ c s (ix2 r j) = tileF m ρ s c (ix2 r j) := by
  unfold outB
  split
  · next h => rw [h]
  · exact unpack_pack _ r j

/-- Device `c`'s result at a row and a column. -/
theorem outFull_at (c : Dev nD) (R : Fin 4096) (j : Fin 128) :
    outFull m ρ c (ix2 R j) = tileF m ρ ⟨R.val / 256, by show _ < 16; omega⟩ c (ix2 ⟨R.val % 256, Nat.mod_lt _ (by decide)⟩ j) := by
  have e : outIdx (ix2 R j) = ix2 (⟨R.val % 256, Nat.mod_lt _ (by decide)⟩ : Fin 256) j := by
    funext a
    match a with
    | ⟨0, _⟩ => rfl
    | ⟨1, _⟩ => rfl
  unfold outFull
  rw [e]
  exact outB_at m ρ c _ _ j

end Kernel

section Reference
open Cert.ReferenceIdeal Cert.ReferenceIdeal.Gen

/-- The reference's result, as its run leaves it. -/
def refOut (X : FVec Ideal S4096x4096 .f32) (W : FVec Ideal S4096x2048 .f32) (a b : FVec Ideal S1 .f32) : FVec Ideal S4096x2048 .f32 :=
  Host.divf (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))))))))

/-- The reference's result at an index. -/
theorem refOut_at (X : FVec Ideal S4096x4096 .f32) (W : FVec Ideal S4096x2048 .f32) (a b : FVec Ideal S1 .f32) (R : Fin 4096) (n : Fin 2048)
    (y : EReal) (hy : y = (∑ k : Fin 4096, X (ix2 R k) * W (ix2 k n)) * (a (ix1 0) * b (ix1 0))) :
    refOut X W a b (ix2 R n)
      = Ideal.div y (1 + Ideal.exp (-(min (Ideal.ofBits .f32 0x42700000#32) (max (Ideal.ofBits .f32 0xC2700000#32) y)))) := by
  subst hy
  simp only [refOut, id_eq]
  pointwise

end Reference

/-- What the precondition says of one device at an index: the scaled product is within the clip's bound. -/
theorem within_at (X : FVec Ideal Cert.KernelIdeal.S256x4096 .f32) (W : FVec Ideal Cert.KernelIdeal.S4096x2048 .f32) (a b : FVec Ideal Cert.KernelIdeal.S1 .f32)
    (h : Cert.Pre_within_clip_KernelIdeal.fn (F := Ideal) X W a b = fun _ => 1#1) (r : Fin 256) (n : Fin 2048) :
    max (yAt X W a b r n) (-yAt X W a b r n) ≤ Ideal.ofBits .f32 0x42700000#32 := by
  have h0 := congrFun h (fun i => i.elim0)
  unfold Cert.Pre_within_clip_KernelIdeal.fn at h0
  have h1 := Host.reduce_andi_all _ _ _ _ _ h0 (ix2 r n)
  have h2 : BitVec.ofBool (decide (max (yAt X W a b r n) (-yAt X W a b r n) ≤ Ideal.ofBits .f32 0x42700000#32)) = 1#1 := by
    pointwise at h1
    exact h1
  by_contra hn
  rw [decide_eq_false hn] at h2
  exact absurd h2 (by decide)

/-! ## The two results are one -/

section Meet
open Cert.KernelIdeal Cert.KernelIdeal.Gen
variable (m : (ℓ : Loc nD τ sig) → Buf (Elt Ideal) ℓ) (ρ : Dev nD → PrngReg)

/-- Where every device's activations are its rows of one array and the other arguments are copies, and the precondition
    holds on every device, the result of device `c` is its columns of the reference's result. -/
theorem result_eq (X : FVec Ideal Cert.ReferenceIdeal.S4096x4096 .f32) (W : FVec Ideal Cert.ReferenceIdeal.S4096x2048 .f32) (a b : FVec Ideal Cert.ReferenceIdeal.S1 .f32)
    (hX : ∀ c : Dev nD, (m ((c : Thread nD τ).loc main_arg0) : S256x4096.Idx → EReal) = Layout.block ⟨2, ![256, 4096]⟩ ⟨2, ![4096, 4096]⟩ 0 16 c X)
    (hW : ∀ c : Dev nD, (m ((c : Thread nD τ).loc main_arg1) : S4096x2048.Idx → EReal) = W)
    (ha : ∀ c : Dev nD, (m ((c : Thread nD τ).loc main_arg2) : S1.Idx → EReal) = a)
    (hb : ∀ c : Dev nD, (m ((c : Thread nD τ).loc main_arg3) : S1.Idx → EReal) = b)
    (hpre : ∀ c : Dev nD, Cert.Pre_within_clip_KernelIdeal.fn (F := Ideal) (m ((c : Thread nD τ).loc main_arg0)) (m ((c : Thread nD τ).loc main_arg1))
      (m ((c : Thread nD τ).loc main_arg2)) (m ((c : Thread nD τ).loc main_arg3)) = fun _ => 1#1)
    (c : Dev nD) :
    (outFull m ρ c : S4096x128.Idx → EReal) = Layout.block ⟨2, ![4096, 128]⟩ ⟨2, ![4096, 2048]⟩ 1 16 c (refOut X W a b) := by
  have hc : c.val < 16 := c.isLt
  funext i
  obtain ⟨R, j, rfl⟩ : ∃ (R : Fin 4096) (j : Fin 128), i = ix2 R j := ⟨i 0, i 1, eq_ix2 i⟩
  have hR := R.isLt
  have hj := j.isLt
  have ei : ∀ h : Layout.Tiles ⟨2, ![4096, 128]⟩ ⟨2, ![4096, 2048]⟩ 1 16, h.idx c (ix2 R j) = ix2 R (⟨128 * c.val + j.val, by omega⟩ : Fin 2048) := by
    intro h
    funext d
    match d with
    | ⟨0, _⟩ => exact Fin.ext (Layout.idx_cols_val h c (ix2 R j)).1
    | ⟨1, _⟩ => exact Fin.ext ((Layout.idx_cols_val h c (ix2 R j)).2.trans (by show c.val * 128 + j.val = 128 * c.val + j.val; omega))
  rw [Layout.block_apply, ei]
  refine (outFull_at m ρ c R j).trans ?_
  have hs : R.val / 256 < nD := by show _ < 16; omega
  have hr : R.val % 256 < 256 := Nat.mod_lt _ (by decide)
  have er : ∀ (h : Layout.Tiles ⟨2, ![256, 4096]⟩ ⟨2, ![4096, 4096]⟩ 0 16) (k : Fin 4096),
      h.idx (⟨R.val / 256, hs⟩ : Fin 16) (ix2 (⟨R.val % 256, hr⟩ : Fin 256) k) = ix2 R k := by
    intro h k
    funext d
    match d with
    | ⟨0, _⟩ => exact Fin.ext ((Layout.idx_rows_val h _ _).1.trans (by show R.val / 256 * 256 + R.val % 256 = R.val; omega))
    | ⟨1, _⟩ => exact Fin.ext (Layout.idx_rows_val h _ _).2
  rw [tileF_at]
  have hy : yDev m ⟨R.val / 256, hs⟩ ⟨R.val % 256, hr⟩ ⟨128 * c.val + j.val, by omega⟩
      = (∑ k : Fin 4096, X (ix2 R k) * W (ix2 k (⟨128 * c.val + j.val, by omega⟩ : Fin 2048))) * (a (ix1 0) * b (ix1 0)) := by
    unfold yDev
    rw [hX, hW, ha, hb]
    unfold yAt
    refine congrArg (fun z : EReal => z * (a (ix1 0) * b (ix1 0))) (Finset.sum_congr rfl fun k _ => ?_)
    rw [Layout.block_apply, er]
  have hw := within_at _ _ _ _ (hpre ⟨R.val / 256, hs⟩) ⟨R.val % 256, hr⟩ ⟨128 * c.val + j.val, by omega⟩
  rw [refOut_at X W a b R _ _ hy, bounds_opp, clip_id (y := yDev m ⟨R.val / 256, hs⟩ ⟨R.val % 256, hr⟩ ⟨128 * c.val + j.val, by omega⟩) hw]

end Meet

/-- The value: under the precondition the kernel's result on device `c` is the reference's columns of device `c`. -/
theorem value : Cert.algebraic_KernelIdeal_ReferenceIdeal_pre_within_clip_KernelIdeal := by
  intro m ρ m' ρ' hpre hargs
  refine ⟨refOut (m' ((((0 : Dev Cert.ReferenceIdeal.nD).tc : Thread Cert.ReferenceIdeal.nD Cert.ReferenceIdeal.τ)).loc Cert.ReferenceIdeal.main_arg0))
    (m' ((((0 : Dev Cert.ReferenceIdeal.nD).tc : Thread Cert.ReferenceIdeal.nD Cert.ReferenceIdeal.τ)).loc Cert.ReferenceIdeal.main_arg1))
    (m' ((((0 : Dev Cert.ReferenceIdeal.nD).tc : Thread Cert.ReferenceIdeal.nD Cert.ReferenceIdeal.τ)).loc Cert.ReferenceIdeal.main_arg2))
    (m' ((((0 : Dev Cert.ReferenceIdeal.nD).tc : Thread Cert.ReferenceIdeal.nD Cert.ReferenceIdeal.τ)).loc Cert.ReferenceIdeal.main_arg3)), ?_, ?_⟩
  · refine (θ_run Cert.KernelIdeal.defs _ _).mono (fun r h => ?_) (run_main (F := Ideal) m ρ)
    intro c
    refine ⟨?_, (h.1 c).2.1, (h.1 c).2.2, ((h.1 c).1 (0 : Fin 3)).trans (finalA_0 m ρ c), ((h.1 c).1 (1 : Fin 3)).trans (finalA_1 m ρ c)⟩
    exact (((h.1 c).1 (2 : Fin 3)).trans (finalA_2 m ρ c)).trans
      (result_eq m ρ _ _ _ _ (fun c => (hargs c).1) (fun c => (hargs c).2.1) (fun c => (hargs c).2.2.1) (fun c => (hargs c).2.2.2) hpre c)
  · exact (θ_run Cert.ReferenceIdeal.defs _ _).mono (fun r h => h 0) (Cert.ReferenceIdeal.Value.run (F := Ideal) m' ρ')

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_within_clip_KernelIdeal
public import proofs.«01_k».proof.Proof.Gen.Pre_within_clip_ReferenceIdeal
public import proofs.«01_k».proof.Proof.Gen.ReferenceIdeal.Run
public import proofs.«01_k».proof.Proof.Value

@[expose] public section

noncomputable section

namespace Cert.Proof

open Idealize.ShloMosaic Idealize.SL.Sem

/-- All that is claimed: the frames of the kernel as printed, of its reading over the extended reals and of the
reference, the rewrites between the first two, of which there is none, and that kernel and reference compute the
same array. -/
theorem claim : Cert.Claim := ⟨Cert.Kernel.Gen.facts, Cert.KernelIdeal.Gen.facts, Cert.ReferenceIdeal.Gen.facts,
  Cert.Pre_within_clip_KernelIdeal.Gen.facts, Cert.Pre_within_clip_ReferenceIdeal.Gen.facts,
  Cert.KProof.frame_kernel, Cert.KProof.frame_kernel_ideal, Cert.KProof.frame_kernel_ideal_within,
  Cert.KProof.frame_reference, Cert.KProof.frame_reference_within, trivial, Cert.KProof.value⟩

end Cert.Proof

end
